-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_are_classes [hPre_ids_are_classes : Cert.Pre_ids_are_classes.Facts] (m : (ℓ : Loc Cert.KernelIdeal.nD Cert.KernelIdeal.τ Cert.KernelIdeal.sig) → Buf (Elt Ideal) ℓ) : Prop :=
  ∀ c : Dev Cert.KernelIdeal.nD,
    (Cert.Pre_ids_are_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_are_classes [hPre_ids_are_classes : Cert.Pre_ids_are_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_are_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ids_are_classes [hKernelIdeal : Cert.KernelIdeal.Facts] [hPre_ids_are_classes : Cert.Pre_ids_are_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_are_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_are_classes [hReferenceIdeal : Cert.ReferenceIdeal.Facts] [hPre_ids_are_classes : Cert.Pre_ids_are_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_are_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ids_are_classes [hKernelIdeal : Cert.KernelIdeal.Facts] [hReferenceIdeal : Cert.ReferenceIdeal.Facts] [hPre_ids_are_classes : Cert.Pre_ids_are_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_are_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v220) = v1 c
          ∧ r.2.mem ((c.tc : Thread Cert.ReferenceIdeal.nD Cert.ReferenceIdeal.τ).loc Cert.ReferenceIdeal.main_v224) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_are_classes : Cert.Pre_ids_are_classes.Facts),
    quiescent_Kernel (hKernel := hKernel)
    ∧ quiescent_KernelIdeal (hKernelIdeal := hKernelIdeal)
    ∧ quiescent_KernelIdeal_pre_ids_are_classes (hKernelIdeal := hKernelIdeal) (hPre_ids_are_classes := hPre_ids_are_classes)
    ∧ quiescent_ReferenceIdeal (hReferenceIdeal := hReferenceIdeal)
    ∧ quiescent_ReferenceIdeal_pre_ids_are_classes (hReferenceIdeal := hReferenceIdeal) (hPre_ids_are_classes := hPre_ids_are_classes)
    ∧ preserves_Kernel_KernelIdeal
    ∧ algebraic_KernelIdeal_ReferenceIdeal_pre_ids_are_classes (hKernelIdeal := hKernelIdeal) (hReferenceIdeal := hReferenceIdeal) (hPre_ids_are_classes := hPre_ids_are_classes)
-- ==== Pre_ids_are_classes.lean ====
abbrev S4x100000x80 : Shape := ⟨3, ![4, 100000, 80]⟩
abbrev S4x100000x4 : Shape := ⟨3, ![4, 100000, 4]⟩
abbrev S1x100000x4 : Shape := ⟨3, ![1, 100000, 4]⟩
abbrev S4x1 : Shape := ⟨2, ![4, 1]⟩
abbrev S4x32x7 : Shape := ⟨3, ![4, 32, 7]⟩
abbrev S4x32x3 : Shape := ⟨3, ![4, 32, 3]⟩
abbrev S_ : Shape := ⟨0, ![]⟩

class Facts : Prop where
  slices_S4x32x7_S4x32x3_0_0_4 : S4x32x7.Slices ![0, 0, 4] S4x32x3
  bcast_S_S4x32x3 : S_.BroadcastsInDim S4x32x3 (![] : Fin 0 → Fin S4x32x3.rank)

variable [Facts]

def fn {F : FTy → Type} [FloatOps F] (main_arg0 : FVec F S4x100000x80 .f32) (main_arg1 : FVec F S4x100000x4 .f32) (main_arg2 : FVec F S1x100000x4 .f32) (main_arg3 : FVec F S4x1 .f32) (main_arg4 : FVec F S4x32x7 .f32) : IVec S4x32x3 1 :=
  let main_v0 : FVec F S4x32x3 .f32 := (extractStridedSlice S4x32x3 ![0, 0, 4] · slices_S4x32x7_S4x32x3_0_0_4) main_arg4
  let main_v1 : IVec S4x32x3 32 := fptosi 32 main_v0
  let main_v2 : FVec F S4x32x3 .f32 := sitofp .f32 main_v1
  let main_v3 : IVec S4x32x3 1 := cmpf .oeq main_v0 main_v2
  let main_cst : FVec F S_ .f32 := constant S_ .f32 0x00000000#32
  let main_v4 : FVec F S4x32x3 .f32 := broadcastInDim S4x32x3 ![] bcast_S_S4x32x3 main_cst
  let main_v5 : IVec S4x32x3 1 := cmpf .oge main_v0 main_v4
  let main_v6 : IVec S4x32x3 1 := andi main_v3 main_v5
  let main_cst_0 : FVec F S_ .f32 := constant S_ .f32 0x429E0000#32
  let main_v7 : FVec F S4x32x3 .f32 := broadcastInDim S4x32x3 ![] bcast_S_S4x32x3 main_cst_0
  let main_v8 : IVec S4x32x3 1 := cmpf .ole main_v0 main_v7
  let main_v9 : IVec S4x32x3 1 := andi main_v6 main_v8
  main_v9
-- ==== Kernel.lean ====
abbrev S4x100000x80 : Shape := ⟨3, ![4, 100000, 80]⟩
abbrev S4x100000x4 : Shape := ⟨3, ![4, 100000, 4]⟩
abbrev S1x100000x4 : Shape := ⟨3, ![1, 100000, 4]⟩
abbrev S4x1 : Shape := ⟨2, ![4, 1]⟩
abbrev S4x32x7 : Shape := ⟨3, ![4, 32, 7]⟩
abbrev S100000x4 : Shape := ⟨2, ![100000, 4]⟩
abbrev S_ : Shape := ⟨0, ![]⟩
abbrev S102400x4 : Shape := ⟨2, ![102400, 4]⟩
abbrev S4x102400 : Shape := ⟨2, ![4, 102400]⟩
abbrev S4x4x200x128 : Shape := ⟨4, ![4, 4, 200, 128]⟩
abbrev S4x102400x4 : Shape := ⟨3, ![4, 102400, 4]⟩
abbrev S4x4x102400 : Shape := ⟨3, ![4, 4, 102400]⟩
abbrev S4x4x4x200x128 : Shape := ⟨5, ![4, 4, 4, 200, 128]⟩
abbrev S4x1x1 : Shape := ⟨3, ![4, 1, 1]⟩
abbrev S4x32x1 : Shape := ⟨3, ![4, 32, 1]⟩
abbrev S4x32x8 : Shape := ⟨3, ![4, 32, 8]⟩
abbrev S4x2x4x200x128 : Shape := ⟨5, ![4, 2, 4, 200, 128]⟩
abbrev S4x8x128 : Shape := ⟨3, ![4, 8, 128]⟩
abbrev S4x1x200x128 : Shape := ⟨4, ![4, 1, 200, 128]⟩
abbrev S1x4x1x200x128 : Shape := ⟨5, ![1, 4, 1, 200, 128]⟩
abbrev S1x2x1x200x128 : Shape := ⟨5, ![1, 2, 1, 200, 128]⟩
abbrev S1x8x128 : Shape := ⟨3, ![1, 8, 128]⟩
abbrev S1x1x200x128 : Shape := ⟨4, ![1, 1, 200, 128]⟩
abbrev S200x128 : Shape := ⟨2, ![200, 128]⟩
abbrev S1x1x1 : Shape := ⟨3, ![1, 1, 1]⟩
abbrev S1x200x128 : Shape := ⟨3, ![1, 200, 128]⟩
abbrev S1 : Shape := ⟨1, ![1]⟩
abbrev S1x1x1x200x128 : Shape := ⟨5, ![1, 1, 1, 200, 128]⟩
abbrev S1x128 : Shape := ⟨2, ![1, 128]⟩
abbrev S6x128 : Shape := ⟨2, ![6, 128]⟩
abbrev S8x128 : Shape := ⟨2, ![8, 128]⟩
abbrev S2x128 : Shape := ⟨2, ![2, 128]⟩
abbrev S5x128 : Shape := ⟨2, ![5, 128]⟩
abbrev S4x2x102400 : Shape := ⟨3, ![4, 2, 102400]⟩
abbrev S4x102400x2 : Shape := ⟨3, ![4, 102400, 2]⟩
abbrev S128 : Shape := ⟨1, ![128]⟩
abbrev S1x10000x80 : Shape := ⟨3, ![1, 10000, 80]⟩
abbrev S1x10000x2 : Shape := ⟨3, ![1, 10000, 2]⟩
abbrev S1x80 : Shape := ⟨2, ![1, 80]⟩
abbrev S10000x2 : Shape := ⟨2, ![10000, 2]⟩
abbrev S10000x1 : Shape := ⟨2, ![10000, 1]⟩
abbrev S10000x80 : Shape := ⟨2, ![10000, 80]⟩
abbrev S7x128 : Shape := ⟨2, ![7, 128]⟩
abbrev S4 : Shape := ⟨1, ![4]⟩

abbrev nBuf : Space → Nat
  | .hbm => 70
  | .vmem => 15
  | .smem => 1
  | _ => 0

abbrev bufTy : (tb : Table) → Fin (tcTables nBuf tb) → BufTy
  | .hbm, ⟨0, _⟩ => ⟨S4x100000x80, .f32⟩
  | .hbm, ⟨1, _⟩ => ⟨S4x100000x4, .f32⟩
  | .hbm, ⟨2, _⟩ => ⟨S1x100000x4, .f32⟩
  | .hbm, ⟨3, _⟩ => ⟨S4x1, .f32⟩
  | .hbm, ⟨4, _⟩ => ⟨S4x32x7, .f32⟩
  | .hbm, ⟨5, _⟩ => ⟨S100000x4, .f32⟩
  | .hbm, ⟨6, _⟩ => ⟨S_, .i32⟩
  | .hbm, ⟨7, _⟩ => ⟨S_, .f32⟩
  | .hbm, ⟨8, _⟩ => ⟨S102400x4, .f32⟩
  | .hbm, ⟨9, _⟩ => ⟨S4x102400, .f32⟩
  | .hbm, ⟨10, _⟩ => ⟨S4x4x200x128, .f32⟩
  | .hbm, ⟨11, _⟩ => ⟨S_, .i32⟩
  | .hbm, ⟨12, _⟩ => ⟨S_, .f32⟩
  | .hbm, ⟨13, _⟩ => ⟨S4x102400x4, .f32⟩
  | .hbm, ⟨14, _⟩ => ⟨S4x4x102400, .f32⟩
  | .hbm, ⟨15, _⟩ => ⟨S4x4x4x200x128, .f32⟩
  | .hbm, ⟨16, _⟩ => ⟨S4x1x1, .f32⟩
  | .hbm, ⟨17, _⟩ => ⟨S4x32x1, .f32⟩
  | .hbm, ⟨18, _⟩ => ⟨S4x32x8, .f32⟩
  | .hbm, ⟨19, _⟩ => ⟨S4x2x4x200x128, .f32⟩
  | .hbm, ⟨20, _⟩ => ⟨S4x8x128, .f32⟩
  | .hbm, ⟨21, _⟩ => ⟨S4x2x102400, .f32⟩
  | .hbm, ⟨22, _⟩ => ⟨S4x102400x2, .f32⟩
  | .hbm, ⟨23, _⟩ => ⟨S128, .f32⟩
  | .hbm, ⟨24, _⟩ => ⟨S1x128, .f32⟩
  | .hbm, ⟨25, _⟩ => ⟨S4x8x128, .f32⟩
  | .hbm, ⟨26, _⟩ => ⟨S4x1x1, .f32⟩
  | .hbm, ⟨27, _⟩ => ⟨S4, .f32⟩
  | .hbm, ⟨28, _⟩ => ⟨S4x1x1, .f32⟩
  | .hbm, ⟨29, _⟩ => ⟨S4, .f32⟩
  | .hbm, ⟨30, _⟩ => ⟨S4x1x1, .f32⟩
  | .hbm, ⟨31, _⟩ => ⟨S4, .f32⟩
  | .hbm, ⟨32, _⟩ => ⟨S4x1x1, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S_, .f32⟩
  | .hbm, ⟨45, _⟩ => ⟨S4, .f32⟩
  | .hbm, ⟨46, _⟩ => ⟨S4, .i1⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S_, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S_, .f32⟩
  | .hbm, ⟨65, _⟩ => ⟨S_, .f32⟩
  | .hbm, ⟨66, _⟩ => ⟨S1, .f32⟩
  | .hbm, ⟨67, _⟩ => ⟨S_, .f32⟩
  | .hbm, ⟨68, _⟩ => ⟨S1, .f32⟩
  | .hbm, ⟨69, _⟩ => ⟨S1, .f32⟩
  | .local _ .vmem, ⟨0, _⟩ => ⟨S4x1x200x128, .f32⟩
  | .local _ .vmem, ⟨1, _⟩ => ⟨S4x1x200x128, .f32⟩
  | .local _ .vmem, ⟨2, _⟩ => ⟨S1x4x1x200x128, .f32⟩
  | .local _ .vmem, ⟨3, _⟩ => ⟨S1x4x1x200x128, .f32⟩
  | .local _ .vmem, ⟨4, _⟩ => ⟨S1x2x1x200x128, .f32⟩
  | .local _ .vmem, ⟨5, _⟩ => ⟨S1x2x1x200x128, .f32⟩
  | .local _ .vmem, ⟨6, _⟩ => ⟨S1x8x128, .f32⟩
  | .local _ .vmem, ⟨7, _⟩ => ⟨S1x8x128, .f32⟩
  | .local _ .vmem, ⟨8, _⟩ => ⟨S1x128, .f32⟩
  | .local _ .vmem, ⟨9, _⟩ => ⟨S1x10000x80, .f32⟩
  | .local _ .vmem, ⟨10, _⟩ => ⟨S1x10000x80, .f32⟩
  | .local _ .vmem, ⟨11, _⟩ => ⟨S1x10000x2, .f32⟩
  | .local _ .vmem, ⟨12, _⟩ => ⟨S1x10000x2, .f32⟩
  | .local _ .vmem, ⟨13, _⟩ => ⟨S1x8x128, .f32⟩
  | .local _ .vmem, ⟨14, _⟩ => ⟨S1x8x128, .f32⟩
  | .local _ .smem, ⟨0, _⟩ => ⟨S4x32x8, .f32⟩
  | _, _ => ⟨S4x100000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg0 : BitVec 32 := BitVec.ofNat 32 (i 0).val
  let v25 : Index := Scalar.indexCast arg0
  let c0_21 : Index := 0#32
  let c0_22 : Index := 0#32
  ![v25.toNat, 0, 0]
def k0_off2 (i : grid0.Coords) : Fin 3 → Nat :=
  let arg0 : BitVec 32 := BitVec.ofNat 32 (i 0).val
  let v27 : Index := Scalar.indexCast arg0
  let c0_23 : Index := 0#32
  let c1_24 : Index := 1#32
  ![v27.toNat, 0, 1]
def k0_off3 (i : grid0.Coords) : Fin 3 → Nat :=
  let arg0 : BitVec 32 := BitVec.ofNat 32 (i 0).val
  let v29 : Index := Scalar.indexCast arg0
  let c0_25 : Index := 0#32
  let c2_26 : Index := 2#32
  ![v29.toNat, 0, 2]
def k0_off4 (i : grid0.Coords) : Fin 3 → Nat :=
  let arg0 : BitVec 32 := BitVec.ofNat 32 (i 0).val
  let v31 : Index := Scalar.indexCast arg0
  let c0_27 : Index := 0#32
  let c3_28 : Index := 3#32
  ![v31.toNat, 0, 3]
def k0_off5 (i : grid0.Coords) : Fin 3 → Nat :=
  let arg0 : BitVec 32 := BitVec.ofNat 32 (i 0).val
  let v67 : Index := Scalar.indexCast arg0
  let c0_32 : Index := 0#32
  let c4 : Index := 4#32
  ![v67.toNat, 0, 4]
def k0_off6 (i : grid0.Coords) : Fin 3 → Nat :=
  let arg0 : BitVec 32 := BitVec.ofNat 32 (i 0).val
  let v71 : Index := Scalar.indexCast arg0
  let c0_33 : Index := 0#32
  let c5 : Index := 5#32
  ![v71.toNat, 0, 5]
def k0_off7 (i : grid0.Coords) : Fin 3 → Nat :=
  let arg0 : BitVec 32 := BitVec.ofNat 32 (i 0).val
  let v75 : Index := Scalar.indexCast arg0
  let c0_34 : Index := 0#32
  let c6 : Index := 6#32
  ![v75.toNat, 0, 6]
def k0_off8 (i : grid0.Coords) : Fin 3 → Nat :=
  let arg0 : BitVec 32 := BitVec.ofNat 32 (i 0).val
  let v79 : Index := Scalar.indexCast arg0
  let c1_35 : Index := 1#32
  let c0_36 : Index := 0#32
  ![v79.toNat, 1, 0]
def k0_off9 (i : grid0.Coords) : Fin 3 → Nat :=
  let arg0 : BitVec 32 := BitVec.ofNat 32 (i 0).val
  let v81 : Index := Scalar.indexCast arg0
  let c1_37 : Index := 1#32
  let c1_38 : Index := 1#32
  ![v81.toNat, 1, 1]
def k0_off10 (i : grid0.Coords) : Fin 3 → Nat :=
  let arg0 : BitVec 32 := BitVec.ofNat 32 (i 0).val
  let v83 : Index := Scalar.indexCast arg0
  let c1_39 : Index := 1#32
  let c2_40 : Index := 2#32
  ![v83.toNat, 1, 2]
def k0_off11 (i : grid0.Coords) : Fin 3 → Nat :=
  let arg0 : BitVec 32 := BitVec.ofNat 32 (i 0).val
  let v85 : Index := Scalar.indexCast arg0
  let c1_41 : Index := 1#32
  let c3_42 : Index := 3#32
  ![v85.toNat, 1, 3]
def k0_off12 (i : grid0.Coords) : Fin 3 → Nat :=
  let arg0 : BitVec 32 := BitVec.ofNat 32 (i 0).val
  let v121 : Index := Scalar.indexCast arg0
  let c1_46 : Index := 1#32
  let c4_47 : Index := 4#32
  ![v121.toNat, 1, 4]
def k0_off13 (i : grid0.Coords) : Fin 3 → Nat :=
  let arg0 : BitVec 32 := BitVec.ofNat 32 (i 0).val
  let v125 : Index := Scalar.indexCast arg0
  let c1_48 : Index := 1#32
  let c5_49 : Index := 5#32
  ![v125.toNat, 1, 5]
def k0_off14 (i : grid0.Coords) : Fin 3 → Nat :=
  let arg0 : BitVec 32 := BitVec.ofNat 32 (i 0).val
  let v129 : Index := Scalar.indexCast arg0
  let c1_50 : Index := 1#32
  let c6_51 : Index := 6#32
  ![v129.toNat, 1, 6]
def k0_off15 (i : grid0.Coords) : Fin 3 → Nat :=
  let arg0 : BitVec 32 := BitVec.ofNat 32 (i 0).val
  let v133 : Index := Scalar.indexCast arg0
  let c2_52 : Index := 2#32
  let c0_53 : Index := 0#32
  ![v133.toNat, 2, 0]
def k0_off16 (i : grid0.Coords) : Fin 3 → Nat :=
  let arg0 : BitVec 32 := BitVec.ofNat 32 (i 0).val
  let v135 : Index := Scalar.indexCast arg0
  let c2_54 : Index := 2#32
  let c1_55 : Index := 1#32
  ![v135.toNat, 2, 1]
def k0_off17 (i : grid0.Coords) : Fin 3 → Nat :=
  let arg0 : BitVec 32 := BitVec.ofNat 32 (i 0).val
  let v137 : Index := Scalar.indexCast arg0
  let c2_56 : Index := 2#32
  let c2_57 : Index := 2#32
  ![v137.toNat, 2, 2]
def k0_off18 (i : grid0.Coords) : Fin 3 → Nat :=
  let arg0 : BitVec 32 := BitVec.ofNat 32 (i 0).val
  let v139 : Index := Scalar.indexCast arg0
  let c2_58 : Index := 2#32
  let c3_59 : Index := 3#32
  ![v139.toNat, 2, 3]
def k0_off19 (i : grid0.Coords) : Fin 3 → Nat :=
  let arg0 : BitVec 32 := BitVec.ofNat 32 (i 0).val
  let v175 : Index := Scalar.indexCast arg0
  let c2_63 : Index := 2#32
  let c4_64 : Index := 4#32
  ![v175.toNat, 2, 4]
def k0_off20 (i : grid0.Coords) : Fin 3 → Nat :=
  let arg0 : BitVec 32 := BitVec.ofNat 32 (i 0).val
  let v179 : Index := Scalar.indexCast arg0
  let c2_65 : Index := 2#32
  let c5_66 : Index := 5#32
  ![v179.toNat, 2, 5]
def k0_off21 (i : grid0.Coords) : Fin 3 → Nat :=
  let arg0 : BitVec 32 := BitVec.ofNat 32 (i 0).val
  let v183 : Index := Scalar.indexCast arg0
  let c2_67 : Index := 2#32
  let c6_68 : Index := 6#32
  ![v183.toNat, 2, 6]
def k0_off22 (i : grid0.Coords) : Fin 3 → Nat :=
  let arg0 : BitVec 32 := BitVec.ofNat 32 (i 0).val
  let v187 : Index := Scalar.indexCast arg0
  let c3_69 : Index := 3#32
  let c0_70 : Index := 0#32
  ![v187.toNat, 3, 0]
def k0_off23 (i : grid0.Coords) : Fin 3 → Nat :=
  let arg0 : BitVec 32 := BitVec.ofNat 32 (i 0).val
  let v189 : Index := Scalar.indexCast arg0
  let c3_71 : Index := 3#32
  let c1_72 : Index := 1#32
  ![v189.toNat, 3, 1]
def k0_off24 (i : grid0.Coords) : Fin 3 → Nat :=
  let arg0 : BitVec 32 := BitVec.ofNat 32 (i 0).val
  let v191 : Index := Scalar.indexCast arg0
  let c3_73 : Index := 3#32
  let c2_74 : Index := 2#32
  ![v191.toNat, 3, 2]
def k0_off25 (i : grid0.Coords) : Fin 3 → Nat :=
  let arg0 : BitVec 32 := BitVec.ofNat 32 (i 0).val
  let v193 : Index := Scalar.indexCast arg0
  let c3_75 : Index := 3#32
  let c3_76 : Index := 3#32
  ![v193.toNat, 3, 3]
def k0_off26 (i : grid0.Coords) : Fin 3 → Nat :=
  let arg0 : BitVec 32 := BitVec.ofNat 32 (i 0).val
  let v229 : Index := Scalar.indexCast arg0
  let c3_80 : Index := 3#32
  let c4_81 : Index := 4#32
  ![v229.toNat, 3, 4]
def k0_off27 (i : grid0.Coords) : Fin 3 → Nat :=
  let arg0 : BitVec 32 := BitVec.ofNat 32 (i 0).val
  let v233 : Index := Scalar.indexCast arg0
  let c3_82 : Index := 3#32
  let c5_83 : Index := 5#32
  ![v233.toNat, 3, 5]
def k0_off28 (i : grid0.Coords) : Fin 3 → Nat :=
  let arg0 : BitVec 32 := BitVec.ofNat 32 (i 0).val
  let v237 : Index := Scalar.indexCast arg0
  let c3_84 : Index := 3#32
  let c6_85 : Index := 6#32
  ![v237.toNat, 3, 6]
def k0_off29 (i : grid0.Coords) : Fin 3 → Nat :=
  let arg0 : BitVec 32 := BitVec.ofNat 32 (i 0).val
  let v241 : Index := Scalar.indexCast arg0
  let c4_86 : Index := 4#32
  let c0_87 : Index := 0#32
  ![v241.toNat, 4, 0]
def k0_off30 (i : grid0.Coords) : Fin 3 → Nat :=
  let arg0 : BitVec 32 := BitVec.ofNat 32 (i 0).val
  let v243 : Index := Scalar.indexCast arg0
  let c4_88 : Index := 4#32
  let c1_89 : Index := 1#32
  ![v243.toNat, 4, 1]
def k0_off31 (i : grid0.Coords) : Fin 3 → Nat :=
  let arg0 : BitVec 32 := BitVec.ofNat 32 (i 0).val
  let v245 : Index := Scalar.indexCast arg0
  let c4_90 : Index := 4#32
  let c2_91 : Index := 2#32
  ![v245.toNat, 4, 2]
def k0_off32 (i : grid0.Coords) : Fin 3 → Nat :=
  let arg0 : BitVec 32 := BitVec.ofNat 32 (i 0).val
  let v247 : Index := Scalar.indexCast arg0
  let c4_92 : Index := 4#32
  let c3_93 : Index := 3#32
  ![v247.toNat, 4, 3]
def k0_off33 (i : grid0.Coords) : Fin 3 → Nat :=
  let arg0 : BitVec 32 := BitVec.ofNat 32 (i 0).val
  let v283 : Index := Scalar.indexCast arg0
  let c4_97 : Index := 4#32
  let c4_98 : Index := 4#32
  ![v283.toNat, 4, 4]
def k0_off34 (i : grid0.Coords) : Fin 3 → Nat :=
  let arg0 : BitVec 32 := BitVec.ofNat 32 (i 0).val
  let v287 : Index := Scalar.indexCast arg0
  let c4_99 : Index := 4#32
  let c5_100 : Index := 5#32
  ![v287.toNat, 4, 5]
def k0_off35 (i : grid0.Coords) : Fin 3 → Nat :=
  let arg0 : BitVec 32 := BitVec.ofNat 32 (i 0).val
  let v291 : Index := Scalar.indexCast arg0
  let c4_101 : Index := 4#32
  let c6_102 : Index := 6#32
  ![v291.toNat, 4, 6]
def k0_off36 (i : grid0.Coords) : Fin 3 → Nat :=
  let arg0 : BitVec 32 := BitVec.ofNat 32 (i 0).val
  let v295 : Index := Scalar.indexCast arg0
  let c5_103 : Index := 5#32
  let c0_104 : Index := 0#32
  ![v295.toNat, 5, 0]
def k0_off37 (i : grid0.Coords) : Fin 3 → Nat :=
  let arg0 : BitVec 32 := BitVec.ofNat 32 (i 0).val
  let v297 : Index := Scalar.indexCast arg0
  let c5_105 : Index := 5#32
  let c1_106 : Index := 1#32
  ![v297.toNat, 5, 1]
def k0_off38 (i : grid0.Coords) : Fin 3 → Nat :=
  let arg0 : BitVec 32 := BitVec.ofNat 32 (i 0).val
  let v299 : Index := Scalar.indexCast arg0
  let c5_107 : Index := 5#32
  let c2_108 : Index := 2#32
  ![v299.toNat, 5, 2]
def k0_off39 (i : grid0.Coords) : Fin 3 → Nat :=
  let arg0 : BitVec 32 := BitVec.ofNat 32 (i 0).val
  let v301 : Index := Scalar.indexCast arg0
  let c5_109 : Index := 5#32
  let c3_110 : Index := 3#32
  ![v301.toNat, 5, 3]
def k0_off40 (i : grid0.Coords) : Fin 3 → Nat :=
  let arg0 : BitVec 32 := BitVec.ofNat 32 (i 0).val
  let v337 : Index := Scalar.indexCast arg0
  let c5_114 : Index := 5#32
  let c4_115 : Index := 4#32
  ![v337.toNat, 5, 4]
def k0_off41 (i : grid0.Coords) : Fin 3 → Nat :=
  let arg0 : BitVec 32 := BitVec.ofNat 32 (i 0).val
  let v341 : Index := Scalar.indexCast arg0
  let c5_116 : Index := 5#32
  let c5_117 : Index := 5#32
  ![v341.toNat, 5, 5]
def k0_off42 (i : grid0.Coords) : Fin 3 → Nat :=
  let arg0 : BitVec 32 := BitVec.ofNat 32 (i 0).val
  let v345 : Index := Scalar.indexCast arg0
  let c5_118 : Index := 5#32
  let c6_119 : Index := 6#32
  ![v345.toNat, 5, 6]
def k0_off43 (i : grid0.Coords) : Fin 3 → Nat :=
  let arg0 : BitVec 32 := BitVec.ofNat 32 (i 0).val
  let v349 : Index := Scalar.indexCast arg0
  let c6_120 : Index := 6#32
  let c0_121 : Index := 0#32
  ![v349.toNat, 6, 0]
def k0_off44 (i : grid0.Coords) : Fin 3 → Nat :=
  let arg0 : BitVec 32 := BitVec.ofNat 32 (i 0).val
  let v351 : Index := Scalar.indexCast arg0
  let c6_122 : Index := 6#32
  let c1_123 : Index := 1#32
  ![v351.toNat, 6, 1]
def k0_off45 (i : grid0.Coords) : Fin 3 → Nat :=
  let arg0 : BitVec 32 := BitVec.ofNat 32 (i 0).val
  let v353 : Index := Scalar.indexCast arg0
  let c6_124 : Index := 6#32
  let c2_125 : Index := 2#32
  ![v353.toNat, 6, 2]
def k0_off46 (i : grid0.Coords) : Fin 3 → Nat :=
  let arg0 : BitVec 32 := BitVec.ofNat 32 (i 0).val
  let v355 : Index := Scalar.indexCast arg0
  let c6_126 : Index := 6#32
  let c3_127 : Index := 3#32
  ![v355.toNat, 6, 3]
def k0_off47 (i : grid0.Coords) : Fin 3 → Nat :=
  let arg0 : BitVec 32 := BitVec.ofNat 32 (i 0).val
  let v391 : Index := Scalar.indexCast arg0
  let c6_131 : Index := 6#32
  let c4_132 : Index := 4#32
  ![v391.toNat, 6, 4]
def k0_off48 (i : grid0.Coords) : Fin 3 → Nat :=
  let arg0 : BitVec 32 := BitVec.ofNat 32 (i 0).val
  let v395 : Index := Scalar.indexCast arg0
  let c6_133 : Index := 6#32
  let c5_134 : Index := 5#32
  ![v395.toNat, 6, 5]
def k0_off49 (i : grid0.Coords) : Fin 3 → Nat :=
  let arg0 : BitVec 32 := BitVec.ofNat 32 (i 0).val
  let v399 : Index := Scalar.indexCast arg0
  let c6_135 : Index := 6#32
  let c6_136 : Index := 6#32
  ![v399.toNat, 6, 6]
def k0_off50 (i : grid0.Coords) : Fin 3 → Nat :=
  let arg0 : BitVec 32 := BitVec.ofNat 32 (i 0).val
  let v403 : Index := Scalar.indexCast arg0
  let c7 : Index := 7#32
  let c0_137 : Index := 0#32
  ![v403.toNat, 7, 0]
def k0_off51 (i : grid0.Coords) : Fin 3 → Nat :=
  let arg0 : BitVec 32 := BitVec.ofNat 32 (i 0).val
  let v405 : Index := Scalar.indexCast arg0
  let c7_138 : Index := 7#32
  let c1_139 : Index := 1#32
  ![v405.toNat, 7, 1]
def k0_off52 (i : grid0.Coords) : Fin 3 → Nat :=
  let arg0 : BitVec 32 := BitVec.ofNat 32 (i 0).val
  let v407 : Index := Scalar.indexCast arg0
  let c7_140 : Index := 7#32
  let c2_141 : Index := 2#32
  ![v407.toNat, 7, 2]
def k0_off53 (i : grid0.Coords) : Fin 3 → Nat :=
  let arg0 : BitVec 32 := BitVec.ofNat 32 (i 0).val
  let v409 : Index := Scalar.indexCast arg0
  let c7_142 : Index := 7#32
  let c3_143 : Index := 3#32
  ![v409.toNat, 7, 3]
def k0_off54 (i : grid0.Coords) : Fin 3 → Nat :=
  let arg0 : BitVec 32 := BitVec.ofNat 32 (i 0).val
  let v445 : Index := Scalar.indexCast arg0
  let c7_147 : Index := 7#32
  let c4_148 : Index := 4#32
  ![v445.toNat, 7, 4]
def k0_off55 (i : grid0.Coords) : Fin 3 → Nat :=
  let arg0 : BitVec 32 := BitVec.ofNat 32 (i 0).val
  let v449 : Index := Scalar.indexCast arg0
  let c7_149 : Index := 7#32
  let c5_150 : Index := 5#32
  ![v449.toNat, 7, 5]
def k0_off56 (i : grid0.Coords) : Fin 3 → Nat :=
  let arg0 : BitVec 32 := BitVec.ofNat 32 (i 0).val
  let v453 : Index := Scalar.indexCast arg0
  let c7_151 : Index := 7#32
  let c6_152 : Index := 6#32
  ![v453.toNat, 7, 6]
def k0_off57 (i : grid0.Coords) : Fin 3 → Nat :=
  let arg0 : BitVec 32 := BitVec.ofNat 32 (i 0).val
  let v457 : Index := Scalar.indexCast arg0
  let c8 : Index := 8#32
  let c0_153 : Index := 0#32
  ![v457.toNat, 8, 0]
def k0_off58 (i : grid0.Coords) : Fin 3 → Nat :=
  let arg0 : BitVec 32 := BitVec.ofNat 32 (i 0).val
  let v459 : Index := Scalar.indexCast arg0
  let c8_154 : Index := 8#32
  let c1_155 : Index := 1#32
  ![v459.toNat, 8, 1]
def k0_off59 (i : grid0.Coords) : Fin 3 → Nat :=
  let arg0 : BitVec 32 := BitVec.ofNat 32 (i 0).val
  let v461 : Index := Scalar.indexCast arg0
  let c8_156 : Index := 8#32
  let c2_157 : Index := 2#32
  ![v461.toNat, 8, 2]
def k0_off60 (i : grid0.Coords) : Fin 3 → Nat :=
  let arg0 : BitVec 32 := BitVec.ofNat 32 (i 0).val
  let v463 : Index := Scalar.indexCast arg0
  let c8_158 : Index := 8#32
  let c3_159 : Index := 3#32
  ![v463.toNat, 8, 3]
def k0_off61 (i : grid0.Coords) : Fin 3 → Nat :=
  let arg0 : BitVec 32 := BitVec.ofNat 32 (i 0).val
  let v499 : Index := Scalar.indexCast arg0
  let c8_163 : Index := 8#32
  let c4_164 : Index := 4#32
  ![v499.toNat, 8, 4]
def k0_off62 (i : grid0.Coords) : Fin 3 → Nat :=
  let arg0 : BitVec 32 := BitVec.ofNat 32 (i 0).val
  let v503 : Index := Scalar.indexCast arg0
  let c8_165 : Index := 8#32
  let c5_166 : Index := 5#32
  ![v503.toNat, 8, 5]
def k0_off63 (i : grid0.Coords) : Fin 3 → Nat :=
  let arg0 : BitVec 32 := BitVec.ofNat 32 (i 0).val
  let v507 : Index := Scalar.indexCast arg0
  let c8_167 : Index := 8#32
  let c6_168 : Index := 6#32
  ![v507.toNat, 8, 6]
def k0_off64 (i : grid0.Coords) : Fin 3 → Nat :=
  let arg0 : BitVec 32 := BitVec.ofNat 32 (i 0).val
  let v511 : Index := Scalar.indexCast arg0
  let c9 : Index := 9#32
  let c0_169 : Index := 0#32
  ![v511.toNat, 9, 0]
def k0_off65 (i : grid0.Coords) : Fin 3 → Nat :=
  let arg0 : BitVec 32 := BitVec.ofNat 32 (i 0).val
  let v513 : Index := Scalar.indexCast arg0
  let c9_170 : Index := 9#32
  let c1_171 : Index := 1#32
  ![v513.toNat, 9, 1]
def k0_off66 (i : grid0.Coords) : Fin 3 → Nat :=
  let arg0 : BitVec 32 := BitVec.ofNat 32 (i 0).val
  let v515 : Index := Scalar.indexCast arg0
  let c9_172 : Index := 9#32
  let c2_173 : Index := 2#32
  ![v515.toNat, 9, 2]
def k0_off67 (i : grid0.Coords) : Fin 3 → Nat :=
  let arg0 : BitVec 32 := BitVec.ofNat 32 (i 0).val
  let v517 : Index := Scalar.indexCast arg0
  let c9_174 : Index := 9#32
  let c3_175 : Index := 3#32
  ![v517.toNat, 9, 3]
def k0_off68 (i : grid0.Coords) : Fin 3 → Nat :=
  let arg0 : BitVec 32 := BitVec.ofNat 32 (i 0).val
  let v553 : Index := Scalar.indexCast arg0
  let c9_179 : Index := 9#32
  let c4_180 : Index := 4#32
  ![v553.toNat, 9, 4]
def k0_off69 (i : grid0.Coords) : Fin 3 → Nat :=
  let arg0 : BitVec 32 := BitVec.ofNat 32 (i 0).val
  let v557 : Index := Scalar.indexCast arg0
  let c9_181 : Index := 9#32
  let c5_182 : Index := 5#32
  ![v557.toNat, 9, 5]
def k0_off70 (i : grid0.Coords) : Fin 3 → Nat :=
  let arg0 : BitVec 32 := BitVec.ofNat 32 (i 0).val
  let v561 : Index := Scalar.indexCast arg0
  let c9_183 : Index := 9#32
  let c6_184 : Index := 6#32
  ![v561.toNat, 9, 6]
def k0_off71 (i : grid0.Coords) : Fin 3 → Nat :=
  let arg0 : BitVec 32 := BitVec.ofNat 32 (i 0).val
  let v565 : Index := Scalar.indexCast arg0
  let c10 : Index := 10#32
  let c0_185 : Index := 0#32
  ![v565.toNat, 10, 0]
def k0_off72 (i : grid0.Coords) : Fin 3 → Nat :=
  let arg0 : BitVec 32 := BitVec.ofNat 32 (i 0).val
  let v567 : Index := Scalar.indexCast arg0
  let c10_186 : Index := 10#32
  let c1_187 : Index := 1#32
  ![v567.toNat, 10, 1]
def k0_off73 (i : grid0.Coords) : Fin 3 → Nat :=
  let arg0 : BitVec 32 := BitVec.ofNat 32 (i 0).val
  let v569 : Index := Scalar.indexCast arg0
  let c10_188 : Index := 10#32
  let c2_189 : Index := 2#32
  ![v569.toNat, 10, 2]
def k0_off74 (i : grid0.Coords) : Fin 3 → Nat :=
  let arg0 : BitVec 32 := BitVec.ofNat 32 (i 0).val
  let v571 : Index := Scalar.indexCast arg0
  let c10_190 : Index := 10#32
  let c3_191 : Index := 3#32
  ![v571.toNat, 10, 3]
def k0_off75 (i : grid0.Coords) : Fin 3 → Nat :=
  let arg0 : BitVec 32 := BitVec.ofNat 32 (i 0).val
  let v607 : Index := Scalar.indexCast arg0
  let c10_195 : Index := 10#32
  let c4_196 : Index := 4#32
  ![v607.toNat, 10, 4]
def k0_off76 (i : grid0.Coords) : Fin 3 → Nat :=
  let arg0 : BitVec 32 := BitVec.ofNat 32 (i 0).val
  let v611 : Index := Scalar.indexCast arg0
  let c10_197 : Index := 10#32
  let c5_198 : Index := 5#32
  ![v611.toNat, 10, 5]
def k0_off77 (i : grid0.Coords) : Fin 3 → Nat :=
  let arg0 : BitVec 32 := BitVec.ofNat 32 (i 0).val
  let v615 : Index := Scalar.indexCast arg0
  let c10_199 : Index := 10#32
  let c6_200 : Index := 6#32
  ![v615.toNat, 10, 6]
def k0_off78 (i : grid0.Coords) : Fin 3 → Nat :=
  let arg0 : BitVec 32 := BitVec.ofNat 32 (i 0).val
  let v619 : Index := Scalar.indexCast arg0
  let c11 : Index := 11#32
  let c0_201 : Index := 0#32
  ![v619.toNat, 11, 0]
def k0_off79 (i : grid0.Coords) : Fin 3 → Nat :=
  let arg0 : BitVec 32 := BitVec.ofNat 32 (i 0).val
  let v621 : Index := Scalar.indexCast arg0
  let c11_202 : Index := 11#32
  let c1_203 : Index := 1#32
  ![v621.toNat, 11, 1]
def k0_off80 (i : grid0.Coords) : Fin 3 → Nat :=
  let arg0 : BitVec 32 := BitVec.ofNat 32 (i 0).val
  let v623 : Index := Scalar.indexCast arg0
  let c11_204 : Index := 11#32
  let c2_205 : Index := 2#32
  ![v623.toNat, 11, 2]
def k0_off81 (i : grid0.Coords) : Fin 3 → Nat :=
  let arg0 : BitVec 32 := BitVec.ofNat 32 (i 0).val
  let v625 : Index := Scalar.indexCast arg0
  let c11_206 : Index := 11#32
  let c3_207 : Index := 3#32
  ![v625.toNat, 11, 3]
def k0_off82 (i : grid0.Coords) : Fin 3 → Nat :=
  let arg0 : BitVec 32 := BitVec.ofNat 32 (i 0).val
  let v661 : Index := Scalar.indexCast arg0
  let c11_211 : Index := 11#32
  let c4_212 : Index := 4#32
  ![v661.toNat, 11, 4]
def k0_off83 (i : grid0.Coords) : Fin 3 → Nat :=
  let arg0 : BitVec 32 := BitVec.ofNat 32 (i 0).val
  let v665 : Index := Scalar.indexCast arg0
  let c11_213 : Index := 11#32
  let c5_214 : Index := 5#32
  ![v665.toNat, 11, 5]
def k0_off84 (i : grid0.Coords) : Fin 3 → Nat :=
  let arg0 : BitVec 32 := BitVec.ofNat 32 (i 0).val
  let v669 : Index := Scalar.indexCast arg0
  let c11_215 : Index := 11#32
  let c6_216 : Index := 6#32
  ![v669.toNat, 11, 6]
def k0_off85 (i : grid0.Coords) : Fin 3 → Nat :=
  let arg0 : BitVec 32 := BitVec.ofNat 32 (i 0).val
  let v673 : Index := Scalar.indexCast arg0
  let c12 : Index := 12#32
  let c0_217 : Index := 0#32
  ![v673.toNat, 12, 0]
def k0_off86 (i : grid0.Coords) : Fin 3 → Nat :=
  let arg0 : BitVec 32 := BitVec.ofNat 32 (i 0).val
  let v675 : Index := Scalar.indexCast arg0
  let c12_218 : Index := 12#32
  let c1_219 : Index := 1#32
  ![v675.toNat, 12, 1]
def k0_off87 (i : grid0.Coords) : Fin 3 → Nat :=
  let arg0 : BitVec 32 := BitVec.ofNat 32 (i 0).val
  let v677 : Index := Scalar.indexCast arg0
  let c12_220 : Index := 12#32
  let c2_221 : Index := 2#32
  ![v677.toNat, 12, 2]
def k0_off88 (i : grid0.Coords) : Fin 3 → Nat :=
  let arg0 : BitVec 32 := BitVec.ofNat 32 (i 0).val
  let v679 : Index := Scalar.indexCast arg0
  let c12_222 : Index := 12#32
  let c3_223 : Index := 3#32
  ![v679.toNat, 12, 3]
def k0_off89 (i : grid0.Coords) : Fin 3 → Nat :=
  let arg0 : BitVec 32 := BitVec.ofNat 32 (i 0).val
  let v715 : Index := Scalar.indexCast arg0
  let c12_227 : Index := 12#32
  let c4_228 : Index := 4#32
  ![v715.toNat, 12, 4]
def k0_off90 (i : grid0.Coords) : Fin 3 → Nat :=
  let arg0 : BitVec 32 := BitVec.ofNat 32 (i 0).val
  let v719 : Index := Scalar.indexCast arg0
  let c12_229 : Index := 12#32
  let c5_230 : Index := 5#32
  ![v719.toNat, 12, 5]
def k0_off91 (i : grid0.Coords) : Fin 3 → Nat :=
  let arg0 : BitVec 32 := BitVec.ofNat 32 (i 0).val
  let v723 : Index := Scalar.indexCast arg0
  let c12_231 : Index := 12#32
  let c6_232 : Index := 6#32
  ![v723.toNat, 12, 6]
def k0_off92 (i : grid0.Coords) : Fin 3 → Nat :=
  let arg0 : BitVec 32 := BitVec.ofNat 32 (i 0).val
  let v727 : Index := Scalar.indexCast arg0
  let c13 : Index := 13#32
  let c0_233 : Index := 0#32
  ![v727.toNat, 13, 0]
def k0_off93 (i : grid0.Coords) : Fin 3 → Nat :=
  let arg0 : BitVec 32 := BitVec.ofNat 32 (i 0).val
  let v729 : Index := Scalar.indexCast arg0
  let c13_234 : Index := 13#32
  let c1_235 : Index := 1#32
  ![v729.toNat, 13, 1]
def k0_off94 (i : grid0.Coords) : Fin 3 → Nat :=
  let arg0 : BitVec 32 := BitVec.ofNat 32 (i 0).val
  let v731 : Index := Scalar.indexCast arg0
  let c13_236 : Index := 13#32
  let c2_237 : Index := 2#32
  ![v731.toNat, 13, 2]
def k0_off95 (i : grid0.Coords) : Fin 3 → Nat :=
  let arg0 : BitVec 32 := BitVec.ofNat 32 (i 0).val
  let v733 : Index := Scalar.indexCast arg0
  let c13_238 : Index := 13#32
  let c3_239 : Index := 3#32
  ![v733.toNat, 13, 3]
def k0_off96 (i : grid0.Coords) : Fin 3 → Nat :=
  let arg0 : BitVec 32 := BitVec.ofNat 32 (i 0).val
  let v769 : Index := Scalar.indexCast arg0
  let c13_243 : Index := 13#32
  let c4_244 : Index := 4#32
  ![v769.toNat, 13, 4]
def k0_off97 (i : grid0.Coords) : Fin 3 → Nat :=
  let arg0 : BitVec 32 := BitVec.ofNat 32 (i 0).val
  let v773 : Index := Scalar.indexCast arg0
  let c13_245 : Index := 13#32
  let c5_246 : Index := 5#32
  ![v773.toNat, 13, 5]
def k0_off98 (i : grid0.Coords) : Fin 3 → Nat :=
  let arg0 : BitVec 32 := BitVec.ofNat 32 (i 0).val
  let v777 : Index := Scalar.indexCast arg0
  let c13_247 : Index := 13#32
  let c6_248 : Index := 6#32
  ![v777.toNat, 13, 6]
def k0_off99 (i : grid0.Coords) : Fin 3 → Nat :=
  let arg0 : BitVec 32 := BitVec.ofNat 32 (i 0).val
  let v781 : Index := Scalar.indexCast arg0
  let c14 : Index := 14#32
  let c0_249 : Index := 0#32
  ![v781.toNat, 14, 0]
def k0_off100 (i : grid0.Coords) : Fin 3 → Nat :=
  let arg0 : BitVec 32 := BitVec.ofNat 32 (i 0).val
  let v783 : Index := Scalar.indexCast arg0
  let c14_250 : Index := 14#32
  let c1_251 : Index := 1#32
  ![v783.toNat, 14, 1]
def k0_off101 (i : grid0.Coords) : Fin 3 → Nat :=
  let arg0 : BitVec 32 := BitVec.ofNat 32 (i 0).val
  let v785 : Index := Scalar.indexCast arg0
  let c14_252 : Index := 14#32
  let c2_253 : Index := 2#32
  ![v785.toNat, 14, 2]
def k0_off102 (i : grid0.Coords) : Fin 3 → Nat :=
  let arg0 : BitVec 32 := BitVec.ofNat 32 (i 0).val
  let v787 : Index := Scalar.indexCast arg0
  let c14_254 : Index := 14#32
  let c3_255 : Index := 3#32
  ![v787.toNat, 14, 3]
def k0_off103 (i : grid0.Coords) : Fin 3 → Nat :=
  let arg0 : BitVec 32 := BitVec.ofNat 32 (i 0).val
  let v823 : Index := Scalar.indexCast arg0
  let c14_259 : Index := 14#32
  let c4_260 : Index := 4#32
  ![v823.toNat, 14, 4]
def k0_off104 (i : grid0.Coords) : Fin 3 → Nat :=
  let arg0 : BitVec 32 := BitVec.ofNat 32 (i 0).val
  let v827 : Index := Scalar.indexCast arg0
  let c14_261 : Index := 14#32
  let c5_262 : Index := 5#32
  ![v827.toNat, 14, 5]
def k0_off105 (i : grid0.Coords) : Fin 3 → Nat :=
  let arg0 : BitVec 32 := BitVec.ofNat 32 (i 0).val
  let v831 : Index := Scalar.indexCast arg0
  let c14_263 : Index := 14#32
  let c6_264 : Index := 6#32
  ![v831.toNat, 14, 6]
def k0_off106 (i : grid0.Coords) : Fin 3 → Nat :=
  let arg0 : BitVec 32 := BitVec.ofNat 32 (i 0).val
  let v835 : Index := Scalar.indexCast arg0
  let c15 : Index := 15#32
  let c0_265 : Index := 0#32
  ![v835.toNat, 15, 0]
def k0_off107 (i : grid0.Coords) : Fin 3 → Nat :=
  let arg0 : BitVec 32 := BitVec.ofNat 32 (i 0).val
  let v837 : Index := Scalar.indexCast arg0
  let c15_266 : Index := 15#32
  let c1_267 : Index := 1#32
  ![v837.toNat, 15, 1]
def k0_off108 (i : grid0.Coords) : Fin 3 → Nat :=
  let arg0 : BitVec 32 := BitVec.ofNat 32 (i 0).val
  let v839 : Index := Scalar.indexCast arg0
  let c15_268 : Index := 15#32
  let c2_269 : Index := 2#32
  ![v839.toNat, 15, 2]
def k0_off109 (i : grid0.Coords) : Fin 3 → Nat :=
  let arg0 : BitVec 32 := BitVec.ofNat 32 (i 0).val
  let v841 : Index := Scalar.indexCast arg0
  let c15_270 : Index := 15#32
  let c3_271 : Index := 3#32
  ![v841.toNat, 15, 3]
def k0_off110 (i : grid0.Coords) : Fin 3 → Nat :=
  let arg0 : BitVec 32 := BitVec.ofNat 32 (i 0).val
  let v877 : Index := Scalar.indexCast arg0
  let c15_275 : Index := 15#32
  let c4_276 : Index := 4#32
  ![v877.toNat, 15, 4]
def k0_off111 (i : grid0.Coords) : Fin 3 → Nat :=
  let arg0 : BitVec 32 := BitVec.ofNat 32 (i 0).val
  let v881 : Index := Scalar.indexCast arg0
  let c15_277 : Index := 15#32
  let c5_278 : Index := 5#32
  ![v881.toNat, 15, 5]
def k0_off112 (i : grid0.Coords) : Fin 3 → Nat :=
  let arg0 : BitVec 32 := BitVec.ofNat 32 (i 0).val
  let v885 : Index := Scalar.indexCast arg0
  let c15_279 : Index := 15#32
  let c6_280 : Index := 6#32
  ![v885.toNat, 15, 6]
def k0_off113 (i : grid0.Coords) : Fin 3 → Nat :=
  let arg0 : BitVec 32 := BitVec.ofNat 32 (i 0).val
  let v889 : Index := Scalar.indexCast arg0
  let c16 : Index := 16#32
  let c0_281 : Index := 0#32
  ![v889.toNat, 16, 0]
def k0_off114 (i : grid0.Coords) : Fin 3 → Nat :=
  let arg0 : BitVec 32 := BitVec.ofNat 32 (i 0).val
  let v891 : Index := Scalar.indexCast arg0
  let c16_282 : Index := 16#32
  let c1_283 : Index := 1#32
  ![v891.toNat, 16, 1]
def k0_off115 (i : grid0.Coords) : Fin 3 → Nat :=
  let arg0 : BitVec 32 := BitVec.ofNat 32 (i 0).val
  let v893 : Index := Scalar.indexCast arg0
  let c16_284 : Index := 16#32
  let c2_285 : Index := 2#32
  ![v893.toNat, 16, 2]
def k0_off116 (i : grid0.Coords) : Fin 3 → Nat :=
  let arg0 : BitVec 32 := BitVec.ofNat 32 (i 0).val
  let v895 : Index := Scalar.indexCast arg0
  let c16_286 : Index := 16#32
  let c3_287 : Index := 3#32
  ![v895.toNat, 16, 3]
def k0_off117 (i : grid0.Coords) : Fin 3 → Nat :=
  let arg0 : BitVec 32 := BitVec.ofNat 32 (i 0).val
  let v931 : Index := Scalar.indexCast arg0
  let c16_291 : Index := 16#32
  let c4_292 : Index := 4#32
  ![v931.toNat, 16, 4]
def k0_off118 (i : grid0.Coords) : Fin 3 → Nat :=
  let arg0 : BitVec 32 := BitVec.ofNat 32 (i 0).val
  let v935 : Index := Scalar.indexCast arg0
  let c16_293 : Index := 16#32
  let c5_294 : Index := 5#32
  ![v935.toNat, 16, 5]
def k0_off119 (i : grid0.Coords) : Fin 3 → Nat :=
  let arg0 : BitVec 32 := BitVec.ofNat 32 (i 0).val
  let v939 : Index := Scalar.indexCast arg0
  let c16_295 : Index := 16#32
  let c6_296 : Index := 6#32
  ![v939.toNat, 16, 6]
def k0_off120 (i : grid0.Coords) : Fin 3 → Nat :=
  let arg0 : BitVec 32 := BitVec.ofNat 32 (i 0).val
  let v943 : Index := Scalar.indexCast arg0
  let c17 : Index := 17#32
  let c0_297 : Index := 0#32
  ![v943.toNat, 17, 0]
def k0_off121 (i : grid0.Coords) : Fin 3 → Nat :=
  let arg0 : BitVec 32 := BitVec.ofNat 32 (i 0).val
  let v945 : Index := Scalar.indexCast arg0
  let c17_298 : Index := 17#32
  let c1_299 : Index := 1#32
  ![v945.toNat, 17, 1]
def k0_off122 (i : grid0.Coords) : Fin 3 → Nat :=
  let arg0 : BitVec 32 := BitVec.ofNat 32 (i 0).val
  let v947 : Index := Scalar.indexCast arg0
  let c17_300 : Index := 17#32
  let c2_301 : Index := 2#32
  ![v947.toNat, 17, 2]
def k0_off123 (i : grid0.Coords) : Fin 3 → Nat :=
  let arg0 : BitVec 32 := BitVec.ofNat 32 (i 0).val
  let v949 : Index := Scalar.indexCast arg0
  let c17_302 : Index := 17#32
  let c3_303 : Index := 3#32
  ![v949.toNat, 17, 3]
def k0_off124 (i : grid0.Coords) : Fin 3 → Nat :=
  let arg0 : BitVec 32 := BitVec.ofNat 32 (i 0).val
  let v985 : Index := Scalar.indexCast arg0
  let c17_307 : Index := 17#32
  let c4_308 : Index := 4#32
  ![v985.toNat, 17, 4]
def k0_off125 (i : grid0.Coords) : Fin 3 → Nat :=
  let arg0 : BitVec 32 := BitVec.ofNat 32 (i 0).val
  let v989 : Index := Scalar.indexCast arg0
  let c17_309 : Index := 17#32
  let c5_310 : Index := 5#32
  ![v989.toNat, 17, 5]
def k0_off126 (i : grid0.Coords) : Fin 3 → Nat :=
  let arg0 : BitVec 32 := BitVec.ofNat 32 (i 0).val
  let v993 : Index := Scalar.indexCast arg0
  let c17_311 : Index := 17#32
  let c6_312 : Index := 6#32
  ![v993.toNat, 17, 6]
def k0_off127 (i : grid0.Coords) : Fin 3 → Nat :=
  let arg0 : BitVec 32 := BitVec.ofNat 32 (i 0).val
  let v997 : Index := Scalar.indexCast arg0
  let c18 : Index := 18#32
  let c0_313 : Index := 0#32
  ![v997.toNat, 18, 0]
def k0_off128 (i : grid0.Coords) : Fin 3 → Nat :=
  let arg0 : BitVec 32 := BitVec.ofNat 32 (i 0).val
  let v999 : Index := Scalar.indexCast arg0
  let c18_314 : Index := 18#32
  let c1_315 : Index := 1#32
  ![v999.toNat, 18, 1]
def k0_off129 (i : grid0.Coords) : Fin 3 → Nat :=
  let arg0 : BitVec 32 := BitVec.ofNat 32 (i 0).val
  let v1001 : Index := Scalar.indexCast arg0
  let c18_316 : Index := 18#32
  let c2_317 : Index := 2#32
  ![v1001.toNat, 18, 2]
def k0_off130 (i : grid0.Coords) : Fin 3 → Nat :=
  let arg0 : BitVec 32 := BitVec.ofNat 32 (i 0).val
  let v1003 : Index := Scalar.indexCast arg0
  let c18_318 : Index := 18#32
  let c3_319 : Index := 3#32
  ![v1003.toNat, 18, 3]
def k0_off131 (i : grid0.Coords) : Fin 3 → Nat :=
  let arg0 : BitVec 32 := BitVec.ofNat 32 (i 0).val
  let v1039 : Index := Scalar.indexCast arg0
  let c18_323 : Index := 18#32
  let c4_324 : Index := 4#32
  ![v1039.toNat, 18, 4]
def k0_off132 (i : grid0.Coords) : Fin 3 → Nat :=
  let arg0 : BitVec 32 := BitVec.ofNat 32 (i 0).val
  let v1043 : Index := Scalar.indexCast arg0
  let c18_325 : Index := 18#32
  let c5_326 : Index := 5#32
  ![v1043.toNat, 18, 5]
def k0_off133 (i : grid0.Coords) : Fin 3 → Nat :=
  let arg0 : BitVec 32 := BitVec.ofNat 32 (i 0).val
  let v1047 : Index := Scalar.indexCast arg0
  let c18_327 : Index := 18#32
  let c6_328 : Index := 6#32
  ![v1047.toNat, 18, 6]
def k0_off134 (i : grid0.Coords) : Fin 3 → Nat :=
  let arg0 : BitVec 32 := BitVec.ofNat 32 (i 0).val
  let v1051 : Index := Scalar.indexCast arg0
  let c19 : Index := 19#32
  let c0_329 : Index := 0#32
  ![v1051.toNat, 19, 0]
def k0_off135 (i : grid0.Coords) : Fin 3 → Nat :=
  let arg0 : BitVec 32 := BitVec.ofNat 32 (i 0).val
  let v1053 : Index := Scalar.indexCast arg0
  let c19_330 : Index := 19#32
  let c1_331 : Index := 1#32
  ![v1053.toNat, 19, 1]
def k0_off136 (i : grid0.Coords) : Fin 3 → Nat :=
  let arg0 : BitVec 32 := BitVec.ofNat 32 (i 0).val
  let v1055 : Index := Scalar.indexCast arg0
  let c19_332 : Index := 19#32
  let c2_333 : Index := 2#32
  ![v1055.toNat, 19, 2]
def k0_off137 (i : grid0.Coords) : Fin 3 → Nat :=
  let arg0 : BitVec 32 := BitVec.ofNat 32 (i 0).val
  let v1057 : Index := Scalar.indexCast arg0
  let c19_334 : Index := 19#32
  let c3_335 : Index := 3#32
  ![v1057.toNat, 19, 3]
def k0_off138 (i : grid0.Coords) : Fin 3 → Nat :=
  let arg0 : BitVec 32 := BitVec.ofNat 32 (i 0).val
  let v1093 : Index := Scalar.indexCast arg0
  let c19_339 : Index := 19#32
  let c4_340 : Index := 4#32
  ![v1093.toNat, 19, 4]
def k0_off139 (i : grid0.Coords) : Fin 3 → Nat :=
  let arg0 : BitVec 32 := BitVec.ofNat 32 (i 0).val
  let v1097 : Index := Scalar.indexCast arg0
  let c19_341 : Index := 19#32
  let c5_342 : Index := 5#32
  ![v1097.toNat, 19, 5]
def k0_off140 (i : grid0.Coords) : Fin 3 → Nat :=
  let arg0 : BitVec 32 := BitVec.ofNat 32 (i 0).val
  let v1101 : Index := Scalar.indexCast arg0
  let c19_343 : Index := 19#32
  let c6_344 : Index := 6#32
  ![v1101.toNat, 19, 6]
def k0_off141 (i : grid0.Coords) : Fin 3 → Nat :=
  let arg0 : BitVec 32 := BitVec.ofNat 32 (i 0).val
  let v1105 : Index := Scalar.indexCast arg0
  let c20 : Index := 20#32
  let c0_345 : Index := 0#32
  ![v1105.toNat, 20, 0]
def k0_off142 (i : grid0.Coords) : Fin 3 → Nat :=
  let arg0 : BitVec 32 := BitVec.ofNat 32 (i 0).val
  let v1107 : Index := Scalar.indexCast arg0
  let c20_346 : Index := 20#32
  let c1_347 : Index := 1#32
  ![v1107.toNat, 20, 1]
def k0_off143 (i : grid0.Coords) : Fin 3 → Nat :=
  let arg0 : BitVec 32 := BitVec.ofNat 32 (i 0).val
  let v1109 : Index := Scalar.indexCast arg0
  let c20_348 : Index := 20#32
  let c2_349 : Index := 2#32
  ![v1109.toNat, 20, 2]
def k0_off144 (i : grid0.Coords) : Fin 3 → Nat :=
  let arg0 : BitVec 32 := BitVec.ofNat 32 (i 0).val
  let v1111 : Index := Scalar.indexCast arg0
  let c20_350 : Index := 20#32
  let c3_351 : Index := 3#32
  ![v1111.toNat, 20, 3]
def k0_off145 (i : grid0.Coords) : Fin 3 → Nat :=
  let arg0 : BitVec 32 := BitVec.ofNat 32 (i 0).val
  let v1147 : Index := Scalar.indexCast arg0
  let c20_355 : Index := 20#32
  let c4_356 : Index := 4#32
  ![v1147.toNat, 20, 4]
def k0_off146 (i : grid0.Coords) : Fin 3 → Nat :=
  let arg0 : BitVec 32 := BitVec.ofNat 32 (i 0).val
  let v1151 : Index := Scalar.indexCast arg0
  let c20_357 : Index := 20#32
  let c5_358 : Index := 5#32
  ![v1151.toNat, 20, 5]
def k0_off147 (i : grid0.Coords) : Fin 3 → Nat :=
  let arg0 : BitVec 32 := BitVec.ofNat 32 (i 0).val
  let v1155 : Index := Scalar.indexCast arg0
  let c20_359 : Index := 20#32
  let c6_360 : Index := 6#32
  ![v1155.toNat, 20, 6]
def k0_off148 (i : grid0.Coords) : Fin 3 → Nat :=
  let arg0 : BitVec 32 := BitVec.ofNat 32 (i 0).val
  let v1159 : Index := Scalar.indexCast arg0
  let c21 : Index := 21#32
  let c0_361 : Index := 0#32
  ![v1159.toNat, 21, 0]
def k0_off149 (i : grid0.Coords) : Fin 3 → Nat :=
  let arg0 : BitVec 32 := BitVec.ofNat 32 (i 0).val
  let v1161 : Index := Scalar.indexCast arg0
  let c21_362 : Index := 21#32
  let c1_363 : Index := 1#32
  ![v1161.toNat, 21, 1]
def k0_off150 (i : grid0.Coords) : Fin 3 → Nat :=
  let arg0 : BitVec 32 := BitVec.ofNat 32 (i 0).val
  let v1163 : Index := Scalar.indexCast arg0
  let c21_364 : Index := 21#32
  let c2_365 : Index := 2#32
  ![v1163.toNat, 21, 2]
def k0_off151 (i : grid0.Coords) : Fin 3 → Nat :=
  let arg0 : BitVec 32 := BitVec.ofNat 32 (i 0).val
  let v1165 : Index := Scalar.indexCast arg0
  let c21_366 : Index := 21#32
  let c3_367 : Index := 3#32
  ![v1165.toNat, 21, 3]
def k0_off152 (i : grid0.Coords) : Fin 3 → Nat :=
  let arg0 : BitVec 32 := BitVec.ofNat 32 (i 0).val
  let v1201 : Index := Scalar.indexCast arg0
  let c21_371 : Index := 21#32
  let c4_372 : Index := 4#32
  ![v1201.toNat, 21, 4]
def k0_off153 (i : grid0.Coords) : Fin 3 → Nat :=
  let arg0 : BitVec 32 := BitVec.ofNat 32 (i 0).val
  let v1205 : Index := Scalar.indexCast arg0
  let c21_373 : Index := 21#32
  let c5_374 : Index := 5#32
  ![v1205.toNat, 21, 5]
def k0_off154 (i : grid0.Coords) : Fin 3 → Nat :=
  let arg0 : BitVec 32 := BitVec.ofNat 32 (i 0).val
  let v1209 : Index := Scalar.indexCast arg0
  let c21_375 : Index := 21#32
  let c6_376 : Index := 6#32
  ![v1209.toNat, 21, 6]
def k0_off155 (i : grid0.Coords) : Fin 3 → Nat :=
  let arg0 : BitVec 32 := BitVec.ofNat 32 (i 0).val
  let v1213 : Index := Scalar.indexCast arg0
  let c22 : Index := 22#32
  let c0_377 : Index := 0#32
  ![v1213.toNat, 22, 0]
def k0_off156 (i : grid0.Coords) : Fin 3 → Nat :=
  let arg0 : BitVec 32 := BitVec.ofNat 32 (i 0).val
  let v1215 : Index := Scalar.indexCast arg0
  let c22_378 : Index := 22#32
  let c1_379 : Index := 1#32
  ![v1215.toNat, 22, 1]
def k0_off157 (i : grid0.Coords) : Fin 3 → Nat :=
  let arg0 : BitVec 32 := BitVec.ofNat 32 (i 0).val
  let v1217 : Index := Scalar.indexCast arg0
  let c22_380 : Index := 22#32
  let c2_381 : Index := 2#32
  ![v1217.toNat, 22, 2]
def k0_off158 (i : grid0.Coords) : Fin 3 → Nat :=
  let arg0 : BitVec 32 := BitVec.ofNat 32 (i 0).val
  let v1219 : Index := Scalar.indexCast arg0
  let c22_382 : Index := 22#32
  let c3_383 : Index := 3#32
  ![v1219.toNat, 22, 3]
def k0_off159 (i : grid0.Coords) : Fin 3 → Nat :=
  let arg0 : BitVec 32 := BitVec.ofNat 32 (i 0).val
  let v1255 : Index := Scalar.indexCast arg0
  let c22_387 : Index := 22#32
  let c4_388 : Index := 4#32
  ![v1255.toNat, 22, 4]
def k0_off160 (i : grid0.Coords) : Fin 3 → Nat :=
  let arg0 : BitVec 32 := BitVec.ofNat 32 (i 0).val
  let v1259 : Index := Scalar.indexCast arg0
  let c22_389 : Index := 22#32
  let c5_390 : Index := 5#32
  ![v1259.toNat, 22, 5]
def k0_off161 (i : grid0.Coords) : Fin 3 → Nat :=
  let arg0 : BitVec 32 := BitVec.ofNat 32 (i 0).val
  let v1263 : Index := Scalar.indexCast arg0
  let c22_391 : Index := 22#32
  let c6_392 : Index := 6#32
  ![v1263.toNat, 22, 6]
def k0_off162 (i : grid0.Coords) : Fin 3 → Nat :=
  let arg0 : BitVec 32 := BitVec.ofNat 32 (i 0).val
  let v1267 : Index := Scalar.indexCast arg0
  let c23 : Index := 23#32
  let c0_393 : Index := 0#32
  ![v1267.toNat, 23, 0]
def k0_off163 (i : grid0.Coords) : Fin 3 → Nat :=
  let arg0 : BitVec 32 := BitVec.ofNat 32 (i 0).val
  let v1269 : Index := Scalar.indexCast arg0
  let c23_394 : Index := 23#32
  let c1_395 : Index := 1#32
  ![v1269.toNat, 23, 1]
def k0_off164 (i : grid0.Coords) : Fin 3 → Nat :=
  let arg0 : BitVec 32 := BitVec.ofNat 32 (i 0).val
  let v1271 : Index := Scalar.indexCast arg0
  let c23_396 : Index := 23#32
  let c2_397 : Index := 2#32
  ![v1271.toNat, 23, 2]
def k0_off165 (i : grid0.Coords) : Fin 3 → Nat :=
  let arg0 : BitVec 32 := BitVec.ofNat 32 (i 0).val
  let v1273 : Index := Scalar.indexCast arg0
  let c23_398 : Index := 23#32
  let c3_399 : Index := 3#32
  ![v1273.toNat, 23, 3]
def k0_off166 (i : grid0.Coords) : Fin 3 → Nat :=
  let arg0 : BitVec 32 := BitVec.ofNat 32 (i 0).val
  let v1309 : Index := Scalar.indexCast arg0
  let c23_403 : Index := 23#32
  let c4_404 : Index := 4#32
  ![v1309.toNat, 23, 4]
def k0_off167 (i : grid0.Coords) : Fin 3 → Nat :=
  let arg0 : BitVec 32 := BitVec.ofNat 32 (i 0).val
  let v1313 : Index := Scalar.indexCast arg0
  let c23_405 : Index := 23#32
  let c5_406 : Index := 5#32
  ![v1313.toNat, 23, 5]
def k0_off168 (i : grid0.Coords) : Fin 3 → Nat :=
  let arg0 : BitVec 32 := BitVec.ofNat 32 (i 0).val
  let v1317 : Index := Scalar.indexCast arg0
  let c23_407 : Index := 23#32
  let c6_408 : Index := 6#32
  ![v1317.toNat, 23, 6]
def k0_off169 (i : grid0.Coords) : Fin 3 → Nat :=
  let arg0 : BitVec 32 := BitVec.ofNat 32 (i 0).val
  let v1321 : Index := Scalar.indexCast arg0
  let c24 : Index := 24#32
  let c0_409 : Index := 0#32
  ![v1321.toNat, 24, 0]
def k0_off170 (i : grid0.Coords) : Fin 3 → Nat :=
  let arg0 : BitVec 32 := BitVec.ofNat 32 (i 0).val
  let v1323 : Index := Scalar.indexCast arg0
  let c24_410 : Index := 24#32
  let c1_411 : Index := 1#32
  ![v1323.toNat, 24, 1]
def k0_off171 (i : grid0.Coords) : Fin 3 → Nat :=
  let arg0 : BitVec 32 := BitVec.ofNat 32 (i 0).val
  let v1325 : Index := Scalar.indexCast arg0
  let c24_412 : Index := 24#32
  let c2_413 : Index := 2#32
  ![v1325.toNat, 24, 2]
def k0_off172 (i : grid0.Coords) : Fin 3 → Nat :=
  let arg0 : BitVec 32 := BitVec.ofNat 32 (i 0).val
  let v1327 : Index := Scalar.indexCast arg0
  let c24_414 : Index := 24#32
  let c3_415 : Index := 3#32
  ![v1327.toNat, 24, 3]
def k0_off173 (i : grid0.Coords) : Fin 3 → Nat :=
  let arg0 : BitVec 32 := BitVec.ofNat 32 (i 0).val
  let v1363 : Index := Scalar.indexCast arg0
  let c24_419 : Index := 24#32
  let c4_420 : Index := 4#32
  ![v1363.toNat, 24, 4]
def k0_off174 (i : grid0.Coords) : Fin 3 → Nat :=
  let arg0 : BitVec 32 := BitVec.ofNat 32 (i 0).val
  let v1367 : Index := Scalar.indexCast arg0
  let c24_421 : Index := 24#32
  let c5_422 : Index := 5#32
  ![v1367.toNat, 24, 5]
def k0_off175 (i : grid0.Coords) : Fin 3 → Nat :=
  let arg0 : BitVec 32 := BitVec.ofNat 32 (i 0).val
  let v1371 : Index := Scalar.indexCast arg0
  let c24_423 : Index := 24#32
  let c6_424 : Index := 6#32
  ![v1371.toNat, 24, 6]
def k0_off176 (i : grid0.Coords) : Fin 3 → Nat :=
  let arg0 : BitVec 32 := BitVec.ofNat 32 (i 0).val
  let v1375 : Index := Scalar.indexCast arg0
  let c25 : Index := 25#32
  let c0_425 : Index := 0#32
  ![v1375.toNat, 25, 0]
def k0_off177 (i : grid0.Coords) : Fin 3 → Nat :=
  let arg0 : BitVec 32 := BitVec.ofNat 32 (i 0).val
  let v1377 : Index := Scalar.indexCast arg0
  let c25_426 : Index := 25#32
  let c1_427 : Index := 1#32
  ![v1377.toNat, 25, 1]
def k0_off178 (i : grid0.Coords) : Fin 3 → Nat :=
  let arg0 : BitVec 32 := BitVec.ofNat 32 (i 0).val
  let v1379 : Index := Scalar.indexCast arg0
  let c25_428 : Index := 25#32
  let c2_429 : Index := 2#32
  ![v1379.toNat, 25, 2]
def k0_off179 (i : grid0.Coords) : Fin 3 → Nat :=
  let arg0 : BitVec 32 := BitVec.ofNat 32 (i 0).val
  let v1381 : Index := Scalar.indexCast arg0
  let c25_430 : Index := 25#32
  let c3_431 : Index := 3#32
  ![v1381.toNat, 25, 3]
def k0_off180 (i : grid0.Coords) : Fin 3 → Nat :=
  let arg0 : BitVec 32 := BitVec.ofNat 32 (i 0).val
  let v1417 : Index := Scalar.indexCast arg0
  let c25_435 : Index := 25#32
  let c4_436 : Index := 4#32
  ![v1417.toNat, 25, 4]
def k0_off181 (i : grid0.Coords) : Fin 3 → Nat :=
  let arg0 : BitVec 32 := BitVec.ofNat 32 (i 0).val
  let v1421 : Index := Scalar.indexCast arg0
  let c25_437 : Index := 25#32
  let c5_438 : Index := 5#32
  ![v1421.toNat, 25, 5]
def k0_off182 (i : grid0.Coords) : Fin 3 → Nat :=
  let arg0 : BitVec 32 := BitVec.ofNat 32 (i 0).val
  let v1425 : Index := Scalar.indexCast arg0
  let c25_439 : Index := 25#32
  let c6_440 : Index := 6#32
  ![v1425.toNat, 25, 6]
def k0_off183 (i : grid0.Coords) : Fin 3 → Nat :=
  let arg0 : BitVec 32 := BitVec.ofNat 32 (i 0).val
  let v1429 : Index := Scalar.indexCast arg0
  let c26 : Index := 26#32
  let c0_441 : Index := 0#32
  ![v1429.toNat, 26, 0]
def k0_off184 (i : grid0.Coords) : Fin 3 → Nat :=
  let arg0 : BitVec 32 := BitVec.ofNat 32 (i 0).val
  let v1431 : Index := Scalar.indexCast arg0
  let c26_442 : Index := 26#32
  let c1_443 : Index := 1#32
  ![v1431.toNat, 26, 1]
def k0_off185 (i : grid0.Coords) : Fin 3 → Nat :=
  let arg0 : BitVec 32 := BitVec.ofNat 32 (i 0).val
  let v1433 : Index := Scalar.indexCast arg0
  let c26_444 : Index := 26#32
  let c2_445 : Index := 2#32
  ![v1433.toNat, 26, 2]
def k0_off186 (i : grid0.Coords) : Fin 3 → Nat :=
  let arg0 : BitVec 32 := BitVec.ofNat 32 (i 0).val
  let v1435 : Index := Scalar.indexCast arg0
  let c26_446 : Index := 26#32
  let c3_447 : Index := 3#32
  ![v1435.toNat, 26, 3]
def k0_off187 (i : grid0.Coords) : Fin 3 → Nat :=
  let arg0 : BitVec 32 := BitVec.ofNat 32 (i 0).val
  let v1471 : Index := Scalar.indexCast arg0
  let c26_451 : Index := 26#32
  let c4_452 : Index := 4#32
  ![v1471.toNat, 26, 4]
def k0_off188 (i : grid0.Coords) : Fin 3 → Nat :=
  let arg0 : BitVec 32 := BitVec.ofNat 32 (i 0).val
  let v1475 : Index := Scalar.indexCast arg0
  let c26_453 : Index := 26#32
  let c5_454 : Index := 5#32
  ![v1475.toNat, 26, 5]
def k0_off189 (i : grid0.Coords) : Fin 3 → Nat :=
  let arg0 : BitVec 32 := BitVec.ofNat 32 (i 0).val
  let v1479 : Index := Scalar.indexCast arg0
  let c26_455 : Index := 26#32
  let c6_456 : Index := 6#32
  ![v1479.toNat, 26, 6]
def k0_off190 (i : grid0.Coords) : Fin 3 → Nat :=
  let arg0 : BitVec 32 := BitVec.ofNat 32 (i 0).val
  let v1483 : Index := Scalar.indexCast arg0
  let c27 : Index := 27#32
  let c0_457 : Index := 0#32
  ![v1483.toNat, 27, 0]
def k0_off191 (i : grid0.Coords) : Fin 3 → Nat :=
  let arg0 : BitVec 32 := BitVec.ofNat 32 (i 0).val
  let v1485 : Index := Scalar.indexCast arg0
  let c27_458 : Index := 27#32
  let c1_459 : Index := 1#32
  ![v1485.toNat, 27, 1]
def k0_off192 (i : grid0.Coords) : Fin 3 → Nat :=
  let arg0 : BitVec 32 := BitVec.ofNat 32 (i 0).val
  let v1487 : Index := Scalar.indexCast arg0
  let c27_460 : Index := 27#32
  let c2_461 : Index := 2#32
  ![v1487.toNat, 27, 2]
def k0_off193 (i : grid0.Coords) : Fin 3 → Nat :=
  let arg0 : BitVec 32 := BitVec.ofNat 32 (i 0).val
  let v1489 : Index := Scalar.indexCast arg0
  let c27_462 : Index := 27#32
  let c3_463 : Index := 3#32
  ![v1489.toNat, 27, 3]
def k0_off194 (i : grid0.Coords) : Fin 3 → Nat :=
  let arg0 : BitVec 32 := BitVec.ofNat 32 (i 0).val
  let v1525 : Index := Scalar.indexCast arg0
  let c27_467 : Index := 27#32
  let c4_468 : Index := 4#32
  ![v1525.toNat, 27, 4]
def k0_off195 (i : grid0.Coords) : Fin 3 → Nat :=
  let arg0 : BitVec 32 := BitVec.ofNat 32 (i 0).val
  let v1529 : Index := Scalar.indexCast arg0
  let c27_469 : Index := 27#32
  let c5_470 : Index := 5#32
  ![v1529.toNat, 27, 5]
def k0_off196 (i : grid0.Coords) : Fin 3 → Nat :=
  let arg0 : BitVec 32 := BitVec.ofNat 32 (i 0).val
  let v1533 : Index := Scalar.indexCast arg0
  let c27_471 : Index := 27#32
  let c6_472 : Index := 6#32
  ![v1533.toNat, 27, 6]
def k0_off197 (i : grid0.Coords) : Fin 3 → Nat :=
  let arg0 : BitVec 32 := BitVec.ofNat 32 (i 0).val
  let v1537 : Index := Scalar.indexCast arg0
  let c28 : Index := 28#32
  let c0_473 : Index := 0#32
  ![v1537.toNat, 28, 0]
def k0_off198 (i : grid0.Coords) : Fin 3 → Nat :=
  let arg0 : BitVec 32 := BitVec.ofNat 32 (i 0).val
  let v1539 : Index := Scalar.indexCast arg0
  let c28_474 : Index := 28#32
  let c1_475 : Index := 1#32
  ![v1539.toNat, 28, 1]
def k0_off199 (i : grid0.Coords) : Fin 3 → Nat :=
  let arg0 : BitVec 32 := BitVec.ofNat 32 (i 0).val
  let v1541 : Index := Scalar.indexCast arg0
  let c28_476 : Index := 28#32
  let c2_477 : Index := 2#32
  ![v1541.toNat, 28, 2]
def k0_off200 (i : grid0.Coords) : Fin 3 → Nat :=
  let arg0 : BitVec 32 := BitVec.ofNat 32 (i 0).val
  let v1543 : Index := Scalar.indexCast arg0
  let c28_478 : Index := 28#32
  let c3_479 : Index := 3#32
  ![v1543.toNat, 28, 3]
def k0_off201 (i : grid0.Coords) : Fin 3 → Nat :=
  let arg0 : BitVec 32 := BitVec.ofNat 32 (i 0).val
  let v1579 : Index := Scalar.indexCast arg0
  let c28_483 : Index := 28#32
  let c4_484 : Index := 4#32
  ![v1579.toNat, 28, 4]
def k0_off202 (i : grid0.Coords) : Fin 3 → Nat :=
  let arg0 : BitVec 32 := BitVec.ofNat 32 (i 0).val
  let v1583 : Index := Scalar.indexCast arg0
  let c28_485 : Index := 28#32
  let c5_486 : Index := 5#32
  ![v1583.toNat, 28, 5]
def k0_off203 (i : grid0.Coords) : Fin 3 → Nat :=
  let arg0 : BitVec 32 := BitVec.ofNat 32 (i 0).val
  let v1587 : Index := Scalar.indexCast arg0
  let c28_487 : Index := 28#32
  let c6_488 : Index := 6#32
  ![v1587.toNat, 28, 6]
def k0_off204 (i : grid0.Coords) : Fin 3 → Nat :=
  let arg0 : BitVec 32 := BitVec.ofNat 32 (i 0).val
  let v1591 : Index := Scalar.indexCast arg0
  let c29 : Index := 29#32
  let c0_489 : Index := 0#32
  ![v1591.toNat, 29, 0]
def k0_off205 (i : grid0.Coords) : Fin 3 → Nat :=
  let arg0 : BitVec 32 := BitVec.ofNat 32 (i 0).val
  let v1593 : Index := Scalar.indexCast arg0
  let c29_490 : Index := 29#32
  let c1_491 : Index := 1#32
  ![v1593.toNat, 29, 1]
def k0_off206 (i : grid0.Coords) : Fin 3 → Nat :=
  let arg0 : BitVec 32 := BitVec.ofNat 32 (i 0).val
  let v1595 : Index := Scalar.indexCast arg0
  let c29_492 : Index := 29#32
  let c2_493 : Index := 2#32
  ![v1595.toNat, 29, 2]
def k0_off207 (i : grid0.Coords) : Fin 3 → Nat :=
  let arg0 : BitVec 32 := BitVec.ofNat 32 (i 0).val
  let v1597 : Index := Scalar.indexCast arg0
  let c29_494 : Index := 29#32
  let c3_495 : Index := 3#32
  ![v1597.toNat, 29, 3]
def k0_off208 (i : grid0.Coords) : Fin 3 → Nat :=
  let arg0 : BitVec 32 := BitVec.ofNat 32 (i 0).val
  let v1633 : Index := Scalar.indexCast arg0
  let c29_499 : Index := 29#32
  let c4_500 : Index := 4#32
  ![v1633.toNat, 29, 4]
def k0_off209 (i : grid0.Coords) : Fin 3 → Nat :=
  let arg0 : BitVec 32 := BitVec.ofNat 32 (i 0).val
  let v1637 : Index := Scalar.indexCast arg0
  let c29_501 : Index := 29#32
  let c5_502 : Index := 5#32
  ![v1637.toNat, 29, 5]
def k0_off210 (i : grid0.Coords) : Fin 3 → Nat :=
  let arg0 : BitVec 32 := BitVec.ofNat 32 (i 0).val
  let v1641 : Index := Scalar.indexCast arg0
  let c29_503 : Index := 29#32
  let c6_504 : Index := 6#32
  ![v1641.toNat, 29, 6]
def k0_off211 (i : grid0.Coords) : Fin 3 → Nat :=
  let arg0 : BitVec 32 := BitVec.ofNat 32 (i 0).val
  let v1645 : Index := Scalar.indexCast arg0
  let c30 : Index := 30#32
  let c0_505 : Index := 0#32
  ![v1645.toNat, 30, 0]
def k0_off212 (i : grid0.Coords) : Fin 3 → Nat :=
  let arg0 : BitVec 32 := BitVec.ofNat 32 (i 0).val
  let v1647 : Index := Scalar.indexCast arg0
  let c30_506 : Index := 30#32
  let c1_507 : Index := 1#32
  ![v1647.toNat, 30, 1]
def k0_off213 (i : grid0.Coords) : Fin 3 → Nat :=
  let arg0 : BitVec 32 := BitVec.ofNat 32 (i 0).val
  let v1649 : Index := Scalar.indexCast arg0
  let c30_508 : Index := 30#32
  let c2_509 : Index := 2#32
  ![v1649.toNat, 30, 2]
def k0_off214 (i : grid0.Coords) : Fin 3 → Nat :=
  let arg0 : BitVec 32 := BitVec.ofNat 32 (i 0).val
  let v1651 : Index := Scalar.indexCast arg0
  let c30_510 : Index := 30#32
  let c3_511 : Index := 3#32
  ![v1651.toNat, 30, 3]
def k0_off215 (i : grid0.Coords) : Fin 3 → Nat :=
  let arg0 : BitVec 32 := BitVec.ofNat 32 (i 0).val
  let v1687 : Index := Scalar.indexCast arg0
  let c30_515 : Index := 30#32
  let c4_516 : Index := 4#32
  ![v1687.toNat, 30, 4]
def k0_off216 (i : grid0.Coords) : Fin 3 → Nat :=
  let arg0 : BitVec 32 := BitVec.ofNat 32 (i 0).val
  let v1691 : Index := Scalar.indexCast arg0
  let c30_517 : Index := 30#32
  let c5_518 : Index := 5#32
  ![v1691.toNat, 30, 5]
def k0_off217 (i : grid0.Coords) : Fin 3 → Nat :=
  let arg0 : BitVec 32 := BitVec.ofNat 32 (i 0).val
  let v1695 : Index := Scalar.indexCast arg0
  let c30_519 : Index := 30#32
  let c6_520 : Index := 6#32
  ![v1695.toNat, 30, 6]
def k0_off218 (i : grid0.Coords) : Fin 3 → Nat :=
  let arg0 : BitVec 32 := BitVec.ofNat 32 (i 0).val
  let v1699 : Index := Scalar.indexCast arg0
  let c31 : Index := 31#32
  let c0_521 : Index := 0#32
  ![v1699.toNat, 31, 0]
def k0_off219 (i : grid0.Coords) : Fin 3 → Nat :=
  let arg0 : BitVec 32 := BitVec.ofNat 32 (i 0).val
  let v1701 : Index := Scalar.indexCast arg0
  let c31_522 : Index := 31#32
  let c1_523 : Index := 1#32
  ![v1701.toNat, 31, 1]
def k0_off220 (i : grid0.Coords) : Fin 3 → Nat :=
  let arg0 : BitVec 32 := BitVec.ofNat 32 (i 0).val
  let v1703 : Index := Scalar.indexCast arg0
  let c31_524 : Index := 31#32
  let c2_525 : Index := 2#32
  ![v1703.toNat, 31, 2]
def k0_off221 (i : grid0.Coords) : Fin 3 → Nat :=
  let arg0 : BitVec 32 := BitVec.ofNat 32 (i 0).val
  let v1705 : Index := Scalar.indexCast arg0
  let c31_526 : Index := 31#32
  let c3_527 : Index := 3#32
  ![v1705.toNat, 31, 3]
def k0_off222 (i : grid0.Coords) : Fin 3 → Nat :=
  let arg0 : BitVec 32 := BitVec.ofNat 32 (i 0).val
  let v1741 : Index := Scalar.indexCast arg0
  let c31_531 : Index := 31#32
  let c4_532 : Index := 4#32
  ![v1741.toNat, 31, 4]
def k0_off223 (i : grid0.Coords) : Fin 3 → Nat :=
  let arg0 : BitVec 32 := BitVec.ofNat 32 (i 0).val
  let v1745 : Index := Scalar.indexCast arg0
  let c31_533 : Index := 31#32
  let c5_534 : Index := 5#32
  ![v1745.toNat, 31, 5]
def k0_off224 (i : grid0.Coords) : Fin 3 → Nat :=
  let arg0 : BitVec 32 := BitVec.ofNat 32 (i 0).val
  let v1749 : Index := Scalar.indexCast arg0
  let c31_535 : Index := 31#32
  let c6_536 : Index := 6#32
  ![v1749.toNat, 31, 6]
def k0_cond1 (i : grid0.Coords) : BitVec 1 :=
  let arg1 : BitVec 32 := BitVec.ofNat 32 (i 1).val
  let c0_i32 : BitVec 32 := 0#32
  let v1887 : BitVec 1 := Scalar.cmpi .eq arg1 c0_i32
  let v1888 : BitVec 32 := Scalar.extui v1887
  let c0_i32_599 : BitVec 32 := 0#32
  let v1889 : BitVec 1 := Scalar.cmpi .ne v1888 c0_i32_599
  v1889

def k0_off225 (i : grid0.Coords) : Fin 3 → Nat :=
  let arg0 : BitVec 32 := BitVec.ofNat 32 (i 0).val
  let v1893 : Index := Scalar.indexCast arg0
  let c0_602 : Index := 0#32
  let c7_603 : Index := 7#32
  ![v1893.toNat, 0, 7]
def k0_cond2 (i : grid0.Coords) : BitVec 1 :=
  let arg1 : BitVec 32 := BitVec.ofNat 32 (i 1).val
  let c0_i32_600 : BitVec 32 := 0#32
  let v1890 : BitVec 1 := Scalar.cmpi .sgt arg1 c0_i32_600
  let v1891 : BitVec 32 := Scalar.extui v1890
  let c0_i32_601 : BitVec 32 := 0#32
  let v1892 : BitVec 1 := Scalar.cmpi .ne v1891 c0_i32_601
  v1892

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x1x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x1x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1x200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 10], ![false, false]⟩

def k1_cond1 (i : grid1.Coords) : BitVec 1 :=
  let arg1 : BitVec 32 := BitVec.ofNat 32 (i 1).val
  let c0_i32 : BitVec 32 := 0#32
  let v59 : BitVec 1 := Scalar.cmpi .eq arg1 c0_i32
  let v60 : BitVec 32 := Scalar.extui v59
  let c0_i32_16 : BitVec 32 := 0#32
  let v61 : BitVec 1 := Scalar.cmpi .ne v60 c0_i32_16
  v61

def k1_cond2 (i : grid1.Coords) : BitVec 1 :=
  let arg1 : BitVec 32 := BitVec.ofNat 32 (i 1).val
  let c0_i32_17 : BitVec 32 := 0#32
  let v62 : BitVec 1 := Scalar.cmpi .sgt arg1 c0_i32_17
  let v63 : BitVec 32 := Scalar.extui v62
  let c0_i32_18 : BitVec 32 := 0#32
  let v64 : BitVec 1 := Scalar.cmpi .ne v63 c0_i32_18
  v64

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x10000x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S4x100000x80 : Shape := ⟨3, ![4, 100000, 80]⟩
abbrev S4x100000x4 : Shape := ⟨3, ![4, 100000, 4]⟩
abbrev S1x100000x4 : Shape := ⟨3, ![1, 100000, 4]⟩
abbrev S4x1 : Shape := ⟨2, ![4, 1]⟩
abbrev S4x32x7 : Shape := ⟨3, ![4, 32, 7]⟩
abbrev S4 : Shape := ⟨1, ![4]⟩
abbrev S_ : Shape := ⟨0, ![]⟩
abbrev S1x100000x1 : Shape := ⟨3, ![1, 100000, 1]⟩
abbrev S100000 : Shape := ⟨1, ![100000]⟩
abbrev S4x32x1 : Shape := ⟨3, ![4, 32, 1]⟩
abbrev S4x32 : Shape := ⟨2, ![4, 32]⟩
abbrev S4x1x32 : Shape := ⟨3, ![4, 1, 32]⟩
abbrev S4x100000x32 : Shape := ⟨3, ![4, 100000, 32]⟩
abbrev S4x100000 : Shape := ⟨2, ![4, 100000]⟩
abbrev S4x100000x1 : Shape := ⟨3, ![4, 100000, 1]⟩
abbrev S4x100000x7 : Shape := ⟨3, ![4, 100000, 7]⟩
abbrev S1x1x80 : Shape := ⟨3, ![1, 1, 80]⟩
abbrev S1x100000 : Shape := ⟨2, ![1, 100000]⟩
abbrev S1x1x4 : Shape := ⟨3, ![1, 1, 4]⟩
abbrev S1 : Shape := ⟨1, ![1]⟩

abbrev nBuf : Space → Nat
  | .hbm => 333
  | .vmem => 0
  | .smem => 0
  | _ => 0

abbrev hbmTy0_0 (i : Nat) : BufTy := match i % 128 with
  | 0 => ⟨S4x100000x80, .f32⟩
  | 1 => ⟨S4x100000x4, .f32⟩
  | 2 => ⟨S1x100000x4, .f32⟩
  | 3 => ⟨S4x1, .f32⟩
  | 4 => ⟨S4x32x7, .f32⟩
  | 5 => ⟨S4, .f32⟩
  | 6 => ⟨S_, .f32⟩
  | 7 => ⟨S_, .f32⟩
  | 8 => ⟨S_, .f32⟩
  | 9 => ⟨S4x100000x80, .f32⟩
  | 10 => ⟨S4x100000x80, .f32⟩
  | 11 => ⟨S_, .f32⟩
  | 12 => ⟨S4x100000x80, .f32⟩
  | 13 => ⟨S4x100000x80, .f32⟩
  | 14 => ⟨S1x100000x1, .f32⟩
  | 15 => ⟨S100000, .f32⟩
  | 16 => ⟨S1x100000x1, .f32⟩
  | 17 => ⟨S100000, .f32⟩
  | 18 => ⟨S1x100000x1, .f32⟩
  | 19 => ⟨S100000, .f32⟩
  | 20 => ⟨S1x100000x1, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000, .f32⟩
  | 32 => ⟨S4x32x1, .f32⟩
  | 33 => ⟨S4x32, .f32⟩
  | 34 => ⟨S4x1x32, .f32⟩
  | 35 => ⟨S4x32x1, .f32⟩
  | 36 => ⟨S4x32, .f32⟩
  | 37 => ⟨S4x1x32, .f32⟩
  | 38 => ⟨S4x32x1, .f32⟩
  | 39 => ⟨S4x32, .f32⟩
  | 40 => ⟨S4x1x32, .f32⟩
  | 41 => ⟨S4x32x1, .f32⟩
  | 42 => ⟨S4x32, .f32⟩
  | 43 => ⟨S4x1x32, .f32⟩
  | 44 => ⟨S1x100000x1, .f32⟩
  | 45 => ⟨S4x100000x32, .f32⟩
  | 46 => ⟨S4x100000x32, .f32⟩
  | 47 => ⟨S4x100000x32, .f32⟩
  | 48 => ⟨S1x100000x1, .f32⟩
  | 49 => ⟨S4x100000x32, .f32⟩
  | 50 => ⟨S4x100000x32, .f32⟩
  | 51 => ⟨S4x100000x32, .f32⟩
  | 52 => ⟨S4x100000x32, .f32⟩
  | 53 => ⟨S1x100000x1, .f32⟩
  | 54 => ⟨S4x100000x32, .f32⟩
  | 55 => ⟨S4x100000x32, .f32⟩
  | 56 => ⟨S4x100000x32, .f32⟩
  | 57 => ⟨S1x100000x1, .f32⟩
  | 58 => ⟨S4x100000x32, .f32⟩
  | 59 => ⟨S4x100000x32, .f32⟩
  | 60 => ⟨S4x100000x32, .f32⟩
  | 61 => ⟨S4x100000x32, .f32⟩
  | 62 => ⟨S_, .f32⟩
  | 63 => ⟨S4x100000x32, .f32⟩
  | 64 => ⟨S4x100000x32, .f32⟩
  | 65 => ⟨S_, .f32⟩
  | 66 => ⟨S4x100000x32, .f32⟩
  | 67 => ⟨S4x100000x32, .f32⟩
  | 68 => ⟨S4x100000x32, .f32⟩
  | 69 => ⟨S100000, .f32⟩
  | 70 => ⟨S1x100000x1, .f32⟩
  | 71 => ⟨S4x1x32, .f32⟩
  | 72 => ⟨S4x1x32, .f32⟩
  | 73 => ⟨S4x1x32, .f32⟩
  | 74 => ⟨S4x100000x32, .f32⟩
  | 75 => ⟨S4x100000x32, .f32⟩
  | 76 => ⟨S4x100000x32, .f32⟩
  | 77 => ⟨S4x100000x32, .f32⟩
  | 78 => ⟨S_, .f32⟩
  | 79 => ⟨S4x100000x32, .f32⟩
  | 80 => ⟨S4x100000x32, .f32⟩
  | 81 => ⟨S4x100000x32, .f32⟩
  | 82 => ⟨S_, .f32⟩
  | 83 => ⟨S4x100000, .f32⟩
  | 84 => ⟨S4x100000x32, .i32⟩
  | 85 => ⟨S_, .f32⟩
  | 86 => ⟨S_, .i32⟩
  | 87 => ⟨S4x100000, .f32⟩
  | 88 => ⟨S4x100000, .i32⟩
  | 89 => ⟨S_, .i32⟩
  | 90 => ⟨S4x100000, .i32⟩
  | 91 => ⟨S4x100000, .i1⟩
  | 92 => ⟨S_, .i32⟩
  | 93 => ⟨S4x100000, .i32⟩
  | 94 => ⟨S4x100000, .i32⟩
  | 95 => ⟨S4x100000, .i32⟩
  | 96 => ⟨S4x100000x1, .i32⟩
  | 97 => ⟨S4x100000x7, .f32⟩
  | 98 => ⟨S_, .f32⟩
  | 99 => ⟨S4x100000, .f32⟩
  | 100 => ⟨S4x100000, .i1⟩
  | 101 => ⟨S4x100000, .i32⟩
  | 102 => ⟨S_, .i32⟩
  | 103 => ⟨S4, .i32⟩
  | 104 => ⟨S4, .f32⟩
  | 105 => ⟨S_, .f32⟩
  | 106 => ⟨S4x100000, .f32⟩
  | 107 => ⟨S4x100000, .i1⟩
  | 108 => ⟨S_, .f32⟩
  | 109 => ⟨S_, .f32⟩
  | 110 => ⟨S4x100000, .f32⟩
  | 111 => ⟨S4x100000, .f32⟩
  | 112 => ⟨S4x100000, .f32⟩
  | 113 => ⟨S_, .f32⟩
  | 114 => ⟨S4x100000, .f32⟩
  | 115 => ⟨S4x100000, .f32⟩
  | 116 => ⟨S4x100000x1, .f32⟩
  | 117 => ⟨S4x100000, .f32⟩
  | 118 => ⟨S4x100000, .i32⟩
  | 119 => ⟨S4x100000x1, .i32⟩
  | 120 => ⟨S1x1x80, .i32⟩
  | 121 => ⟨S4x100000x80, .i32⟩
  | 122 => ⟨S4x100000x80, .i32⟩
  | 123 => ⟨S4x100000x80, .i1⟩
  | 124 => ⟨S4x100000x80, .f32⟩
  | 125 => ⟨S4x100000x1, .f32⟩
  | 126 => ⟨S4x100000, .f32⟩
  | 127 => ⟨S4x100000, .i32⟩
  | _ => ⟨S4x100000x80, .f32⟩

abbrev hbmTy0_1 (i : Nat) : BufTy := match i % 128 with
  | 0 => ⟨S4x100000x1, .i32⟩
  | 1 => ⟨S1x1x80, .i32⟩
  | 2 => ⟨S4x100000x80, .i32⟩
  | 3 => ⟨S4x100000x80, .i32⟩
  | 4 => ⟨S4x100000x80, .i1⟩
  | 5 => ⟨S4x100000x80, .f32⟩
  | 6 => ⟨S4x100000x80, .f32⟩
  | 7 => ⟨S4x100000x1, .f32⟩
  | 8 => ⟨S4x100000, .f32⟩
  | 9 => ⟨S4x100000, .i32⟩
  | 10 => ⟨S4x100000x1, .i32⟩
  | 11 => ⟨S1x1x80, .i32⟩
  | 12 => ⟨S4x100000x80, .i32⟩
  | 13 => ⟨S4x100000x80, .i32⟩
  | 14 => ⟨S4x100000x80, .i1⟩
  | 15 => ⟨S4x100000x80, .f32⟩
  | 16 => ⟨S4x100000x80, .f32⟩
  | 17 => ⟨S_, .f32⟩
  | 18 => ⟨S4x100000x80, .f32⟩
  | 19 => ⟨S4x100000x80, .i1⟩
  | 20 => ⟨S4x100000x1, .i1⟩
  | 21 => ⟨S4x100000x80, .i1⟩
  | 22 => ⟨S4x100000x80, .i1⟩
  | 23 => ⟨S4x100000x1, .f32⟩
  | 24 => ⟨S_, .f32⟩
  | 25 => ⟨S4x100000x80, .f32⟩
  | 26 => ⟨S4x100000x80, .f32⟩
  | 27 => ⟨S4x100000x80, .f32⟩
  | 28 => ⟨S_, .f32⟩
  | 29 => ⟨S4x100000x80, .f32⟩
  | 30 => ⟨S4x100000x80, .i1⟩
  | 31 => ⟨S_, .f32⟩
  | 32 => ⟨S_, .f32⟩
  | 33 => ⟨S4x100000x80, .f32⟩
  | 34 => ⟨S4x100000x80, .f32⟩
  | 35 => ⟨S4x100000x80, .f32⟩
  | 36 => ⟨S_, .f32⟩
  | 37 => ⟨S4x100000x80, .f32⟩
  | 38 => ⟨S4x100000x80, .i1⟩
  | 39 => ⟨S_, .f32⟩
  | 40 => ⟨S4x100000x80, .f32⟩
  | 41 => ⟨S4x100000x80, .f32⟩
  | 42 => ⟨S4x100000x80, .f32⟩
  | 43 => ⟨S_, .f32⟩
  | 44 => ⟨S4x100000x80, .f32⟩
  | 45 => ⟨S4x100000x80, .f32⟩
  | 46 => ⟨S4x100000x80, .f32⟩
  | 47 => ⟨S4x100000x80, .f32⟩
  | 48 => ⟨S4x100000x80, .f32⟩
  | 49 => ⟨S4x100000x80, .f32⟩
  | 50 => ⟨S4x100000x80, .f32⟩
  | 51 => ⟨S_, .f32⟩
  | 52 => ⟨S4x100000x80, .f32⟩
  | 53 => ⟨S4x100000x80, .f32⟩
  | 54 => ⟨S_, .f32⟩
  | 55 => ⟨S4x100000x80, .f32⟩
  | 56 => ⟨S4x100000x80, .f32⟩
  | 57 => ⟨S4x100000x80, .f32⟩
  | 58 => ⟨S4x100000x80, .f32⟩
  | 59 => ⟨S4x100000x80, .f32⟩
  | 60 => ⟨S4x100000x80, .f32⟩
  | 61 => ⟨S4x100000x80, .f32⟩
  | 62 => ⟨S_, .f32⟩
  | 63 => ⟨S4x100000x80, .f32⟩
  | 64 => ⟨S4x100000x80, .i1⟩
  | 65 => ⟨S4x100000x80, .f32⟩
  | 66 => ⟨S_, .f32⟩
  | 67 => ⟨S_, .f32⟩
  | 68 => ⟨S4x100000x80, .f32⟩
  | 69 => ⟨S4x100000x80, .f32⟩
  | 70 => ⟨S_, .f32⟩
  | 71 => ⟨S4, .f32⟩
  | 72 => ⟨S_, .f32⟩
  | 73 => ⟨S4, .f32⟩
  | 74 => ⟨S4, .f32⟩
  | 75 => ⟨S4, .f32⟩
  | 76 => ⟨S4x100000x1, .f32⟩
  | 77 => ⟨S4x100000, .f32⟩
  | 78 => ⟨S4x100000x1, .f32⟩
  | 79 => ⟨S4x100000, .f32⟩
  | 80 => ⟨S4x100000, .f32⟩
  | 81 => ⟨S4x100000x1, .f32⟩
  | 82 => ⟨S4x100000, .f32⟩
  | 83 => ⟨S4x100000x1, .f32⟩
  | 84 => ⟨S4x100000, .f32⟩
  | 85 => ⟨S4x100000, .f32⟩
  | 86 => ⟨S4x100000x1, .f32⟩
  | 87 => ⟨S4x100000, .f32⟩
  | 88 => ⟨S_, .f32⟩
  | 89 => ⟨S4x100000, .f32⟩
  | 90 => ⟨S4x100000, .f32⟩
  | 91 => ⟨S4x100000, .f32⟩
  | 92 => ⟨S4x100000x1, .f32⟩
  | 93 => ⟨S4x100000, .f32⟩
  | 94 => ⟨S_, .f32⟩
  | 95 => ⟨S4x100000, .f32⟩
  | 96 => ⟨S4x100000, .f32⟩
  | 97 => ⟨S4x100000, .f32⟩
  | 98 => ⟨S_, .f32⟩
  | 99 => ⟨S4x100000, .f32⟩
  | 100 => ⟨S4x100000, .f32⟩
  | 101 => ⟨S_, .f32⟩
  | 102 => ⟨S4x100000, .f32⟩
  | 103 => ⟨S4x100000, .f32⟩
  | 104 => ⟨S1x100000, .f32⟩
  | 105 => ⟨S4x100000, .f32⟩
  | 106 => ⟨S4x100000, .f32⟩
  | 107 => ⟨S1x100000, .f32⟩
  | 108 => ⟨S4x100000, .f32⟩
  | 109 => ⟨S4x100000, .f32⟩
  | 110 => ⟨S1x100000, .f32⟩
  | 111 => ⟨S4x100000, .f32⟩
  | 112 => ⟨S4x100000, .f32⟩
  | 113 => ⟨S1x100000, .f32⟩
  | 114 => ⟨S4x100000, .f32⟩
  | 115 => ⟨S4x100000, .f32⟩
  | 116 => ⟨S1x100000, .f32⟩
  | 117 => ⟨S4x100000, .f32⟩
  | 118 => ⟨S4x100000, .f32⟩
  | 119 => ⟨S4x100000, .f32⟩
  | 120 => ⟨S1x100000, .f32⟩
  | 121 => ⟨S4x100000, .f32⟩
  | 122 => ⟨S4x100000, .f32⟩
  | 123 => ⟨S4x100000, .f32⟩
  | 124 => ⟨S4x100000x1, .f32⟩
  | 125 => ⟨S4x100000x1, .f32⟩
  | 126 => ⟨S4x100000x1, .f32⟩
  | 127 => ⟨S4x100000x1, .f32⟩
  | _ => ⟨S4x100000x80, .f32⟩

abbrev hbmTy0_2 (i : Nat) : BufTy := match i % 128 with
  | 0 => ⟨S4x100000x4, .f32⟩
  | 1 => ⟨S1x1x4, .f32⟩
  | 2 => ⟨S4x100000x4, .f32⟩
  | 3 => ⟨S4x100000x4, .f32⟩
  | 4 => ⟨S4x100000x4, .f32⟩
  | 5 => ⟨S4x100000x4, .f32⟩
  | 6 => ⟨S_, .f32⟩
  | 7 => ⟨S4x100000x4, .f32⟩
  | 8 => ⟨S4x100000x4, .i1⟩
  | 9 => ⟨S4x100000x4, .f32⟩
  | 10 => ⟨S_, .f32⟩
  | 11 => ⟨S4x100000x4, .f32⟩
  | 12 => ⟨S4x100000x4, .f32⟩
  | 13 => ⟨S_, .f32⟩
  | 14 => ⟨S4x100000x4, .f32⟩
  | 15 => ⟨S4x100000x4, .f32⟩
  | 16 => ⟨S4x100000x4, .f32⟩
  | 17 => ⟨S4x100000x1, .i1⟩
  | 18 => ⟨S_, .f32⟩
  | 19 => ⟨S_, .f32⟩
  | 20 => ⟨S4x100000x4, .i1⟩
  | 21 => ⟨S4x100000x4, .f32⟩
  | 22 => ⟨S4x100000x4, .f32⟩
  | 23 => ⟨S_, .f32⟩
  | 24 => ⟨S4, .f32⟩
  | 25 => ⟨S4, .i1⟩
  | 26 => ⟨S_, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4, .f32⟩
  | 35 => ⟨S_, .f32⟩
  | 36 => ⟨S_, .f32⟩
  | 37 => ⟨S4, .f32⟩
  | 38 => ⟨S4, .f32⟩
  | 39 => ⟨S4x1, .f32⟩
  | 40 => ⟨S_, .f32⟩
  | 41 => ⟨S4x1, .f32⟩
  | 42 => ⟨S4x1, .f32⟩
  | 43 => ⟨S4x1, .f32⟩
  | 44 => ⟨S4x1, .f32⟩
  | 45 => ⟨S4x1, .i1⟩
  | 46 => ⟨S4x1, .f32⟩
  | 47 => ⟨S4x1, .f32⟩
  | 48 => ⟨S4x1, .f32⟩
  | 49 => ⟨S4x1, .f32⟩
  | 50 => ⟨S4x1, .f32⟩
  | 51 => ⟨S4x1, .f32⟩
  | 52 => ⟨S4x1, .f32⟩
  | 53 => ⟨S4x1, .f32⟩
  | 54 => ⟨S_, .f32⟩
  | 55 => ⟨S4, .f32⟩
  | 56 => ⟨S_, .f32⟩
  | 57 => ⟨S4, .f32⟩
  | 58 => ⟨S4, .f32⟩
  | 59 => ⟨S_, .f32⟩
  | 60 => ⟨S_, .f32⟩
  | 61 => ⟨S1, .f32⟩
  | 62 => ⟨S_, .f32⟩
  | 63 => ⟨S1, .f32⟩
  | 64 => ⟨S1, .f32⟩
  | 65 => ⟨S_, .f32⟩
  | 66 => ⟨S_, .f32⟩
  | 67 => ⟨S1, .f32⟩
  | 68 => ⟨S_, .f32⟩
  | 69 => ⟨S1, .f32⟩
  | 70 => ⟨S1, .f32⟩
  | 71 => ⟨S_, .f32⟩
  | 72 => ⟨S_, .f32⟩
  | 73 => ⟨S1, .f32⟩
  | 74 => ⟨S_, .f32⟩
  | 75 => ⟨S1, .f32⟩
  | 76 => ⟨S1, .f32⟩
  | _ => ⟨S4x100000x80, .f32⟩

abbrev hbmTy (i : Nat) : BufTy := match i / 128 with
  | 0 => hbmTy0_0 i
  | 1 => hbmTy0_1 i
  | 2 => hbmTy0_2 i
  | _ => ⟨S4x100000x80, .f32⟩

abbrev bufTy : (tb : Table) → Fin (tcTables nBuf tb) → BufTy
  | .hbm, ⟨i, _⟩ => hbmTy i
  | _, _ => ⟨S4x100000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_call1_v0 : Ref sig .tc := ⟨.hbm, 84, rfl⟩
abbrev main_call1_cst : Ref sig .tc := ⟨.hbm, 85, rfl⟩
abbrev main_call1_c : Ref sig .tc := ⟨.hbm, 86, rfl⟩
abbrev main_call1_v1_0 : Ref sig .tc := ⟨.hbm, 87, rfl⟩
abbrev main_v65 : Ref sig .tc := ⟨.hbm, 88, rfl⟩
abbrev main_c : Ref sig .tc := ⟨.hbm, 89, rfl⟩
abbrev main_v66 : Ref sig .tc := ⟨.hbm, 90, rfl⟩
abbrev main_v67 : Ref sig .tc := ⟨.hbm, 91, rfl⟩
abbrev main_c_8 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_10 : Ref sig .tc := ⟨.hbm, 102, rfl⟩
abbrev main_v76 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_cst_12 : Ref sig .tc := ⟨.hbm, 108, rfl⟩
abbrev main_cst_13 : Ref sig .tc := ⟨.hbm, 109, rfl⟩
abbrev main_call2_v0 : Ref sig .tc := ⟨.hbm, 110, rfl⟩
abbrev main_call2_v1 : Ref sig .tc := ⟨.hbm, 111, rfl⟩
abbrev main_v80 : Ref sig .tc := ⟨.hbm, 112, rfl⟩
abbrev main_cst_14 : Ref sig .tc := ⟨.hbm, 113, rfl⟩
abbrev main_call3_v0 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_v94 : Ref sig .tc := ⟨.hbm, 143, rfl⟩
abbrev main_v95 : Ref sig .tc := ⟨.hbm, 144, rfl⟩
abbrev main_cst_15 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_16 : Ref sig .tc := ⟨.hbm, 152, rfl⟩
abbrev main_call7_v0 : Ref sig .tc := ⟨.hbm, 153, rfl⟩
abbrev main_call7_v1 : Ref sig .tc := ⟨.hbm, 154, rfl⟩
abbrev main_v102 : Ref sig .tc := ⟨.hbm, 155, rfl⟩
abbrev main_cst_17 : Ref sig .tc := ⟨.hbm, 156, rfl⟩
abbrev main_v103 : Ref sig .tc := ⟨.hbm, 157, rfl⟩
abbrev main_v104 : Ref sig .tc := ⟨.hbm, 158, rfl⟩
abbrev main_cst_18 : Ref sig .tc := ⟨.hbm, 159, rfl⟩
abbrev main_cst_19 : Ref sig .tc := ⟨.hbm, 160, rfl⟩
abbrev main_call8_v0 : Ref sig .tc := ⟨.hbm, 161, rfl⟩
abbrev main_call8_v1 : Ref sig .tc := ⟨.hbm, 162, rfl⟩
abbrev main_v105 : Ref sig .tc := ⟨.hbm, 163, rfl⟩
abbrev main_cst_20 : Ref sig .tc := ⟨.hbm, 164, rfl⟩
abbrev main_v106 : Ref sig .tc := ⟨.hbm, 165, rfl⟩
abbrev main_v107 : Ref sig .tc := ⟨.hbm, 166, rfl⟩
abbrev main_cst_21 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_22 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_23 : Ref sig .tc := ⟨.hbm, 179, rfl⟩
abbrev main_v118 : Ref sig .tc := ⟨.hbm, 180, rfl⟩
abbrev main_v119 : Ref sig .tc := ⟨.hbm, 181, rfl⟩
abbrev main_cst_24 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_25 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_cst_26 : Ref sig .tc := ⟨.hbm, 194, rfl⟩
abbrev main_call10_v0 : Ref sig .tc := ⟨.hbm, 195, rfl⟩
abbrev main_call10_v1 : Ref sig .tc := ⟨.hbm, 196, rfl⟩
abbrev main_v130 : Ref sig .tc := ⟨.hbm, 197, rfl⟩
abbrev main_cst_27 : Ref sig .tc := ⟨.hbm, 198, rfl⟩
abbrev main_v131 : Ref sig .tc := ⟨.hbm, 199, rfl⟩
abbrev main_cst_28 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_29 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_cst_30 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_cst_31 : Ref sig .tc := ⟨.hbm, 226, rfl⟩
abbrev main_v155 : Ref sig .tc := ⟨.hbm, 227, rfl⟩
abbrev main_v156 : Ref sig .tc := ⟨.hbm, 228, rfl⟩
abbrev main_cst_32 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_cst_33 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_cst_34 : Ref sig .tc := ⟨.hbm, 266, rfl⟩
abbrev main_v192 : Ref sig .tc := ⟨.hbm, 267, rfl⟩
abbrev main_v193 : Ref sig .tc := ⟨.hbm, 268, rfl⟩
abbrev main_cst_35 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_cst_36 : Ref sig .tc := ⟨.hbm, 274, rfl⟩
abbrev main_call12_v0 : Ref sig .tc := ⟨.hbm, 275, rfl⟩
abbrev main_call12_v1 : Ref sig .tc := ⟨.hbm, 276, rfl⟩
abbrev main_call12_v2 : Ref sig .tc := ⟨.hbm, 277, rfl⟩
abbrev main_v198 : Ref sig .tc := ⟨.hbm, 278, rfl⟩
abbrev main_cst_37 : Ref sig .tc := ⟨.hbm, 279, rfl⟩
abbrev main_v199 : Ref sig .tc := ⟨.hbm, 280, rfl⟩
abbrev main_v200 : Ref sig .tc := ⟨.hbm, 281, rfl⟩
abbrev main_cst_38 : Ref sig .tc := ⟨.hbm, 282, rfl⟩
abbrev main_v201 : Ref sig .tc := ⟨.hbm, 283, rfl⟩
abbrev main_cst_39 : Ref sig .tc := ⟨.hbm, 284, rfl⟩
abbrev main_v202 : Ref sig .tc := ⟨.hbm, 285, rfl⟩
abbrev main_v203 : Ref sig .tc := ⟨.hbm, 286, rfl⟩
abbrev main_cst_40 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_cst_41 : Ref sig .tc := ⟨.hbm, 291, rfl⟩
abbrev main_call13_v0 : Ref sig .tc := ⟨.hbm, 292, rfl⟩
abbrev main_call13_v1 : Ref sig .tc := ⟨.hbm, 293, rfl⟩
abbrev main_v207 : Ref sig .tc := ⟨.hbm, 294, rfl⟩
abbrev main_v208 : Ref sig .tc := ⟨.hbm, 295, rfl⟩
abbrev main_call14_cst : Ref sig .tc := ⟨.hbm, 296, rfl⟩
abbrev main_call14_v0 : Ref sig .tc := ⟨.hbm, 297, rfl⟩
abbrev main_call14_v1 : Ref sig .tc := ⟨.hbm, 298, rfl⟩
abbrev main_call14_v2 : Ref sig .tc := ⟨.hbm, 299, rfl⟩
abbrev main_call14_v3 : Ref sig .tc := ⟨.hbm, 300, rfl⟩
abbrev main_call14_v4 : Ref sig .tc := ⟨.hbm, 301, rfl⟩
abbrev main_call14_v5 : Ref sig .tc := ⟨.hbm, 302, rfl⟩
abbrev main_call14_v6 : Ref sig .tc := ⟨.hbm, 303, rfl⟩
abbrev main_call14_v7 : Ref sig .tc := ⟨.hbm, 304, rfl⟩
abbrev main_call14_v8 : Ref sig .tc := ⟨.hbm, 305, rfl⟩
abbrev main_call14_v9 : Ref sig .tc := ⟨.hbm, 306, rfl⟩
abbrev main_call14_v10 : Ref sig .tc := ⟨.hbm, 307, rfl⟩
abbrev main_call14_v11 : Ref sig .tc := ⟨.hbm, 308, rfl⟩
abbrev main_v209 : Ref sig .tc := ⟨.hbm, 309, rfl⟩
abbrev main_cst_42 : Ref sig .tc := ⟨.hbm, 310, rfl⟩
abbrev main_v210 : Ref sig .tc := ⟨.hbm, 311, rfl⟩
abbrev main_cst_43 : Ref sig .tc := ⟨.hbm, 312, rfl⟩
abbrev main_v211 : Ref sig .tc := ⟨.hbm, 313, rfl⟩
abbrev main_v212 : Ref sig .tc := ⟨.hbm, 314, rfl⟩
abbrev main_cst_44 : Ref sig .tc := ⟨.hbm, 315, rfl⟩
abbrev main_v213 : Ref sig .tc := ⟨.hbm, 316, rfl⟩
abbrev main_v214 : Ref sig .tc := ⟨.hbm, 317, rfl⟩
abbrev main_cst_45 : Ref sig .tc := ⟨.hbm, 318, rfl⟩
abbrev main_v215 : Ref sig .tc := ⟨.hbm, 319, rfl⟩
abbrev main_v216 : Ref sig .tc := ⟨.hbm, 320, rfl⟩
abbrev main_cst_46 : Ref sig .tc := ⟨.hbm, 321, rfl⟩
abbrev main_v217 : Ref sig .tc := ⟨.hbm, 322, rfl⟩
abbrev main_v218 : Ref sig .tc := ⟨.hbm, 323, rfl⟩
abbrev main_cst_47 : Ref sig .tc := ⟨.hbm, 324, rfl⟩
abbrev main_v219 : Ref sig .tc := ⟨.hbm, 325, rfl⟩
abbrev main_v220 : Ref sig .tc := ⟨.hbm, 326, rfl⟩
abbrev main_cst_48 : Ref sig .tc := ⟨.hbm, 327, rfl⟩
abbrev main_v221 : Ref sig .tc := ⟨.hbm, 328, rfl⟩
abbrev main_v222 : Ref sig .tc := ⟨.hbm, 329, rfl⟩
abbrev main_cst_49 : Ref sig .tc := ⟨.hbm, 330, rfl⟩
abbrev main_v223 : Ref sig .tc := ⟨.hbm, 331, rfl⟩
abbrev main_v224 : Ref sig .tc := ⟨.hbm, 332, rfl⟩

abbrev nD : Nat := 1
abbrev τ : Topo := Topo.v7x

variable {F : FTy → Type} [FloatOps F]
-- ==== Proof.Ref.Ops.lean ====
/- The reference program: its operations as a list, in the order @main runs them. -/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- An array of a shape and an element type. -/
abbrev Arr (F : FTy → Type) [FloatOps F] (s : Shape) (e : EltTy) := (⟨s, e⟩ : BufTy).Contents (Elt F)
/-- The contents of all buffers of a device. -/
abbrev Bufs (F : FTy → Type) [FloatOps F] := Valuation τ sig (Elt F)
/-- The contents of one buffer. -/
abbrev Res (F : FTy → Type) [FloatOps F] (r : Ref sig .tc) := (Proc.devRef .tc r : DevRef τ sig).ty.Contents (Elt F)

/-- The four-way concatenation of the regression targets, named so that its operands stay plain arguments. -/
def fn_main_v183 : (main_v179 : Ref sig .tc).ty.Contents (Elt F) → (main_v180 : Ref sig .tc).ty.Contents (Elt F) → (main_v181 : Ref sig .tc).ty.Contents (Elt F) → (main_v182 : Ref sig .tc).ty.Contents (Elt F) → (main_v183 : Ref sig .tc).ty.Contents (Elt F) :=
  (fun u0 u1 u2 u3 => (concatenate S4x100000x4 2 [⟨S4x100000x1, (u0 : Arr F S4x100000x1 .f32)⟩, ⟨S4x100000x1, (u1 : Arr F S4x100000x1 .f32)⟩, ⟨S4x100000x1, (u2 : Arr F S4x100000x1 .f32)⟩, ⟨S4x100000x1, (u3 : Arr F S4x100000x1 .f32)⟩] concatenates_S4x100000x1_S4x100000x1_S4x100000x1_S4x100000x1_S4x100000x4_d2 : Arr F S4x100000x4 .f32))

abbrev ops_part0_0 : List (HloOp τ sig (Elt F)) :=
  [ nullary main_cst (fun i => FloatOps.ofBits .f32 (lit0 (S4.rowMajor i))),
    nullary main_cst_0 (constant S_ .f32 0x38D1B717#32),
    nullary main_cst_1 (constant S_ .f32 0x3F7FF972#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x100000x80, .f32⟩) main_call0_v1) (broadcastInDim S4x100000x80 ![] bcast_S_S4x100000x80),
    TRef.binary (TRef.of (T := ⟨S4x100000x80, .f32⟩) main_call0_v1) (TRef.of (T := ⟨S4x100000x80, .f32⟩) main_arg0) (TRef.of (T := ⟨S4x100000x80, .f32⟩) main_call0_v2) maximumf,
    TRef.unary (TRef.of (T := ⟨S_, .f32⟩) main_cst_1) (TRef.of (T := ⟨S_, .f32⟩) main_call0_v3) id,
    TRef.unary (TRef.of (T := ⟨S_, .f32⟩) main_call0_v3) (TRef.of (T := ⟨S4x100000x80, .f32⟩) main_call0_v4) (broadcastInDim S4x100000x80 ![] bcast_S_S4x100000x80),
    TRef.binary (TRef.of (T := ⟨S4x100000x80, .f32⟩) main_call0_v4) (TRef.of (T := ⟨S4x100000x80, .f32⟩) main_call0_v2) (TRef.of (T := ⟨S4x100000x80, .f32⟩) main_v0) minimumf,
    unary main_arg2 main_v1 ((extractStridedSlice S1x100000x1 ![0, 0, 0] · slices_S1x100000x4_S1x100000x1_0_0_0) : Arr F S1x100000x4 .f32 → Arr F S1x100000x1 .f32),
    reshape main_v1 main_v2 (rfl : (.f32 : EltTy) = .f32) shapeCasts_S1x100000x1_S100000,
    unary main_arg2 main_v3 ((extractStridedSlice S1x100000x1 ![0, 0, 1] · slices_S1x100000x4_S1x100000x1_0_0_1) : Arr F S1x100000x4 .f32 → Arr F S1x100000x1 .f32),
    reshape main_v3 main_v4 (rfl : (.f32 : EltTy) = .f32) shapeCasts_S1x100000x1_S100000,
    unary main_arg2 main_v5 ((extractStridedSlice S1x100000x1 ![0, 0, 2] · slices_S1x100000x4_S1x100000x1_0_0_2) : Arr F S1x100000x4 .f32 → Arr F S1x100000x1 .f32),
    reshape main_v5 main_v6 (rfl : (.f32 : EltTy) = .f32) shapeCasts_S1x100000x1_S100000,
    unary main_arg2 main_v7 ((extractStridedSlice S1x100000x1 ![0, 0, 3] · slices_S1x100000x4_S1x100000x1_0_0_3) : Arr F S1x100000x4 .f32 → Arr F S1x100000x1 .f32),
    reshape main_v7 main_v8 (rfl : (.f32 : EltTy) = .f32) shapeCasts_S1x100000x1_S100000,
    binary main_v6 main_v2 main_v9 (subf : Arr F S100000 .f32 → Arr F S100000 .f32 → Arr F S100000 .f32),
    binary main_v8 main_v4 main_v10 (subf : Arr F S100000 .f32 → Arr F S100000 .f32 → Arr F S100000 .f32),
    nullary main_cst_2 (constant S_ .f32 0x3F000000#32),
    unary main_cst_2 main_v11 (broadcastInDim S100000 ![] bcast_S_S100000 : Arr F S_ .f32 → Arr F S100000 .f32),
    binary main_v11 main_v9 main_v12 (mulf : Arr F S100000 .f32 → Arr F S100000 .f32 → Arr F S100000 .f32),
    binary main_v2 main_v12 main_v13 (addf : Arr F S100000 .f32 → Arr F S100000 .f32 → Arr F S100000 .f32),
    nullary main_cst_3 (constant S_ .f32 0x3F000000#32),
    unary main_cst_3 main_v14 (broadcastInDim S100000 ![] bcast_S_S100000 : Arr F S_ .f32 → Arr F S100000 .f32),
    binary main_v14 main_v10 main_v15 (mulf : Arr F S100000 .f32 → Arr F S100000 .f32 → Arr F S100000 .f32),
    binary main_v4 main_v15 main_v16 (addf : Arr F S100000 .f32 → Arr F S100000 .f32 → Arr F S100000 .f32),
    unary main_arg4 main_v17 ((extractStridedSlice S4x32x1 ![0, 0, 0] · slices_S4x32x7_S4x32x1_0_0_0) : Arr F S4x32x7 .f32 → Arr F S4x32x1 .f32),
    reshape main_v17 main_v18 (rfl : (.f32 : EltTy) = .f32) shapeCasts_S4x32x1_S4x32,
    unary main_v18 main_v19 (broadcastInDim S4x1x32 ![0, 2] bcast_S4x32_S4x1x32_0_2 : Arr F S4x32 .f32 → Arr F S4x1x32 .f32) ]

abbrev ops_part0_1 : List (HloOp τ sig (Elt F)) :=
  [ unary main_arg4 main_v20 ((extractStridedSlice S4x32x1 ![0, 0, 1] · slices_S4x32x7_S4x32x1_0_0_1) : Arr F S4x32x7 .f32 → Arr F S4x32x1 .f32),
    reshape main_v20 main_v21 (rfl : (.f32 : EltTy) = .f32) shapeCasts_S4x32x1_S4x32,
    unary main_v21 main_v22 (broadcastInDim S4x1x32 ![0, 2] bcast_S4x32_S4x1x32_0_2 : Arr F S4x32 .f32 → Arr F S4x1x32 .f32),
    unary main_arg4 main_v23 ((extractStridedSlice S4x32x1 ![0, 0, 2] · slices_S4x32x7_S4x32x1_0_0_2) : Arr F S4x32x7 .f32 → Arr F S4x32x1 .f32),
    reshape main_v23 main_v24 (rfl : (.f32 : EltTy) = .f32) shapeCasts_S4x32x1_S4x32,
    unary main_v24 main_v25 (broadcastInDim S4x1x32 ![0, 2] bcast_S4x32_S4x1x32_0_2 : Arr F S4x32 .f32 → Arr F S4x1x32 .f32),
    unary main_arg4 main_v26 ((extractStridedSlice S4x32x1 ![0, 0, 3] · slices_S4x32x7_S4x32x1_0_0_3) : Arr F S4x32x7 .f32 → Arr F S4x32x1 .f32),
    reshape main_v26 main_v27 (rfl : (.f32 : EltTy) = .f32) shapeCasts_S4x32x1_S4x32,
    unary main_v27 main_v28 (broadcastInDim S4x1x32 ![0, 2] bcast_S4x32_S4x1x32_0_2 : Arr F S4x32 .f32 → Arr F S4x1x32 .f32),
    unary main_v6 main_v29 (broadcastInDim S1x100000x1 ![1] bcast_S100000_S1x100000x1_1 : Arr F S100000 .f32 → Arr F S1x100000x1 .f32),
    unary main_v29 main_v30 (broadcastInDim S4x100000x32 ![0, 1, 2] bcast_S1x100000x1_S4x100000x32_0_1_2 : Arr F S1x100000x1 .f32 → Arr F S4x100000x32 .f32),
    unary main_v25 main_v31 (broadcastInDim S4x100000x32 ![0, 1, 2] bcast_S4x1x32_S4x100000x32_0_1_2 : Arr F S4x1x32 .f32 → Arr F S4x100000x32 .f32),
    binary main_v30 main_v31 main_v32 (minimumf : Arr F S4x100000x32 .f32 → Arr F S4x100000x32 .f32 → Arr F S4x100000x32 .f32),
    unary main_v2 main_v33 (broadcastInDim S1x100000x1 ![1] bcast_S100000_S1x100000x1_1 : Arr F S100000 .f32 → Arr F S1x100000x1 .f32),
    unary main_v33 main_v34 (broadcastInDim S4x100000x32 ![0, 1, 2] bcast_S1x100000x1_S4x100000x32_0_1_2 : Arr F S1x100000x1 .f32 → Arr F S4x100000x32 .f32),
    unary main_v19 main_v35 (broadcastInDim S4x100000x32 ![0, 1, 2] bcast_S4x1x32_S4x100000x32_0_1_2 : Arr F S4x1x32 .f32 → Arr F S4x100000x32 .f32),
    binary main_v34 main_v35 main_v36 (maximumf : Arr F S4x100000x32 .f32 → Arr F S4x100000x32 .f32 → Arr F S4x100000x32 .f32),
    binary main_v32 main_v36 main_v37 (subf : Arr F S4x100000x32 .f32 → Arr F S4x100000x32 .f32 → Arr F S4x100000x32 .f32),
    unary main_v8 main_v38 (broadcastInDim S1x100000x1 ![1] bcast_S100000_S1x100000x1_1 : Arr F S100000 .f32 → Arr F S1x100000x1 .f32),
    unary main_v38 main_v39 (broadcastInDim S4x100000x32 ![0, 1, 2] bcast_S1x100000x1_S4x100000x32_0_1_2 : Arr F S1x100000x1 .f32 → Arr F S4x100000x32 .f32),
    unary main_v28 main_v40 (broadcastInDim S4x100000x32 ![0, 1, 2] bcast_S4x1x32_S4x100000x32_0_1_2 : Arr F S4x1x32 .f32 → Arr F S4x100000x32 .f32),
    binary main_v39 main_v40 main_v41 (minimumf : Arr F S4x100000x32 .f32 → Arr F S4x100000x32 .f32 → Arr F S4x100000x32 .f32),
    unary main_v4 main_v42 (broadcastInDim S1x100000x1 ![1] bcast_S100000_S1x100000x1_1 : Arr F S100000 .f32 → Arr F S1x100000x1 .f32),
    unary main_v42 main_v43 (broadcastInDim S4x100000x32 ![0, 1, 2] bcast_S1x100000x1_S4x100000x32_0_1_2 : Arr F S1x100000x1 .f32 → Arr F S4x100000x32 .f32),
    unary main_v22 main_v44 (broadcastInDim S4x100000x32 ![0, 1, 2] bcast_S4x1x32_S4x100000x32_0_1_2 : Arr F S4x1x32 .f32 → Arr F S4x100000x32 .f32),
    binary main_v43 main_v44 main_v45 (maximumf : Arr F S4x100000x32 .f32 → Arr F S4x100000x32 .f32 → Arr F S4x100000x32 .f32),
    binary main_v41 main_v45 main_v46 (subf : Arr F S4x100000x32 .f32 → Arr F S4x100000x32 .f32 → Arr F S4x100000x32 .f32),
    nullary main_cst_4 (constant S_ .f32 0x00000000#32),
    unary main_cst_4 main_v47 (broadcastInDim S4x100000x32 ![] bcast_S_S4x100000x32 : Arr F S_ .f32 → Arr F S4x100000x32 .f32),
    binary main_v37 main_v47 main_v48 (maximumf : Arr F S4x100000x32 .f32 → Arr F S4x100000x32 .f32 → Arr F S4x100000x32 .f32) ]

abbrev ops_part0_2 : List (HloOp τ sig (Elt F)) :=
  [ nullary main_cst_5 (constant S_ .f32 0x00000000#32),
    unary main_cst_5 main_v49 (broadcastInDim S4x100000x32 ![] bcast_S_S4x100000x32 : Arr F S_ .f32 → Arr F S4x100000x32 .f32),
    binary main_v46 main_v49 main_v50 (maximumf : Arr F S4x100000x32 .f32 → Arr F S4x100000x32 .f32 → Arr F S4x100000x32 .f32),
    binary main_v48 main_v50 main_v51 (mulf : Arr F S4x100000x32 .f32 → Arr F S4x100000x32 .f32 → Arr F S4x100000x32 .f32),
    binary main_v9 main_v10 main_v52 (mulf : Arr F S100000 .f32 → Arr F S100000 .f32 → Arr F S100000 .f32) ]

/-- The operations of the first stretch of @main. -/
def ops_part0 : List (HloOp τ sig (Elt F)) :=
  ops_part0_0 ++ (ops_part0_1 ++ (ops_part0_2))

abbrev ops_part1_0 : List (HloOp τ sig (Elt F)) :=
  [ unary main_v52 main_v53 (broadcastInDim S1x100000x1 ![1] bcast_S100000_S1x100000x1_1 : Arr F S100000 .f32 → Arr F S1x100000x1 .f32),
    binary main_v25 main_v19 main_v54 (subf : Arr F S4x1x32 .f32 → Arr F S4x1x32 .f32 → Arr F S4x1x32 .f32),
    binary main_v28 main_v22 main_v55 (subf : Arr F S4x1x32 .f32 → Arr F S4x1x32 .f32 → Arr F S4x1x32 .f32),
    binary main_v54 main_v55 main_v56 (mulf : Arr F S4x1x32 .f32 → Arr F S4x1x32 .f32 → Arr F S4x1x32 .f32),
    unary main_v53 main_v57 (broadcastInDim S4x100000x32 ![0, 1, 2] bcast_S1x100000x1_S4x100000x32_0_1_2 : Arr F S1x100000x1 .f32 → Arr F S4x100000x32 .f32),
    unary main_v56 main_v58 (broadcastInDim S4x100000x32 ![0, 1, 2] bcast_S4x1x32_S4x100000x32_0_1_2 : Arr F S4x1x32 .f32 → Arr F S4x100000x32 .f32),
    binary main_v57 main_v58 main_v59 (addf : Arr F S4x100000x32 .f32 → Arr F S4x100000x32 .f32 → Arr F S4x100000x32 .f32),
    binary main_v59 main_v51 main_v60 (subf : Arr F S4x100000x32 .f32 → Arr F S4x100000x32 .f32 → Arr F S4x100000x32 .f32),
    nullary main_cst_6 (constant S_ .f32 0x322BCC77#32),
    unary main_cst_6 main_v61 (broadcastInDim S4x100000x32 ![] bcast_S_S4x100000x32 : Arr F S_ .f32 → Arr F S4x100000x32 .f32),
    binary main_v60 main_v61 main_v62 (maximumf : Arr F S4x100000x32 .f32 → Arr F S4x100000x32 .f32 → Arr F S4x100000x32 .f32),
    binary main_v51 main_v62 main_v63 (Host.divf : Arr F S4x100000x32 .f32 → Arr F S4x100000x32 .f32 → Arr F S4x100000x32 .f32),
    nullary main_cst_7 (constant S_ .f32 0xFF800000#32),
    binary main_v63 main_cst_7 main_v64 ((fun x v => Host.reduce FloatOps.maximumf x v reducesTo_S4x100000x32_S4x100000_d2 h_S_) : Arr F S4x100000x32 .f32 → Arr F S_ .f32 → Arr F S4x100000 .f32),
    TRef.nullary (TRef.of (T := ⟨S4x100000x32, .i32⟩) main_call1_v0) (iotaInDim S4x100000x32 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4x100000x32, .f32⟩) main_v63) (TRef.of (T := ⟨S4x100000x32, .i32⟩) main_call1_v0) (TRef.of (T := ⟨S_, .f32⟩) main_call1_cst) (TRef.of (T := ⟨S_, .i32⟩) main_call1_c) (TRef.of (T := ⟨S4x100000, .f32⟩) main_call1_v1_0) (fun x y u v j => (Host.argReduce reducer_argmax_f32_i32 x y u v reducesTo_S4x100000x32_S4x100000_d2 h_S_ j).1),
    TRef.quaternary (TRef.of (T := ⟨S4x100000x32, .f32⟩) main_v63) (TRef.of (T := ⟨S4x100000x32, .i32⟩) main_call1_v0) (TRef.of (T := ⟨S_, .f32⟩) main_call1_cst) (TRef.of (T := ⟨S_, .i32⟩) main_call1_c) (TRef.of (T := ⟨S4x100000, .i32⟩) main_v65) (fun x y u v j => (Host.argReduce reducer_argmax_f32_i32 x y u v reducesTo_S4x100000x32_S4x100000_d2 h_S_ j).2),
    nullary main_c (constantI S_ 32 0#32),
    unary main_c main_v66 (broadcastInDim S4x100000 ![] bcast_S_S4x100000 : Arr F S_ .i32 → Arr F S4x100000 .i32),
    binary main_v65 main_v66 main_v67 (cmpi .slt : Arr F S4x100000 .i32 → Arr F S4x100000 .i32 → Arr F S4x100000 .i1),
    nullary main_c_8 (constantI S_ 32 32#32),
    unary main_c_8 main_v68 (broadcastInDim S4x100000 ![] bcast_S_S4x100000 : Arr F S_ .i32 → Arr F S4x100000 .i32),
    binary main_v65 main_v68 main_v69 (addi : Arr F S4x100000 .i32 → Arr F S4x100000 .i32 → Arr F S4x100000 .i32),
    ternary main_v67 main_v69 main_v65 main_v70 (select : Arr F S4x100000 .i1 → Arr F S4x100000 .i32 → Arr F S4x100000 .i32 → Arr F S4x100000 .i32),
    unary main_v70 main_v71 (broadcastInDim S4x100000x1 ![0, 1] bcast_S4x100000_S4x100000x1_0_1 : Arr F S4x100000 .i32 → Arr F S4x100000x1 .i32),
    binary main_arg4 main_v71 main_v72 ((fun x i => Host.gather gather_S4x32x7_S4x100000x1_S4x100000x7_2_1_0_0_1_2_117 x i) : Arr F S4x32x7 .f32 → Arr F S4x100000x1 .i32 → Arr F S4x100000x7 .f32),
    nullary main_cst_9 (constant S_ .f32 0x3F000000#32),
    unary main_cst_9 main_v73 (broadcastInDim S4x100000 ![] bcast_S_S4x100000 : Arr F S_ .f32 → Arr F S4x100000 .f32) ]

abbrev ops_part1_1 : List (HloOp τ sig (Elt F)) :=
  [ binary main_v64 main_v73 main_v74 (cmpf .oge : Arr F S4x100000 .f32 → Arr F S4x100000 .f32 → Arr F S4x100000 .i1),
    unary main_v74 main_v75 ((extui 32 · natLt_1_32) : Arr F S4x100000 .i1 → Arr F S4x100000 .i32),
    nullary main_c_10 (constantI S_ 32 0#32),
    binary main_v75 main_c_10 main_v76 ((fun x v => Host.reduce IntOp.addi x v reducesTo_S4x100000_S4_d1 h_S_) : Arr F S4x100000 .i32 → Arr F S_ .i32 → Arr F S4 .i32),
    unary main_v76 main_v77 (sitofp .f32 : Arr F S4 .i32 → Arr F S4 .f32),
    nullary main_cst_11 (constant S_ .f32 0x3ECCCCCD#32),
    unary main_cst_11 main_v78 (broadcastInDim S4x100000 ![] bcast_S_S4x100000 : Arr F S_ .f32 → Arr F S4x100000 .f32),
    binary main_v64 main_v78 main_v79 (cmpf .olt : Arr F S4x100000 .f32 → Arr F S4x100000 .f32 → Arr F S4x100000 .i1),
    nullary main_cst_12 (constant S_ .f32 0x00000000#32),
    nullary main_cst_13 (constant S_ .f32 0xBF800000#32),
    TRef.unary (TRef.of (T := ⟨S_, .f32⟩) main_cst_12) (TRef.of (T := ⟨S4x100000, .f32⟩) main_call2_v0) (broadcastInDim S4x100000 ![] bcast_S_S4x100000),
    TRef.unary (TRef.of (T := ⟨S_, .f32⟩) main_cst_13) (TRef.of (T := ⟨S4x100000, .f32⟩) main_call2_v1) (broadcastInDim S4x100000 ![] bcast_S_S4x100000),
    TRef.ternary (TRef.of (T := ⟨S4x100000, .i1⟩) main_v79) (TRef.of (T := ⟨S4x100000, .f32⟩) main_call2_v0) (TRef.of (T := ⟨S4x100000, .f32⟩) main_call2_v1) (TRef.of (T := ⟨S4x100000, .f32⟩) main_v80) select,
    nullary main_cst_14 (constant S_ .f32 0x00000000#32),
    TRef.unary (TRef.of (T := ⟨S_, .f32⟩) main_cst_14) (TRef.of (T := ⟨S4x100000, .f32⟩) main_call3_v0) (broadcastInDim S4x100000 ![] bcast_S_S4x100000),
    TRef.ternary (TRef.of (T := ⟨S4x100000, .i1⟩) main_v74) (TRef.of (T := ⟨S4x100000, .f32⟩) main_call3_v0) (TRef.of (T := ⟨S4x100000, .f32⟩) main_v80) (TRef.of (T := ⟨S4x100000, .f32⟩) main_v81) select,
    unary main_v72 main_v82 ((extractStridedSlice S4x100000x1 ![0, 0, 4] · slices_S4x100000x7_S4x100000x1_0_0_4) : Arr F S4x100000x7 .f32 → Arr F S4x100000x1 .f32),
    reshape main_v82 main_v83 (rfl : (.f32 : EltTy) = .f32) shapeCasts_S4x100000x1_S4x100000,
    unary main_v83 main_v84 (fptosi 32 : Arr F S4x100000 .f32 → Arr F S4x100000 .i32),
    TRef.unary (TRef.of (T := ⟨S4x100000, .i32⟩) main_v84) (TRef.of (T := ⟨S4x100000x1, .i32⟩) main_call4_v0) (broadcastInDim S4x100000x1 ![0, 1] bcast_S4x100000_S4x100000x1_0_1),
    TRef.nullary (TRef.of (T := ⟨S1x1x80, .i32⟩) main_call4_v1) (iotaInDim S1x1x80 32 2),
    TRef.unary (TRef.of (T := ⟨S4x100000x1, .i32⟩) main_call4_v0) (TRef.of (T := ⟨S4x100000x80, .i32⟩) main_call4_v2) (broadcastInDim S4x100000x80 ![0, 1, 2] bcast_S4x100000x1_S4x100000x80_0_1_2),
    TRef.unary (TRef.of (T := ⟨S1x1x80, .i32⟩) main_call4_v1) (TRef.of (T := ⟨S4x100000x80, .i32⟩) main_call4_v3) (broadcastInDim S4x100000x80 ![0, 1, 2] bcast_S1x1x80_S4x100000x80_0_1_2),
    TRef.binary (TRef.of (T := ⟨S4x100000x80, .i32⟩) main_call4_v2) (TRef.of (T := ⟨S4x100000x80, .i32⟩) main_call4_v3) (TRef.of (T := ⟨S4x100000x80, .i1⟩) main_call4_v4) (cmpi .eq),
    TRef.unary (TRef.of (T := ⟨S4x100000x80, .i1⟩) main_call4_v4) (TRef.of (T := ⟨S4x100000x80, .f32⟩) main_v85) (uitofp .f32),
    unary main_v72 main_v86 ((extractStridedSlice S4x100000x1 ![0, 0, 5] · slices_S4x100000x7_S4x100000x1_0_0_5) : Arr F S4x100000x7 .f32 → Arr F S4x100000x1 .f32),
    reshape main_v86 main_v87 (rfl : (.f32 : EltTy) = .f32) shapeCasts_S4x100000x1_S4x100000,
    unary main_v87 main_v88 (fptosi 32 : Arr F S4x100000 .f32 → Arr F S4x100000 .i32),
    TRef.unary (TRef.of (T := ⟨S4x100000, .i32⟩) main_v88) (TRef.of (T := ⟨S4x100000x1, .i32⟩) main_call5_v0) (broadcastInDim S4x100000x1 ![0, 1] bcast_S4x100000_S4x100000x1_0_1),
    TRef.nullary (TRef.of (T := ⟨S1x1x80, .i32⟩) main_call5_v1) (iotaInDim S1x1x80 32 2) ]

abbrev ops_part1_2 : List (HloOp τ sig (Elt F)) :=
  [ TRef.unary (TRef.of (T := ⟨S4x100000x1, .i32⟩) main_call5_v0) (TRef.of (T := ⟨S4x100000x80, .i32⟩) main_call5_v2) (broadcastInDim S4x100000x80 ![0, 1, 2] bcast_S4x100000x1_S4x100000x80_0_1_2),
    TRef.unary (TRef.of (T := ⟨S1x1x80, .i32⟩) main_call5_v1) (TRef.of (T := ⟨S4x100000x80, .i32⟩) main_call5_v3) (broadcastInDim S4x100000x80 ![0, 1, 2] bcast_S1x1x80_S4x100000x80_0_1_2),
    TRef.binary (TRef.of (T := ⟨S4x100000x80, .i32⟩) main_call5_v2) (TRef.of (T := ⟨S4x100000x80, .i32⟩) main_call5_v3) (TRef.of (T := ⟨S4x100000x80, .i1⟩) main_call5_v4) (cmpi .eq),
    TRef.unary (TRef.of (T := ⟨S4x100000x80, .i1⟩) main_call5_v4) (TRef.of (T := ⟨S4x100000x80, .f32⟩) main_v89) (uitofp .f32),
    binary main_v85 main_v89 main_v90 (addf : Arr F S4x100000x80 .f32 → Arr F S4x100000x80 .f32 → Arr F S4x100000x80 .f32),
    unary main_v72 main_v91 ((extractStridedSlice S4x100000x1 ![0, 0, 6] · slices_S4x100000x7_S4x100000x1_0_0_6) : Arr F S4x100000x7 .f32 → Arr F S4x100000x1 .f32),
    reshape main_v91 main_v92 (rfl : (.f32 : EltTy) = .f32) shapeCasts_S4x100000x1_S4x100000,
    unary main_v92 main_v93 (fptosi 32 : Arr F S4x100000 .f32 → Arr F S4x100000 .i32),
    TRef.unary (TRef.of (T := ⟨S4x100000, .i32⟩) main_v93) (TRef.of (T := ⟨S4x100000x1, .i32⟩) main_call6_v0) (broadcastInDim S4x100000x1 ![0, 1] bcast_S4x100000_S4x100000x1_0_1),
    TRef.nullary (TRef.of (T := ⟨S1x1x80, .i32⟩) main_call6_v1) (iotaInDim S1x1x80 32 2),
    TRef.unary (TRef.of (T := ⟨S4x100000x1, .i32⟩) main_call6_v0) (TRef.of (T := ⟨S4x100000x80, .i32⟩) main_call6_v2) (broadcastInDim S4x100000x80 ![0, 1, 2] bcast_S4x100000x1_S4x100000x80_0_1_2),
    TRef.unary (TRef.of (T := ⟨S1x1x80, .i32⟩) main_call6_v1) (TRef.of (T := ⟨S4x100000x80, .i32⟩) main_call6_v3) (broadcastInDim S4x100000x80 ![0, 1, 2] bcast_S1x1x80_S4x100000x80_0_1_2),
    TRef.binary (TRef.of (T := ⟨S4x100000x80, .i32⟩) main_call6_v2) (TRef.of (T := ⟨S4x100000x80, .i32⟩) main_call6_v3) (TRef.of (T := ⟨S4x100000x80, .i1⟩) main_call6_v4) (cmpi .eq),
    TRef.unary (TRef.of (T := ⟨S4x100000x80, .i1⟩) main_call6_v4) (TRef.of (T := ⟨S4x100000x80, .f32⟩) main_v94) (uitofp .f32),
    binary main_v90 main_v94 main_v95 (addf : Arr F S4x100000x80 .f32 → Arr F S4x100000x80 .f32 → Arr F S4x100000x80 .f32),
    nullary main_cst_15 (constant S_ .f32 0x00000000#32),
    unary main_cst_15 main_v96 (broadcastInDim S4x100000x80 ![] bcast_S_S4x100000x80 : Arr F S_ .f32 → Arr F S4x100000x80 .f32),
    binary main_v95 main_v96 main_v97 (cmpf .ogt : Arr F S4x100000x80 .f32 → Arr F S4x100000x80 .f32 → Arr F S4x100000x80 .i1),
    unary main_v74 main_v98 (broadcastInDim S4x100000x1 ![0, 1] bcast_S4x100000_S4x100000x1_0_1 : Arr F S4x100000 .i1 → Arr F S4x100000x1 .i1),
    unary main_v98 main_v99 (broadcastInDim S4x100000x80 ![0, 1, 2] bcast_S4x100000x1_S4x100000x80_0_1_2 : Arr F S4x100000x1 .i1 → Arr F S4x100000x80 .i1),
    binary main_v99 main_v97 main_v100 (andi : Arr F S4x100000x80 .i1 → Arr F S4x100000x80 .i1 → Arr F S4x100000x80 .i1),
    unary main_v81 main_v101 (broadcastInDim S4x100000x1 ![0, 1] bcast_S4x100000_S4x100000x1_0_1 : Arr F S4x100000 .f32 → Arr F S4x100000x1 .f32) ]

/-- The operations of the second stretch of @main. -/
def ops_part1 : List (HloOp τ sig (Elt F)) :=
  ops_part1_0 ++ (ops_part1_1 ++ (ops_part1_2))

abbrev ops_part2_0 : List (HloOp τ sig (Elt F)) :=
  [ nullary main_cst_16 (constant S_ .f32 0x3F800000#32),
    TRef.unary (TRef.of (T := ⟨S_, .f32⟩) main_cst_16) (TRef.of (T := ⟨S4x100000x80, .f32⟩) main_call7_v0) (broadcastInDim S4x100000x80 ![] bcast_S_S4x100000x80),
    TRef.unary (TRef.of (T := ⟨S4x100000x1, .f32⟩) main_v101) (TRef.of (T := ⟨S4x100000x80, .f32⟩) main_call7_v1) (broadcastInDim S4x100000x80 ![0, 1, 2] bcast_S4x100000x1_S4x100000x80_0_1_2),
    TRef.ternary (TRef.of (T := ⟨S4x100000x80, .i1⟩) main_v100) (TRef.of (T := ⟨S4x100000x80, .f32⟩) main_call7_v0) (TRef.of (T := ⟨S4x100000x80, .f32⟩) main_call7_v1) (TRef.of (T := ⟨S4x100000x80, .f32⟩) main_v102) select,
    nullary main_cst_17 (constant S_ .f32 0x3F800000#32),
    unary main_cst_17 main_v103 (broadcastInDim S4x100000x80 ![] bcast_S_S4x100000x80 : Arr F S_ .f32 → Arr F S4x100000x80 .f32),
    binary main_v102 main_v103 main_v104 (cmpf .oeq : Arr F S4x100000x80 .f32 → Arr F S4x100000x80 .f32 → Arr F S4x100000x80 .i1),
    nullary main_cst_18 (constant S_ .f32 0x3E800000#32),
    nullary main_cst_19 (constant S_ .f32 0x3F400000#32),
    TRef.unary (TRef.of (T := ⟨S_, .f32⟩) main_cst_18) (TRef.of (T := ⟨S4x100000x80, .f32⟩) main_call8_v0) (broadcastInDim S4x100000x80 ![] bcast_S_S4x100000x80),
    TRef.unary (TRef.of (T := ⟨S_, .f32⟩) main_cst_19) (TRef.of (T := ⟨S4x100000x80, .f32⟩) main_call8_v1) (broadcastInDim S4x100000x80 ![] bcast_S_S4x100000x80),
    TRef.ternary (TRef.of (T := ⟨S4x100000x80, .i1⟩) main_v104) (TRef.of (T := ⟨S4x100000x80, .f32⟩) main_call8_v0) (TRef.of (T := ⟨S4x100000x80, .f32⟩) main_call8_v1) (TRef.of (T := ⟨S4x100000x80, .f32⟩) main_v105) select,
    nullary main_cst_20 (constant S_ .f32 0x3F800000#32),
    unary main_cst_20 main_v106 (broadcastInDim S4x100000x80 ![] bcast_S_S4x100000x80 : Arr F S_ .f32 → Arr F S4x100000x80 .f32),
    binary main_v102 main_v106 main_v107 (cmpf .oeq : Arr F S4x100000x80 .f32 → Arr F S4x100000x80 .f32 → Arr F S4x100000x80 .i1),
    nullary main_cst_21 (constant S_ .f32 0x3F800000#32),
    unary main_cst_21 main_v108 (broadcastInDim S4x100000x80 ![] bcast_S_S4x100000x80 : Arr F S_ .f32 → Arr F S4x100000x80 .f32),
    binary main_v108 main_v0 main_v109 (subf : Arr F S4x100000x80 .f32 → Arr F S4x100000x80 .f32 → Arr F S4x100000x80 .f32),
    TRef.ternary (TRef.of (T := ⟨S4x100000x80, .i1⟩) main_v107) (TRef.of (T := ⟨S4x100000x80, .f32⟩) main_v109) (TRef.of (T := ⟨S4x100000x80, .f32⟩) main_v0) (TRef.of (T := ⟨S4x100000x80, .f32⟩) main_v110) select,
    nullary main_cst_22 (constant S_ .f32 0x40000000#32),
    unary main_cst_22 main_v111 (broadcastInDim S4x100000x80 ![] bcast_S_S4x100000x80 : Arr F S_ .f32 → Arr F S4x100000x80 .f32),
    binary main_v110 main_v111 main_v112 (Host.powf : Arr F S4x100000x80 .f32 → Arr F S4x100000x80 .f32 → Arr F S4x100000x80 .f32),
    unary main_v105 main_v113 (id : Arr F S4x100000x80 .f32 → Arr F S4x100000x80 .f32),
    binary main_v113 main_v112 main_v114 (mulf : Arr F S4x100000x80 .f32 → Arr F S4x100000x80 .f32 → Arr F S4x100000x80 .f32),
    unary main_v0 main_v115 (Host.log : Arr F S4x100000x80 .f32 → Arr F S4x100000x80 .f32),
    unary main_v102 main_v116 (id : Arr F S4x100000x80 .f32 → Arr F S4x100000x80 .f32),
    binary main_v116 main_v115 main_v117 (mulf : Arr F S4x100000x80 .f32 → Arr F S4x100000x80 .f32 → Arr F S4x100000x80 .f32),
    nullary main_cst_23 (constant S_ .f32 0x3F800000#32),
    unary main_cst_23 main_v118 (broadcastInDim S4x100000x80 ![] bcast_S_S4x100000x80 : Arr F S_ .f32 → Arr F S4x100000x80 .f32),
    binary main_v118 main_v102 main_v119 (subf : Arr F S4x100000x80 .f32 → Arr F S4x100000x80 .f32 → Arr F S4x100000x80 .f32) ]

abbrev ops_part2_1 : List (HloOp τ sig (Elt F)) :=
  [ nullary main_cst_24 (constant S_ .f32 0x3F800000#32),
    unary main_cst_24 main_v120 (broadcastInDim S4x100000x80 ![] bcast_S_S4x100000x80 : Arr F S_ .f32 → Arr F S4x100000x80 .f32),
    binary main_v120 main_v0 main_v121 (subf : Arr F S4x100000x80 .f32 → Arr F S4x100000x80 .f32 → Arr F S4x100000x80 .f32),
    unary main_v121 main_v122 (Host.log : Arr F S4x100000x80 .f32 → Arr F S4x100000x80 .f32),
    unary main_v119 main_v123 (id : Arr F S4x100000x80 .f32 → Arr F S4x100000x80 .f32),
    binary main_v123 main_v122 main_v124 (mulf : Arr F S4x100000x80 .f32 → Arr F S4x100000x80 .f32 → Arr F S4x100000x80 .f32),
    binary main_v117 main_v124 main_v125 (addf : Arr F S4x100000x80 .f32 → Arr F S4x100000x80 .f32 → Arr F S4x100000x80 .f32),
    unary main_v125 main_v126 (Host.negf : Arr F S4x100000x80 .f32 → Arr F S4x100000x80 .f32),
    nullary main_cst_25 (constant S_ .f32 0xBF800000#32),
    unary main_cst_25 main_v127 (broadcastInDim S4x100000x80 ![] bcast_S_S4x100000x80 : Arr F S_ .f32 → Arr F S4x100000x80 .f32),
    binary main_v102 main_v127 main_v128 (cmpf .une : Arr F S4x100000x80 .f32 → Arr F S4x100000x80 .f32 → Arr F S4x100000x80 .i1),
    binary main_v114 main_v126 main_v129 (mulf : Arr F S4x100000x80 .f32 → Arr F S4x100000x80 .f32 → Arr F S4x100000x80 .f32),
    nullary main_cst_26 (constant S_ .f32 0x00000000#32),
    TRef.unary (TRef.of (T := ⟨S_, .f32⟩) main_cst_26) (TRef.of (T := ⟨S_, .f32⟩) main_call10_v0) id,
    TRef.unary (TRef.of (T := ⟨S_, .f32⟩) main_call10_v0) (TRef.of (T := ⟨S4x100000x80, .f32⟩) main_call10_v1) (broadcastInDim S4x100000x80 ![] bcast_S_S4x100000x80),
    TRef.ternary (TRef.of (T := ⟨S4x100000x80, .i1⟩) main_v128) (TRef.of (T := ⟨S4x100000x80, .f32⟩) main_v129) (TRef.of (T := ⟨S4x100000x80, .f32⟩) main_call10_v1) (TRef.of (T := ⟨S4x100000x80, .f32⟩) main_v130) select,
    nullary main_cst_27 (constant S_ .f32 0x00000000#32),
    binary main_v130 main_cst_27 main_v131 ((fun x v => Host.reduceAdd x v reducesTo_S4x100000x80_S4_d1_2 h_S_) : Arr F S4x100000x80 .f32 → Arr F S_ .f32 → Arr F S4 .f32),
    nullary main_cst_28 (constant S_ .f32 0x3F800000#32),
    unary main_cst_28 main_v132 (broadcastInDim S4 ![] bcast_S_S4 : Arr F S_ .f32 → Arr F S4 .f32),
    binary main_v77 main_v132 main_v133 (maximumf : Arr F S4 .f32 → Arr F S4 .f32 → Arr F S4 .f32),
    binary main_v131 main_v133 main_v134 (Host.divf : Arr F S4 .f32 → Arr F S4 .f32 → Arr F S4 .f32),
    unary main_v72 main_v135 ((extractStridedSlice S4x100000x1 ![0, 0, 2] · slices_S4x100000x7_S4x100000x1_0_0_2) : Arr F S4x100000x7 .f32 → Arr F S4x100000x1 .f32),
    reshape main_v135 main_v136 (rfl : (.f32 : EltTy) = .f32) shapeCasts_S4x100000x1_S4x100000,
    unary main_v72 main_v137 ((extractStridedSlice S4x100000x1 ![0, 0, 0] · slices_S4x100000x7_S4x100000x1_0_0_0) : Arr F S4x100000x7 .f32 → Arr F S4x100000x1 .f32),
    reshape main_v137 main_v138 (rfl : (.f32 : EltTy) = .f32) shapeCasts_S4x100000x1_S4x100000,
    binary main_v136 main_v138 main_v139 (subf : Arr F S4x100000 .f32 → Arr F S4x100000 .f32 → Arr F S4x100000 .f32),
    unary main_v72 main_v140 ((extractStridedSlice S4x100000x1 ![0, 0, 3] · slices_S4x100000x7_S4x100000x1_0_0_3) : Arr F S4x100000x7 .f32 → Arr F S4x100000x1 .f32),
    reshape main_v140 main_v141 (rfl : (.f32 : EltTy) = .f32) shapeCasts_S4x100000x1_S4x100000,
    unary main_v72 main_v142 ((extractStridedSlice S4x100000x1 ![0, 0, 1] · slices_S4x100000x7_S4x100000x1_0_0_1) : Arr F S4x100000x7 .f32 → Arr F S4x100000x1 .f32) ]

abbrev ops_part2_2 : List (HloOp τ sig (Elt F)) :=
  [ reshape main_v142 main_v143 (rfl : (.f32 : EltTy) = .f32) shapeCasts_S4x100000x1_S4x100000,
    binary main_v141 main_v143 main_v144 (subf : Arr F S4x100000 .f32 → Arr F S4x100000 .f32 → Arr F S4x100000 .f32),
    unary main_v72 main_v145 ((extractStridedSlice S4x100000x1 ![0, 0, 0] · slices_S4x100000x7_S4x100000x1_0_0_0) : Arr F S4x100000x7 .f32 → Arr F S4x100000x1 .f32),
    reshape main_v145 main_v146 (rfl : (.f32 : EltTy) = .f32) shapeCasts_S4x100000x1_S4x100000,
    nullary main_cst_29 (constant S_ .f32 0x3F000000#32),
    unary main_cst_29 main_v147 (broadcastInDim S4x100000 ![] bcast_S_S4x100000 : Arr F S_ .f32 → Arr F S4x100000 .f32) ]

/-- The operations of the third stretch of @main. -/
def ops_part2 : List (HloOp τ sig (Elt F)) :=
  ops_part2_0 ++ (ops_part2_1 ++ (ops_part2_2))

abbrev ops_part3_0 : List (HloOp τ sig (Elt F)) :=
  [ binary main_v147 main_v139 main_v148 (mulf : Arr F S4x100000 .f32 → Arr F S4x100000 .f32 → Arr F S4x100000 .f32),
    binary main_v146 main_v148 main_v149 (addf : Arr F S4x100000 .f32 → Arr F S4x100000 .f32 → Arr F S4x100000 .f32),
    unary main_v72 main_v150 ((extractStridedSlice S4x100000x1 ![0, 0, 1] · slices_S4x100000x7_S4x100000x1_0_0_1) : Arr F S4x100000x7 .f32 → Arr F S4x100000x1 .f32),
    reshape main_v150 main_v151 (rfl : (.f32 : EltTy) = .f32) shapeCasts_S4x100000x1_S4x100000,
    nullary main_cst_30 (constant S_ .f32 0x3F000000#32),
    unary main_cst_30 main_v152 (broadcastInDim S4x100000 ![] bcast_S_S4x100000 : Arr F S_ .f32 → Arr F S4x100000 .f32),
    binary main_v152 main_v144 main_v153 (mulf : Arr F S4x100000 .f32 → Arr F S4x100000 .f32 → Arr F S4x100000 .f32),
    binary main_v151 main_v153 main_v154 (addf : Arr F S4x100000 .f32 → Arr F S4x100000 .f32 → Arr F S4x100000 .f32),
    nullary main_cst_31 (constant S_ .f32 0x3F800000#32),
    unary main_cst_31 main_v155 (broadcastInDim S4x100000 ![] bcast_S_S4x100000 : Arr F S_ .f32 → Arr F S4x100000 .f32),
    binary main_v139 main_v155 main_v156 (maximumf : Arr F S4x100000 .f32 → Arr F S4x100000 .f32 → Arr F S4x100000 .f32),
    nullary main_cst_32 (constant S_ .f32 0x3F800000#32),
    unary main_cst_32 main_v157 (broadcastInDim S4x100000 ![] bcast_S_S4x100000 : Arr F S_ .f32 → Arr F S4x100000 .f32),
    binary main_v144 main_v157 main_v158 (maximumf : Arr F S4x100000 .f32 → Arr F S4x100000 .f32 → Arr F S4x100000 .f32),
    unary main_v13 main_v159 (broadcastInDim S1x100000 ![1] bcast_S100000_S1x100000_1 : Arr F S100000 .f32 → Arr F S1x100000 .f32),
    unary main_v159 main_v160 (broadcastInDim S4x100000 ![0, 1] bcast_S1x100000_S4x100000_0_1 : Arr F S1x100000 .f32 → Arr F S4x100000 .f32),
    binary main_v149 main_v160 main_v161 (subf : Arr F S4x100000 .f32 → Arr F S4x100000 .f32 → Arr F S4x100000 .f32),
    unary main_v9 main_v162 (broadcastInDim S1x100000 ![1] bcast_S100000_S1x100000_1 : Arr F S100000 .f32 → Arr F S1x100000 .f32),
    unary main_v162 main_v163 (broadcastInDim S4x100000 ![0, 1] bcast_S1x100000_S4x100000_0_1 : Arr F S1x100000 .f32 → Arr F S4x100000 .f32),
    binary main_v161 main_v163 main_v164 (Host.divf : Arr F S4x100000 .f32 → Arr F S4x100000 .f32 → Arr F S4x100000 .f32),
    unary main_v16 main_v165 (broadcastInDim S1x100000 ![1] bcast_S100000_S1x100000_1 : Arr F S100000 .f32 → Arr F S1x100000 .f32),
    unary main_v165 main_v166 (broadcastInDim S4x100000 ![0, 1] bcast_S1x100000_S4x100000_0_1 : Arr F S1x100000 .f32 → Arr F S4x100000 .f32),
    binary main_v154 main_v166 main_v167 (subf : Arr F S4x100000 .f32 → Arr F S4x100000 .f32 → Arr F S4x100000 .f32),
    unary main_v10 main_v168 (broadcastInDim S1x100000 ![1] bcast_S100000_S1x100000_1 : Arr F S100000 .f32 → Arr F S1x100000 .f32),
    unary main_v168 main_v169 (broadcastInDim S4x100000 ![0, 1] bcast_S1x100000_S4x100000_0_1 : Arr F S1x100000 .f32 → Arr F S4x100000 .f32),
    binary main_v167 main_v169 main_v170 (Host.divf : Arr F S4x100000 .f32 → Arr F S4x100000 .f32 → Arr F S4x100000 .f32),
    unary main_v9 main_v171 (broadcastInDim S1x100000 ![1] bcast_S100000_S1x100000_1 : Arr F S100000 .f32 → Arr F S1x100000 .f32),
    unary main_v171 main_v172 (broadcastInDim S4x100000 ![0, 1] bcast_S1x100000_S4x100000_0_1 : Arr F S1x100000 .f32 → Arr F S4x100000 .f32),
    binary main_v156 main_v172 main_v173 (Host.divf : Arr F S4x100000 .f32 → Arr F S4x100000 .f32 → Arr F S4x100000 .f32),
    unary main_v173 main_v174 (Host.log : Arr F S4x100000 .f32 → Arr F S4x100000 .f32) ]

abbrev ops_part3_1 : List (HloOp τ sig (Elt F)) :=
  [ unary main_v10 main_v175 (broadcastInDim S1x100000 ![1] bcast_S100000_S1x100000_1 : Arr F S100000 .f32 → Arr F S1x100000 .f32),
    unary main_v175 main_v176 (broadcastInDim S4x100000 ![0, 1] bcast_S1x100000_S4x100000_0_1 : Arr F S1x100000 .f32 → Arr F S4x100000 .f32),
    binary main_v158 main_v176 main_v177 (Host.divf : Arr F S4x100000 .f32 → Arr F S4x100000 .f32 → Arr F S4x100000 .f32),
    unary main_v177 main_v178 (Host.log : Arr F S4x100000 .f32 → Arr F S4x100000 .f32),
    unary main_v164 main_v179 (broadcastInDim S4x100000x1 ![0, 1] bcast_S4x100000_S4x100000x1_0_1 : Arr F S4x100000 .f32 → Arr F S4x100000x1 .f32),
    unary main_v170 main_v180 (broadcastInDim S4x100000x1 ![0, 1] bcast_S4x100000_S4x100000x1_0_1 : Arr F S4x100000 .f32 → Arr F S4x100000x1 .f32),
    unary main_v174 main_v181 (broadcastInDim S4x100000x1 ![0, 1] bcast_S4x100000_S4x100000x1_0_1 : Arr F S4x100000 .f32 → Arr F S4x100000x1 .f32),
    unary main_v178 main_v182 (broadcastInDim S4x100000x1 ![0, 1] bcast_S4x100000_S4x100000x1_0_1 : Arr F S4x100000 .f32 → Arr F S4x100000x1 .f32),
    nary ![main_v179, main_v180, main_v181, main_v182] main_v183 (fun u => fn_main_v183 (F := F) (u 0) (u 1) (u 2) (u 3)),
    unary main_cst main_v184 (broadcastInDim S1x1x4 ![2] bcast_S4_S1x1x4_2 : Arr F S4 .f32 → Arr F S1x1x4 .f32),
    unary main_v184 main_v185 (broadcastInDim S4x100000x4 ![0, 1, 2] bcast_S1x1x4_S4x100000x4_0_1_2 : Arr F S1x1x4 .f32 → Arr F S4x100000x4 .f32),
    binary main_v183 main_v185 main_v186 (Host.divf : Arr F S4x100000x4 .f32 → Arr F S4x100000x4 .f32 → Arr F S4x100000x4 .f32),
    binary main_v186 main_arg1 main_v187 (subf : Arr F S4x100000x4 .f32 → Arr F S4x100000x4 .f32 → Arr F S4x100000x4 .f32),
    unary main_v187 main_v188 (Host.absf : Arr F S4x100000x4 .f32 → Arr F S4x100000x4 .f32),
    nullary main_cst_33 (constant S_ .f32 0x3DE38E39#32),
    unary main_cst_33 main_v189 (broadcastInDim S4x100000x4 ![] bcast_S_S4x100000x4 : Arr F S_ .f32 → Arr F S4x100000x4 .f32),
    binary main_v188 main_v189 main_v190 (cmpf .ole : Arr F S4x100000x4 .f32 → Arr F S4x100000x4 .f32 → Arr F S4x100000x4 .i1),
    binary main_v188 main_v188 main_v191 (mulf : Arr F S4x100000x4 .f32 → Arr F S4x100000x4 .f32 → Arr F S4x100000x4 .f32),
    nullary main_cst_34 (constant S_ .f32 0x40900000#32),
    unary main_cst_34 main_v192 (broadcastInDim S4x100000x4 ![] bcast_S_S4x100000x4 : Arr F S_ .f32 → Arr F S4x100000x4 .f32),
    binary main_v192 main_v191 main_v193 (mulf : Arr F S4x100000x4 .f32 → Arr F S4x100000x4 .f32 → Arr F S4x100000x4 .f32),
    nullary main_cst_35 (constant S_ .f32 0x3D638E39#32),
    unary main_cst_35 main_v194 (broadcastInDim S4x100000x4 ![] bcast_S_S4x100000x4 : Arr F S_ .f32 → Arr F S4x100000x4 .f32),
    binary main_v188 main_v194 main_v195 (subf : Arr F S4x100000x4 .f32 → Arr F S4x100000x4 .f32 → Arr F S4x100000x4 .f32),
    TRef.ternary (TRef.of (T := ⟨S4x100000x4, .i1⟩) main_v190) (TRef.of (T := ⟨S4x100000x4, .f32⟩) main_v193) (TRef.of (T := ⟨S4x100000x4, .f32⟩) main_v195) (TRef.of (T := ⟨S4x100000x4, .f32⟩) main_v196) select,
    unary main_v74 main_v197 (broadcastInDim S4x100000x1 ![0, 1] bcast_S4x100000_S4x100000x1_0_1 : Arr F S4x100000 .i1 → Arr F S4x100000x1 .i1),
    nullary main_cst_36 (constant S_ .f32 0x00000000#32),
    TRef.unary (TRef.of (T := ⟨S_, .f32⟩) main_cst_36) (TRef.of (T := ⟨S_, .f32⟩) main_call12_v0) id,
    TRef.unary (TRef.of (T := ⟨S4x100000x1, .i1⟩) main_v197) (TRef.of (T := ⟨S4x100000x4, .i1⟩) main_call12_v1) (broadcastInDim S4x100000x4 ![0, 1, 2] bcast_S4x100000x1_S4x100000x4_0_1_2),
    TRef.unary (TRef.of (T := ⟨S_, .f32⟩) main_call12_v0) (TRef.of (T := ⟨S4x100000x4, .f32⟩) main_call12_v2) (broadcastInDim S4x100000x4 ![] bcast_S_S4x100000x4) ]

abbrev ops_part3_2 : List (HloOp τ sig (Elt F)) :=
  [ TRef.ternary (TRef.of (T := ⟨S4x100000x4, .i1⟩) main_call12_v1) (TRef.of (T := ⟨S4x100000x4, .f32⟩) main_v196) (TRef.of (T := ⟨S4x100000x4, .f32⟩) main_call12_v2) (TRef.of (T := ⟨S4x100000x4, .f32⟩) main_v198) select,
    nullary main_cst_37 (constant S_ .f32 0x00000000#32),
    unary main_cst_37 main_v199 (broadcastInDim S4 ![] bcast_S_S4 : Arr F S_ .f32 → Arr F S4 .f32) ]

/-- The operations of the fourth stretch of @main. -/
def ops_part3 : List (HloOp τ sig (Elt F)) :=
  ops_part3_0 ++ (ops_part3_1 ++ (ops_part3_2))

abbrev ops_part4 : List (HloOp τ sig (Elt F)) :=
  [ binary main_v77 main_v199 main_v200 (cmpf .ogt : Arr F S4 .f32 → Arr F S4 .f32 → Arr F S4 .i1),
    nullary main_cst_38 (constant S_ .f32 0x00000000#32),
    binary main_v198 main_cst_38 main_v201 ((fun x v => Host.reduceAdd x v reducesTo_S4x100000x4_S4_d1_2 h_S_) : Arr F S4x100000x4 .f32 → Arr F S_ .f32 → Arr F S4 .f32),
    nullary main_cst_39 (constant S_ .f32 0x40800000#32),
    unary main_cst_39 main_v202 (broadcastInDim S4 ![] bcast_S_S4 : Arr F S_ .f32 → Arr F S4 .f32),
    binary main_v77 main_v202 main_v203 (mulf : Arr F S4 .f32 → Arr F S4 .f32 → Arr F S4 .f32),
    nullary main_cst_40 (constant S_ .f32 0x3F800000#32),
    unary main_cst_40 main_v204 (broadcastInDim S4 ![] bcast_S_S4 : Arr F S_ .f32 → Arr F S4 .f32),
    binary main_v203 main_v204 main_v205 (maximumf : Arr F S4 .f32 → Arr F S4 .f32 → Arr F S4 .f32),
    binary main_v201 main_v205 main_v206 (Host.divf : Arr F S4 .f32 → Arr F S4 .f32 → Arr F S4 .f32),
    nullary main_cst_41 (constant S_ .f32 0x00000000#32),
    TRef.unary (TRef.of (T := ⟨S_, .f32⟩) main_cst_41) (TRef.of (T := ⟨S_, .f32⟩) main_call13_v0) id,
    TRef.unary (TRef.of (T := ⟨S_, .f32⟩) main_call13_v0) (TRef.of (T := ⟨S4, .f32⟩) main_call13_v1) (broadcastInDim S4 ![] bcast_S_S4),
    TRef.ternary (TRef.of (T := ⟨S4, .i1⟩) main_v200) (TRef.of (T := ⟨S4, .f32⟩) main_v206) (TRef.of (T := ⟨S4, .f32⟩) main_call13_v1) (TRef.of (T := ⟨S4, .f32⟩) main_v207) select,
    unary main_arg3 main_v208 (Host.negf : Arr F S4x1 .f32 → Arr F S4x1 .f32),
    TRef.nullary (TRef.of (T := ⟨S_, .f32⟩) main_call14_cst) (constant S_ .f32 0x00000000#32),
    TRef.unary (TRef.of (T := ⟨S_, .f32⟩) main_call14_cst) (TRef.of (T := ⟨S4x1, .f32⟩) main_call14_v0) (broadcastInDim S4x1 ![] bcast_S_S4x1),
    TRef.binary (TRef.of (T := ⟨S4x1, .f32⟩) main_v208) (TRef.of (T := ⟨S4x1, .f32⟩) main_call14_v0) (TRef.of (T := ⟨S4x1, .f32⟩) main_call14_v1) maximumf,
    TRef.unary (TRef.of (T := ⟨S_, .f32⟩) main_call14_cst) (TRef.of (T := ⟨S4x1, .f32⟩) main_call14_v2) (broadcastInDim S4x1 ![] bcast_S_S4x1),
    TRef.binary (TRef.of (T := ⟨S4x1, .f32⟩) main_v208) (TRef.of (T := ⟨S4x1, .f32⟩) main_call14_v2) (TRef.of (T := ⟨S4x1, .f32⟩) main_call14_v3) subf,
    TRef.binary (TRef.of (T := ⟨S4x1, .f32⟩) main_call14_v3) (TRef.of (T := ⟨S4x1, .f32⟩) main_call14_v3) (TRef.of (T := ⟨S4x1, .i1⟩) main_call14_v4) (cmpf .une),
    TRef.unary (TRef.of (T := ⟨S_, .f32⟩) main_call14_cst) (TRef.of (T := ⟨S4x1, .f32⟩) main_call14_v5) (broadcastInDim S4x1 ![] bcast_S_S4x1),
    TRef.binary (TRef.of (T := ⟨S4x1, .f32⟩) main_v208) (TRef.of (T := ⟨S4x1, .f32⟩) main_call14_v5) (TRef.of (T := ⟨S4x1, .f32⟩) main_call14_v6) addf,
    TRef.unary (TRef.of (T := ⟨S4x1, .f32⟩) main_call14_v3) (TRef.of (T := ⟨S4x1, .f32⟩) main_call14_v7) Host.absf,
    TRef.unary (TRef.of (T := ⟨S4x1, .f32⟩) main_call14_v7) (TRef.of (T := ⟨S4x1, .f32⟩) main_call14_v8) Host.negf,
    TRef.unary (TRef.of (T := ⟨S4x1, .f32⟩) main_call14_v8) (TRef.of (T := ⟨S4x1, .f32⟩) main_call14_v9) Host.exp,
    TRef.unary (TRef.of (T := ⟨S4x1, .f32⟩) main_call14_v9) (TRef.of (T := ⟨S4x1, .f32⟩) main_call14_v10) Host.log1p,
    TRef.binary (TRef.of (T := ⟨S4x1, .f32⟩) main_call14_v1) (TRef.of (T := ⟨S4x1, .f32⟩) main_call14_v10) (TRef.of (T := ⟨S4x1, .f32⟩) main_call14_v11) addf,
    TRef.ternary (TRef.of (T := ⟨S4x1, .i1⟩) main_call14_v4) (TRef.of (T := ⟨S4x1, .f32⟩) main_call14_v6) (TRef.of (T := ⟨S4x1, .f32⟩) main_call14_v11) (TRef.of (T := ⟨S4x1, .f32⟩) main_v209) select,
    nullary main_cst_42 (constant S_ .f32 0x00000000#32),
    binary main_v209 main_cst_42 main_v210 ((fun x v => Host.reduceAdd x v reducesTo_S4x1_S4_d1 h_S_) : Arr F S4x1 .f32 → Arr F S_ .f32 → Arr F S4 .f32),
    nullary main_cst_43 (constant S_ .f32 0x3F800000#32),
    unary main_cst_43 main_v211 (broadcastInDim S4 ![] bcast_S_S4 : Arr F S_ .f32 → Arr F S4 .f32),
    binary main_v210 main_v211 main_v212 (Host.divf : Arr F S4 .f32 → Arr F S4 .f32 → Arr F S4 .f32),
    nullary main_cst_44 (constant S_ .f32 0x00000000#32),
    binary main_v134 main_cst_44 main_v213 ((fun x v => Host.reduceAdd x v reducesTo_S4_S_d0 h_S_) : Arr F S4 .f32 → Arr F S_ .f32 → Arr F S_ .f32),
    unary main_v213 main_v214 (broadcastInDim S1 ![] bcast_S_S1 : Arr F S_ .f32 → Arr F S1 .f32),
    nullary main_cst_45 (constant S_ .f32 0x40800000#32),
    unary main_cst_45 main_v215 (broadcastInDim S1 ![] bcast_S_S1 : Arr F S_ .f32 → Arr F S1 .f32),
    binary main_v214 main_v215 main_v216 (Host.divf : Arr F S1 .f32 → Arr F S1 .f32 → Arr F S1 .f32),
    nullary main_cst_46 (constant S_ .f32 0x00000000#32),
    binary main_v207 main_cst_46 main_v217 ((fun x v => Host.reduceAdd x v reducesTo_S4_S_d0 h_S_) : Arr F S4 .f32 → Arr F S_ .f32 → Arr F S_ .f32),
    unary main_v217 main_v218 (broadcastInDim S1 ![] bcast_S_S1 : Arr F S_ .f32 → Arr F S1 .f32),
    nullary main_cst_47 (constant S_ .f32 0x40800000#32),
    unary main_cst_47 main_v219 (broadcastInDim S1 ![] bcast_S_S1 : Arr F S_ .f32 → Arr F S1 .f32),
    binary main_v218 main_v219 main_v220 (Host.divf : Arr F S1 .f32 → Arr F S1 .f32 → Arr F S1 .f32),
    nullary main_cst_48 (constant S_ .f32 0x00000000#32),
    binary main_v212 main_cst_48 main_v221 ((fun x v => Host.reduceAdd x v reducesTo_S4_S_d0 h_S_) : Arr F S4 .f32 → Arr F S_ .f32 → Arr F S_ .f32),
    unary main_v221 main_v222 (broadcastInDim S1 ![] bcast_S_S1 : Arr F S_ .f32 → Arr F S1 .f32),
    nullary main_cst_49 (constant S_ .f32 0x40800000#32),
    unary main_cst_49 main_v223 (broadcastInDim S1 ![] bcast_S_S1 : Arr F S_ .f32 → Arr F S1 .f32),
    binary main_v222 main_v223 main_v224 (Host.divf : Arr F S1 .f32 → Arr F S1 .f32 → Arr F S1 .f32) ]

abbrev ops : List (HloOp τ sig (Elt F)) :=
  ops_part0 ++ (ops_part1 ++ (ops_part2 ++ (ops_part3 ++ (ops_part4))))

set_option maxHeartbeats 4000000 in
theorem main_part0_eq (c : Dev nD) : main_part0 (F := F) c = seq ops_part0 := rfl

set_option maxHeartbeats 4000000 in
theorem main_part1_eq (c : Dev nD) : main_part1 (F := F) c = seq ops_part1 := rfl

set_option maxHeartbeats 4000000 in
theorem main_part2_eq (c : Dev nD) : main_part2 (F := F) c = seq ops_part2 := rfl

set_option maxHeartbeats 4000000 in
theorem main_part3_eq (c : Dev nD) : main_part3 (F := F) c = seq ops_part3 := rfl

theorem main_part4_eq (c : Dev nD) : main_part4 (F := F) c = seq ops_part4 := rfl

/-- @main runs its list of operations. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide

theorem scopedSems_eq : (Finset.univ.filter fun sm : SemLoc sig => sm.isScoped .tc) = ∅ := by decide

theorem ops_part0_0_sub : (ops_part0_0 : List (HloOp τ sig (Elt F))).Forall fun op => op.bufs ⊆ tcRefs τ sig :=
  ⟨nullary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., unary_bufs_sub ..⟩

theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part0_1_sub : (ops_part0_1 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., reshape_bufs_sub .., unary_bufs_sub .., unary_bufs_sub .., unary_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub ..⟩

theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part0_2_sub : (ops_part0_2 : List (HloOp τ sig (Elt F))).Forall fun op => op.bufs ⊆ tcRefs τ sig :=
  ⟨nullary_bufs_sub .., unary_bufs_sub .., binary_bufs_sub .., binary_bufs_sub .., binary_bufs_sub ..⟩

theorem ops_part0_2_fresh : (ops_part0_2 : List (HloOp τ sig (Elt F))).Forall fun op => op.fresh = ∅ :=
  ⟨rfl, rfl, rfl, rfl, rfl⟩

theorem ops_part1_0_sub : (ops_part1_0 : List (HloOp τ sig (Elt F))).Forall fun op => op.bufs ⊆ tcRefs τ sig :=
  ⟨unary_bufs_sub .., binary_bufs_sub .., binary_bufs_sub .., binary_bufs_sub .., unary_bufs_sub .., unary_bufs_sub .., binary_bufs_sub .., binary_bufs_sub .., nullary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩

theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part1_1_sub : (ops_part1_1 : List (HloOp τ sig (Elt F))).Forall fun op => op.bufs ⊆ tcRefs τ sig :=
  ⟨binary_bufs_sub .., unary_bufs_sub .., nullary_bufs_sub .., binary_bufs_sub .., unary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., ternary_bufs_sub .., unary_bufs_sub .., reshape_bufs_sub .., unary_bufs_sub .., unary_bufs_sub .., nullary_bufs_sub .., unary_bufs_sub .., unary_bufs_sub .., binary_bufs_sub .., unary_bufs_sub .., unary_bufs_sub .., reshape_bufs_sub .., unary_bufs_sub .., unary_bufs_sub .., nullary_bufs_sub ..⟩

theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part1_2_sub : (ops_part1_2 : List (HloOp τ sig (Elt F))).Forall fun op => op.bufs ⊆ tcRefs τ sig :=
  ⟨unary_bufs_sub .., unary_bufs_sub .., binary_bufs_sub .., unary_bufs_sub .., binary_bufs_sub .., unary_bufs_sub .., reshape_bufs_sub .., unary_bufs_sub .., unary_bufs_sub .., nullary_bufs_sub .., unary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub ..⟩

theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem ops_part2_0_sub : (ops_part2_0 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩

theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part2_1_sub : (ops_part2_1 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., unary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub ..⟩

theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part2_2_sub : (ops_part2_2 : List (HloOp τ sig (Elt F))).Forall fun op => op.bufs ⊆ tcRefs τ sig :=
  ⟨reshape_bufs_sub .., binary_bufs_sub .., unary_bufs_sub .., reshape_bufs_sub .., nullary_bufs_sub .., unary_bufs_sub ..⟩

theorem ops_part2_2_fresh : (ops_part2_2 : List (HloOp τ sig (Elt F))).Forall fun op => op.fresh = ∅ :=
  ⟨rfl, rfl, rfl, rfl, rfl, rfl⟩

theorem ops_part3_0_sub : (ops_part3_0 : List (HloOp τ sig (Elt F))).Forall fun op => op.bufs ⊆ tcRefs τ sig :=
  ⟨binary_bufs_sub .., binary_bufs_sub .., unary_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub ..⟩

theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part3_1_sub : (ops_part3_1 : List (HloOp τ sig (Elt F))).Forall fun op => op.bufs ⊆ tcRefs τ sig :=
  ⟨unary_bufs_sub .., unary_bufs_sub .., binary_bufs_sub .., unary_bufs_sub .., unary_bufs_sub .., unary_bufs_sub .., unary_bufs_sub .., unary_bufs_sub .., nary_bufs_sub .., unary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub ..⟩

theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_part3_2_sub : (ops_part3_2 : List (HloOp τ sig (Elt F))).Forall fun op => op.bufs ⊆ tcRefs τ sig :=
  ⟨ternary_bufs_sub .., nullary_bufs_sub .., unary_bufs_sub ..⟩

theorem ops_part3_2_fresh : (ops_part3_2 : List (HloOp τ sig (Elt F))).Forall fun op => op.fresh = ∅ :=
  ⟨rfl, rfl, rfl⟩

theorem ops_part4_sub : (ops_part4 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩

theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, ops_part0, ops_part1, ops_part2, ops_part3, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h]

theorem ops_fresh : ∀ op ∈ (ops : List (HloOp τ sig (Elt F))), op.fresh = ∅ := fun op h => by
    simp only [ops, ops_part0, ops_part1, ops_part2, ops_part3, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

end Cert.ReferenceIdeal.Value

end
-- ==== Proof.Ref.Terms.lean ====
/- The reference program: the arrays it computes, as terms of the arguments. -/
module

public import proofs.«01_k».proof.Proof.Ref.Ops

@[expose] public section

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The clipped class probabilities. -/
def res_main_v0 (V0 : Bufs F) : Res F main_v0 :=
  minimumf (broadcastInDim S4x100000x80 ![] bcast_S_S4x100000x80 (id (constant S_ .f32 0x3F7FF972#32))) (maximumf (broadcastInDim S4x100000x80 ![] bcast_S_S4x100000x80 (id (constant S_ .f32 0x38D1B717#32))) (V0 (Proc.devRef .tc main_arg0)))

def res_main_v2 (V0 : Bufs F) : Res F main_v2 :=
  shapeCast _ (extractStridedSlice S1x100000x1 ![0, 0, 0] (V0 (Proc.devRef .tc main_arg2)) slices_S1x100000x4_S1x100000x1_0_0_0) shapeCasts_S1x100000x1_S100000

def res_main_v4 (V0 : Bufs F) : Res F main_v4 :=
  shapeCast _ (extractStridedSlice S1x100000x1 ![0, 0, 1] (V0 (Proc.devRef .tc main_arg2)) slices_S1x100000x4_S1x100000x1_0_0_1) shapeCasts_S1x100000x1_S100000

def res_main_v6 (V0 : Bufs F) : Res F main_v6 :=
  shapeCast _ (extractStridedSlice S1x100000x1 ![0, 0, 2] (V0 (Proc.devRef .tc main_arg2)) slices_S1x100000x4_S1x100000x1_0_0_2) shapeCasts_S1x100000x1_S100000

def res_main_v8 (V0 : Bufs F) : Res F main_v8 :=
  shapeCast _ (extractStridedSlice S1x100000x1 ![0, 0, 3] (V0 (Proc.devRef .tc main_arg2)) slices_S1x100000x4_S1x100000x1_0_0_3) shapeCasts_S1x100000x1_S100000

def res_main_v9 (V0 : Bufs F) : Res F main_v9 :=
  subf (res_main_v6 V0) (res_main_v2 V0)

def res_main_v10 (V0 : Bufs F) : Res F main_v10 :=
  subf (res_main_v8 V0) (res_main_v4 V0)

def res_main_v19 (V0 : Bufs F) : Res F main_v19 :=
  broadcastInDim S4x1x32 ![0, 2] bcast_S4x32_S4x1x32_0_2 (shapeCast _ (extractStridedSlice S4x32x1 ![0, 0, 0] (V0 (Proc.devRef .tc main_arg4)) slices_S4x32x7_S4x32x1_0_0_0) shapeCasts_S4x32x1_S4x32)

def res_main_v22 (V0 : Bufs F) : Res F main_v22 :=
  broadcastInDim S4x1x32 ![0, 2] bcast_S4x32_S4x1x32_0_2 (shapeCast _ (extractStridedSlice S4x32x1 ![0, 0, 1] (V0 (Proc.devRef .tc main_arg4)) slices_S4x32x7_S4x32x1_0_0_1) shapeCasts_S4x32x1_S4x32)

def res_main_v25 (V0 : Bufs F) : Res F main_v25 :=
  broadcastInDim S4x1x32 ![0, 2] bcast_S4x32_S4x1x32_0_2 (shapeCast _ (extractStridedSlice S4x32x1 ![0, 0, 2] (V0 (Proc.devRef .tc main_arg4)) slices_S4x32x7_S4x32x1_0_0_2) shapeCasts_S4x32x1_S4x32)

def res_main_v28 (V0 : Bufs F) : Res F main_v28 :=
  broadcastInDim S4x1x32 ![0, 2] bcast_S4x32_S4x1x32_0_2 (shapeCast _ (extractStridedSlice S4x32x1 ![0, 0, 3] (V0 (Proc.devRef .tc main_arg4)) slices_S4x32x7_S4x32x1_0_0_3) shapeCasts_S4x32x1_S4x32)

def res_main_v51 (V0 : Bufs F) : Res F main_v51 :=
  mulf (maximumf (subf (minimumf (broadcastInDim S4x100000x32 ![0, 1, 2] bcast_S1x100000x1_S4x100000x32_0_1_2 (broadcastInDim S1x100000x1 ![1] bcast_S100000_S1x100000x1_1 (res_main_v6 V0))) (broadcastInDim S4x100000x32 ![0, 1, 2] bcast_S4x1x32_S4x100000x32_0_1_2 (res_main_v25 V0))) (maximumf (broadcastInDim S4x100000x32 ![0, 1, 2] bcast_S1x100000x1_S4x100000x32_0_1_2 (broadcastInDim S1x100000x1 ![1] bcast_S100000_S1x100000x1_1 (res_main_v2 V0))) (broadcastInDim S4x100000x32 ![0, 1, 2] bcast_S4x1x32_S4x100000x32_0_1_2 (res_main_v19 V0)))) (broadcastInDim S4x100000x32 ![] bcast_S_S4x100000x32 (constant S_ .f32 0x00000000#32))) (maximumf (subf (minimumf (broadcastInDim S4x100000x32 ![0, 1, 2] bcast_S1x100000x1_S4x100000x32_0_1_2 (broadcastInDim S1x100000x1 ![1] bcast_S100000_S1x100000x1_1 (res_main_v8 V0))) (broadcastInDim S4x100000x32 ![0, 1, 2] bcast_S4x1x32_S4x100000x32_0_1_2 (res_main_v28 V0))) (maximumf (broadcastInDim S4x100000x32 ![0, 1, 2] bcast_S1x100000x1_S4x100000x32_0_1_2 (broadcastInDim S1x100000x1 ![1] bcast_S100000_S1x100000x1_1 (res_main_v4 V0))) (broadcastInDim S4x100000x32 ![0, 1, 2] bcast_S4x1x32_S4x100000x32_0_1_2 (res_main_v22 V0)))) (broadcastInDim S4x100000x32 ![] bcast_S_S4x100000x32 (constant S_ .f32 0x00000000#32)))

/-- The table of overlaps: anchor against box. -/
def res_main_v63 (V0 : Bufs F) : Res F main_v63 :=
  Host.divf (res_main_v51 V0) (maximumf (subf (addf (broadcastInDim S4x100000x32 ![0, 1, 2] bcast_S1x100000x1_S4x100000x32_0_1_2 (broadcastInDim S1x100000x1 ![1] bcast_S100000_S1x100000x1_1 (mulf (res_main_v9 V0) (res_main_v10 V0)))) (broadcastInDim S4x100000x32 ![0, 1, 2] bcast_S4x1x32_S4x100000x32_0_1_2 (mulf (subf (res_main_v25 V0) (res_main_v19 V0)) (subf (res_main_v28 V0) (res_main_v22 V0))))) (res_main_v51 V0)) (broadcastInDim S4x100000x32 ![] bcast_S_S4x100000x32 (constant S_ .f32 0x322BCC77#32)))

/-- The greatest overlap of each anchor. -/
def res_main_v64 (V0 : Bufs F) : Res F main_v64 :=
  Host.reduce FloatOps.maximumf (res_main_v63 V0) (constant S_ .f32 0xFF800000#32) reducesTo_S4x100000x32_S4x100000_d2 h_S_

def res_main_call1_v0 (V0 : Bufs F) : Res F main_call1_v0 :=
  iotaInDim S4x100000x32 32 2

def res_main_call1_cst (V0 : Bufs F) : Res F main_call1_cst :=
  constant S_ .f32 0xFF800000#32

def res_main_call1_c (V0 : Bufs F) : Res F main_call1_c :=
  constantI S_ 32 0#32

/-- The box each anchor is assigned to. -/
def res_main_v65 (V0 : Bufs F) : Res F main_v65 :=
  (fun j => (Host.argReduce reducer_argmax_f32_i32 (res_main_v63 V0) (res_main_call1_v0 V0) (res_main_call1_cst V0) (res_main_call1_c V0) reducesTo_S4x100000x32_S4x100000_d2 h_S_ j).2)

/-- The assigned annotations. -/
def res_main_v72 (V0 : Bufs F) : Res F main_v72 :=
  Host.gather gather_S4x32x7_S4x100000x1_S4x100000x7_2_1_0_0_1_2_117 (V0 (Proc.devRef .tc main_arg4)) (broadcastInDim S4x100000x1 ![0, 1] bcast_S4x100000_S4x100000x1_0_1 (select (cmpi .slt (res_main_v65 V0) (broadcastInDim S4x100000 ![] bcast_S_S4x100000 (constantI S_ 32 0#32))) (addi (res_main_v65 V0) (broadcastInDim S4x100000 ![] bcast_S_S4x100000 (constantI S_ 32 32#32))) (res_main_v65 V0)))

/-- Which anchors are positive. -/
def res_main_v74 (V0 : Bufs F) : Res F main_v74 :=
  cmpf .oge (res_main_v64 V0) (broadcastInDim S4x100000 ![] bcast_S_S4x100000 (constant S_ .f32 0x3F000000#32))

/-- The number of positive anchors per image. -/
def res_main_v77 (V0 : Bufs F) : Res F main_v77 :=
  sitofp .f32 (Host.reduce IntOp.addi (extui 32 (res_main_v74 V0) natLt_1_32) (constantI S_ 32 0#32) reducesTo_S4x100000_S4_d1 h_S_)

/-- The class targets. -/
def res_main_v102 (V0 : Bufs F) : Res F main_v102 :=
  select (andi (broadcastInDim S4x100000x80 ![0, 1, 2] bcast_S4x100000x1_S4x100000x80_0_1_2 (broadcastInDim S4x100000x1 ![0, 1] bcast_S4x100000_S4x100000x1_0_1 (res_main_v74 V0))) (cmpf .ogt (addf (addf (uitofp .f32 (cmpi .eq (broadcastInDim S4x100000x80 ![0, 1, 2] bcast_S4x100000x1_S4x100000x80_0_1_2 (broadcastInDim S4x100000x1 ![0, 1] bcast_S4x100000_S4x100000x1_0_1 (fptosi 32 (shapeCast _ (extractStridedSlice S4x100000x1 ![0, 0, 4] (res_main_v72 V0) slices_S4x100000x7_S4x100000x1_0_0_4) shapeCasts_S4x100000x1_S4x100000)))) (broadcastInDim S4x100000x80 ![0, 1, 2] bcast_S1x1x80_S4x100000x80_0_1_2 (iotaInDim S1x1x80 32 2)))) (uitofp .f32 (cmpi .eq (broadcastInDim S4x100000x80 ![0, 1, 2] bcast_S4x100000x1_S4x100000x80_0_1_2 (broadcastInDim S4x100000x1 ![0, 1] bcast_S4x100000_S4x100000x1_0_1 (fptosi 32 (shapeCast _ (extractStridedSlice S4x100000x1 ![0, 0, 5] (res_main_v72 V0) slices_S4x100000x7_S4x100000x1_0_0_5) shapeCasts_S4x100000x1_S4x100000)))) (broadcastInDim S4x100000x80 ![0, 1, 2] bcast_S1x1x80_S4x100000x80_0_1_2 (iotaInDim S1x1x80 32 2))))) (uitofp .f32 (cmpi .eq (broadcastInDim S4x100000x80 ![0, 1, 2] bcast_S4x100000x1_S4x100000x80_0_1_2 (broadcastInDim S4x100000x1 ![0, 1] bcast_S4x100000_S4x100000x1_0_1 (fptosi 32 (shapeCast _ (extractStridedSlice S4x100000x1 ![0, 0, 6] (res_main_v72 V0) slices_S4x100000x7_S4x100000x1_0_0_6) shapeCasts_S4x100000x1_S4x100000)))) (broadcastInDim S4x100000x80 ![0, 1, 2] bcast_S1x1x80_S4x100000x80_0_1_2 (iotaInDim S1x1x80 32 2)))) : Arr F S4x100000x80 .f32) (broadcastInDim S4x100000x80 ![] bcast_S_S4x100000x80 (constant S_ .f32 0x00000000#32)))) (broadcastInDim S4x100000x80 ![] bcast_S_S4x100000x80 (constant S_ .f32 0x3F800000#32)) (broadcastInDim S4x100000x80 ![0, 1, 2] bcast_S4x100000x1_S4x100000x80_0_1_2 (broadcastInDim S4x100000x1 ![0, 1] bcast_S4x100000_S4x100000x1_0_1 (select (res_main_v74 V0) (broadcastInDim S4x100000 ![] bcast_S_S4x100000 (constant S_ .f32 0x00000000#32)) (select (cmpf .olt (res_main_v64 V0) (broadcastInDim S4x100000 ![] bcast_S_S4x100000 (constant S_ .f32 0x3ECCCCCD#32))) (broadcastInDim S4x100000 ![] bcast_S_S4x100000 (constant S_ .f32 0x00000000#32)) (broadcastInDim S4x100000 ![] bcast_S_S4x100000 (constant S_ .f32 0xBF800000#32))))))

def res_main_v139 (V0 : Bufs F) : Res F main_v139 :=
  subf (shapeCast _ (extractStridedSlice S4x100000x1 ![0, 0, 2] (res_main_v72 V0) slices_S4x100000x7_S4x100000x1_0_0_2) shapeCasts_S4x100000x1_S4x100000) (shapeCast _ (extractStridedSlice S4x100000x1 ![0, 0, 0] (res_main_v72 V0) slices_S4x100000x7_S4x100000x1_0_0_0) shapeCasts_S4x100000x1_S4x100000)

def res_main_v144 (V0 : Bufs F) : Res F main_v144 :=
  subf (shapeCast _ (extractStridedSlice S4x100000x1 ![0, 0, 3] (res_main_v72 V0) slices_S4x100000x7_S4x100000x1_0_0_3) shapeCasts_S4x100000x1_S4x100000) (shapeCast _ (extractStridedSlice S4x100000x1 ![0, 0, 1] (res_main_v72 V0) slices_S4x100000x7_S4x100000x1_0_0_1) shapeCasts_S4x100000x1_S4x100000)

/-- The absolute regression errors. -/
def res_main_v188 (V0 : Bufs F) : Res F main_v188 :=
  Host.absf (subf (Host.divf ((concatenate S4x100000x4 2 [⟨S4x100000x1, ((broadcastInDim S4x100000x1 ![0, 1] bcast_S4x100000_S4x100000x1_0_1 (Host.divf (subf (addf (shapeCast _ (extractStridedSlice S4x100000x1 ![0, 0, 0] (res_main_v72 V0) slices_S4x100000x7_S4x100000x1_0_0_0) shapeCasts_S4x100000x1_S4x100000) (mulf (broadcastInDim S4x100000 ![] bcast_S_S4x100000 (constant S_ .f32 0x3F000000#32)) (res_main_v139 V0))) (broadcastInDim S4x100000 ![0, 1] bcast_S1x100000_S4x100000_0_1 (broadcastInDim S1x100000 ![1] bcast_S100000_S1x100000_1 (addf (res_main_v2 V0) (mulf (broadcastInDim S100000 ![] bcast_S_S100000 (constant S_ .f32 0x3F000000#32)) (res_main_v9 V0)))))) (broadcastInDim S4x100000 ![0, 1] bcast_S1x100000_S4x100000_0_1 (broadcastInDim S1x100000 ![1] bcast_S100000_S1x100000_1 (res_main_v9 V0))))) : Arr F S4x100000x1 .f32)⟩, ⟨S4x100000x1, ((broadcastInDim S4x100000x1 ![0, 1] bcast_S4x100000_S4x100000x1_0_1 (Host.divf (subf (addf (shapeCast _ (extractStridedSlice S4x100000x1 ![0, 0, 1] (res_main_v72 V0) slices_S4x100000x7_S4x100000x1_0_0_1) shapeCasts_S4x100000x1_S4x100000) (mulf (broadcastInDim S4x100000 ![] bcast_S_S4x100000 (constant S_ .f32 0x3F000000#32)) (res_main_v144 V0))) (broadcastInDim S4x100000 ![0, 1] bcast_S1x100000_S4x100000_0_1 (broadcastInDim S1x100000 ![1] bcast_S100000_S1x100000_1 (addf (res_main_v4 V0) (mulf (broadcastInDim S100000 ![] bcast_S_S100000 (constant S_ .f32 0x3F000000#32)) (res_main_v10 V0)))))) (broadcastInDim S4x100000 ![0, 1] bcast_S1x100000_S4x100000_0_1 (broadcastInDim S1x100000 ![1] bcast_S100000_S1x100000_1 (res_main_v10 V0))))) : Arr F S4x100000x1 .f32)⟩, ⟨S4x100000x1, ((broadcastInDim S4x100000x1 ![0, 1] bcast_S4x100000_S4x100000x1_0_1 (Host.log (Host.divf (maximumf (res_main_v139 V0) (broadcastInDim S4x100000 ![] bcast_S_S4x100000 (constant S_ .f32 0x3F800000#32))) (broadcastInDim S4x100000 ![0, 1] bcast_S1x100000_S4x100000_0_1 (broadcastInDim S1x100000 ![1] bcast_S100000_S1x100000_1 (res_main_v9 V0)))))) : Arr F S4x100000x1 .f32)⟩, ⟨S4x100000x1, ((broadcastInDim S4x100000x1 ![0, 1] bcast_S4x100000_S4x100000x1_0_1 (Host.log (Host.divf (maximumf (res_main_v144 V0) (broadcastInDim S4x100000 ![] bcast_S_S4x100000 (constant S_ .f32 0x3F800000#32))) (broadcastInDim S4x100000 ![0, 1] bcast_S1x100000_S4x100000_0_1 (broadcastInDim S1x100000 ![1] bcast_S100000_S1x100000_1 (res_main_v10 V0)))))) : Arr F S4x100000x1 .f32)⟩] concatenates_S4x100000x1_S4x100000x1_S4x100000x1_S4x100000x1_S4x100000x4_d2 : Arr F S4x100000x4 .f32)) (broadcastInDim S4x100000x4 ![0, 1, 2] bcast_S1x1x4_S4x100000x4_0_1_2 (broadcastInDim S1x1x4 ![2] bcast_S4_S1x1x4_2 ((fun i => FloatOps.ofBits .f32 (lit0 (S4.rowMajor i))))))) (V0 (Proc.devRef .tc main_arg1)))

def res_main_v208 (V0 : Bufs F) : Res F main_v208 :=
  Host.negf (V0 (Proc.devRef .tc main_arg3))

def res_main_call14_cst (V0 : Bufs F) : Res F main_call14_cst :=
  constant S_ .f32 0x00000000#32

def res_main_call14_v3 (V0 : Bufs F) : Res F main_call14_v3 :=
  subf (res_main_v208 V0) (broadcastInDim S4x1 ![] bcast_S_S4x1 (res_main_call14_cst V0))

/-- The class loss per image. -/
def res_main_v134 (V0 : Bufs F) : Res F main_v134 :=
  Host.divf (Host.reduceAdd (select (cmpf .une (res_main_v102 V0) (broadcastInDim S4x100000x80 ![] bcast_S_S4x100000x80 (constant S_ .f32 0xBF800000#32))) (mulf (mulf (id (select (cmpf .oeq (res_main_v102 V0) (broadcastInDim S4x100000x80 ![] bcast_S_S4x100000x80 (constant S_ .f32 0x3F800000#32))) (broadcastInDim S4x100000x80 ![] bcast_S_S4x100000x80 (constant S_ .f32 0x3E800000#32)) (broadcastInDim S4x100000x80 ![] bcast_S_S4x100000x80 (constant S_ .f32 0x3F400000#32)))) (Host.powf (select (cmpf .oeq (res_main_v102 V0) (broadcastInDim S4x100000x80 ![] bcast_S_S4x100000x80 (constant S_ .f32 0x3F800000#32))) (subf (broadcastInDim S4x100000x80 ![] bcast_S_S4x100000x80 (constant S_ .f32 0x3F800000#32)) (res_main_v0 V0)) (res_main_v0 V0)) (broadcastInDim S4x100000x80 ![] bcast_S_S4x100000x80 (constant S_ .f32 0x40000000#32)))) (Host.negf (addf (mulf (id (res_main_v102 V0)) (Host.log (res_main_v0 V0))) (mulf (id (subf (broadcastInDim S4x100000x80 ![] bcast_S_S4x100000x80 (constant S_ .f32 0x3F800000#32)) (res_main_v102 V0))) (Host.log (subf (broadcastInDim S4x100000x80 ![] bcast_S_S4x100000x80 (constant S_ .f32 0x3F800000#32)) (res_main_v0 V0))))))) (broadcastInDim S4x100000x80 ![] bcast_S_S4x100000x80 (id (constant S_ .f32 0x00000000#32)))) (constant S_ .f32 0x00000000#32) reducesTo_S4x100000x80_S4_d1_2 h_S_) (maximumf (res_main_v77 V0) (broadcastInDim S4 ![] bcast_S_S4 (constant S_ .f32 0x3F800000#32)))

/-- The first result. -/
def res_main_v216 (V0 : Bufs F) : Res F main_v216 :=
  Host.divf (broadcastInDim S1 ![] bcast_S_S1 (Host.reduceAdd (res_main_v134 V0) (constant S_ .f32 0x00000000#32) reducesTo_S4_S_d0 h_S_)) (broadcastInDim S1 ![] bcast_S_S1 (constant S_ .f32 0x40800000#32))

/-- The second result. -/
def res_main_v220 (V0 : Bufs F) : Res F main_v220 :=
  Host.divf (broadcastInDim S1 ![] bcast_S_S1 (Host.reduceAdd (select (cmpf .ogt (res_main_v77 V0) (broadcastInDim S4 ![] bcast_S_S4 (constant S_ .f32 0x00000000#32))) (Host.divf (Host.reduceAdd (select (broadcastInDim S4x100000x4 ![0, 1, 2] bcast_S4x100000x1_S4x100000x4_0_1_2 (broadcastInDim S4x100000x1 ![0, 1] bcast_S4x100000_S4x100000x1_0_1 (res_main_v74 V0))) (select (cmpf .ole (res_main_v188 V0) (broadcastInDim S4x100000x4 ![] bcast_S_S4x100000x4 (constant S_ .f32 0x3DE38E39#32))) (mulf (broadcastInDim S4x100000x4 ![] bcast_S_S4x100000x4 (constant S_ .f32 0x40900000#32)) (mulf (res_main_v188 V0) (res_main_v188 V0))) (subf (res_main_v188 V0) (broadcastInDim S4x100000x4 ![] bcast_S_S4x100000x4 (constant S_ .f32 0x3D638E39#32)))) (broadcastInDim S4x100000x4 ![] bcast_S_S4x100000x4 (id (constant S_ .f32 0x00000000#32)))) (constant S_ .f32 0x00000000#32) reducesTo_S4x100000x4_S4_d1_2 h_S_) (maximumf (mulf (res_main_v77 V0) (broadcastInDim S4 ![] bcast_S_S4 (constant S_ .f32 0x40800000#32))) (broadcastInDim S4 ![] bcast_S_S4 (constant S_ .f32 0x3F800000#32)))) (broadcastInDim S4 ![] bcast_S_S4 (id (constant S_ .f32 0x00000000#32)))) (constant S_ .f32 0x00000000#32) reducesTo_S4_S_d0 h_S_)) (broadcastInDim S1 ![] bcast_S_S1 (constant S_ .f32 0x40800000#32))

/-- The third result. -/
def res_main_v224 (V0 : Bufs F) : Res F main_v224 :=
  Host.divf (broadcastInDim S1 ![] bcast_S_S1 (Host.reduceAdd (Host.divf (Host.reduceAdd (select (cmpf .une (res_main_call14_v3 V0) (res_main_call14_v3 V0)) (addf (res_main_v208 V0) (broadcastInDim S4x1 ![] bcast_S_S4x1 (res_main_call14_cst V0))) (addf (maximumf (res_main_v208 V0) (broadcastInDim S4x1 ![] bcast_S_S4x1 (res_main_call14_cst V0))) (Host.log1p (Host.exp (Host.negf (Host.absf (res_main_call14_v3 V0))))))) (constant S_ .f32 0x00000000#32) reducesTo_S4x1_S4_d1 h_S_) (broadcastInDim S4 ![] bcast_S_S4 (constant S_ .f32 0x3F800000#32))) (constant S_ .f32 0x00000000#32) reducesTo_S4_S_d0 h_S_)) (broadcastInDim S1 ![] bcast_S_S1 (constant S_ .f32 0x40800000#32))

end Cert.ReferenceIdeal.Value

end
-- ==== Proof.Math.First.lean ====
/- The first place of the greatest value of a row, and two ways to find it: a walk that keeps the best so far, and a fold
   over pairs of value and place. -/
module

public import Idealize.ShloMosaic.Lib.Pointwise

@[expose] public section

noncomputable section

namespace Cert.Math

/-- `k` is the first place at which `f` is greatest. -/
def IsFirst {n : ℕ} (f : Fin n → EReal) (k : Fin n) : Prop := (∀ j, f j ≤ f k) ∧ ∀ j, j < k → f j < f k

theorem exists_first {n : ℕ} [NeZero n] (f : Fin n → EReal) : ∃ k, IsFirst f k := by
  classical
  let S : Finset (Fin n) := Finset.univ.filter fun k => ∀ j, f j ≤ f k
  have hS : S.Nonempty := by
    obtain ⟨k, -, hk⟩ := Finset.exists_max_image Finset.univ f ⟨0, Finset.mem_univ _⟩
    exact ⟨k, Finset.mem_filter.mpr ⟨Finset.mem_univ _, fun j => hk j (Finset.mem_univ _)⟩⟩
  refine ⟨S.min' hS, (Finset.mem_filter.mp (S.min'_mem hS)).2, fun j hj => ?_⟩
  by_contra hlt
  refine absurd (S.min'_le j (Finset.mem_filter.mpr ⟨Finset.mem_univ _, fun i => ?_⟩)) (not_le.mpr hj)
  exact ((Finset.mem_filter.mp (S.min'_mem hS)).2 i).trans (not_lt.mp hlt)

theorem IsFirst.unique {n : ℕ} {f : Fin n → EReal} {k k' : Fin n} (h : IsFirst f k) (h' : IsFirst f k') : k = k' := by
  rcases lt_trichotomy k k' with hlt | he | hlt
  · exact absurd (h'.2 k hlt) (not_lt.mpr (h.1 k'))
  · exact he
  · exact absurd (h.2 k' hlt) (not_lt.mpr (h'.1 k))

/-- The first place at which `f` is greatest. -/
def first {n : ℕ} [NeZero n] (f : Fin n → EReal) : Fin n := Classical.choose (exists_first f)

theorem first_spec {n : ℕ} [NeZero n] (f : Fin n → EReal) : IsFirst f (first f) := Classical.choose_spec (exists_first f)

theorem first_eq {n : ℕ} [NeZero n] {f : Fin n → EReal} {k : Fin n} (h : IsFirst f k) : first f = k :=
  (first_spec f).unique h

/-- The greatest of a constant and the values before place `m`, kept while walking. -/
def high (c : EReal) (f : ℕ → EReal) (m : ℕ) : EReal :=
  Nat.rec (motive := fun _ => EReal) c (fun m b => if b < f m then f m else b) m

/-- What belongs to the place the walk holds for its best. -/
def held {β : Type} (c : EReal) (f : ℕ → EReal) (z : β) (g : ℕ → β) (m : ℕ) : β :=
  Nat.rec (motive := fun _ => β) z (fun m x => if high c f m < f m then g m else x) m

theorem high_succ (c : EReal) (f : ℕ → EReal) (m : ℕ) :
    high c f (m + 1) = if high c f m < f m then f m else high c f m := rfl

theorem held_succ {β : Type} (c : EReal) (f : ℕ → EReal) (z : β) (g : ℕ → β) (m : ℕ) :
    held c f z g (m + 1) = if high c f m < f m then g m else held c f z g m := rfl

theorem walk {c : EReal} {f : ℕ → EReal} (h0 : c < f 0) (n : ℕ) :
    ∃ k, k ≤ n ∧ (∀ j, j ≤ n → f j ≤ f k) ∧ (∀ j, j < k → f j < f k) ∧ high c f (n + 1) = f k
      ∧ ∀ (β : Type) (z : β) (g : ℕ → β), held c f z g (n + 1) = g k := by
  induction n with
  | zero =>
    refine ⟨0, le_rfl, fun j hj => by rw [Nat.le_zero.mp hj], fun j hj => absurd hj (Nat.not_lt_zero j), ?_, fun β z g => ?_⟩
    · rw [high_succ]; exact if_pos h0
    · rw [held_succ]; exact if_pos h0
  | succ n ih =>
    obtain ⟨k, hk, hle, hlt, hb, hg⟩ := ih
    by_cases hc : f k < f (n + 1)
    · refine ⟨n + 1, le_rfl, fun j hj => ?_, fun j hj => ?_, ?_, fun β z g => ?_⟩
      · rcases Nat.lt_or_eq_of_le hj with h | h
        · exact (hle j (by omega)).trans hc.le
        · rw [h]
      · exact (hle j (by omega)).trans_lt hc
      · rw [high_succ, hb, if_pos hc]
      · rw [held_succ, hb, if_pos hc]
    · refine ⟨k, by omega, fun j hj => ?_, hlt, ?_, fun β z g => ?_⟩
      · rcases Nat.lt_or_eq_of_le hj with h | h
        · exact hle j (by omega)
        · rw [h]; exact not_lt.mp hc
      · rw [high_succ, hb, if_neg hc]
      · rw [held_succ, hb, if_neg hc, hg]

/-- The walk over a row ends at the first place of the greatest value. -/
theorem walk_first {n : ℕ} {c : EReal} {f : ℕ → EReal} (h0 : c < f 0) :
    high c f (n + 1) = f (first fun k : Fin (n + 1) => f k.val).val
      ∧ ∀ (β : Type) (z : β) (g : ℕ → β), held c f z g (n + 1) = g (first fun k : Fin (n + 1) => f k.val).val := by
  obtain ⟨k, hk, hle, hlt, hb, hg⟩ := walk h0 n
  have he : first (fun k : Fin (n + 1) => f k.val) = ⟨k, by omega⟩ :=
    first_eq ⟨fun j => hle j.val (by omega), fun j hj => hlt j.val hj⟩
  rw [he]
  exact ⟨hb, hg⟩

/-- Two rows that agree have their greatest value first at one place. -/
theorem first_congr {n : ℕ} [NeZero n] {f g : Fin n → EReal} (h : ∀ k, f k = g k) : first f = first g :=
  congrArg first (funext h)

end Cert.Math

end
-- ==== Proof.Math.Focal.lean ====
/- Constants as real numbers, the focal loss of one class, and the class codes. -/
module

public import Idealize.ShloMosaic.Lib.Pointwise
public import Idealize.ShloMosaic.Lib.IdealHost

@[expose] public section

noncomputable section

namespace Cert.Math

open Idealize.ShloMosaic

theorem lo_val : ∃ r : ℝ, 0 < r ∧ r < 1 / 2 ∧ Ideal.ofBits .f32 0x38D1B717#32 = (r : EReal) := by
  refine ⟨13743895 * (2 : ℝ) ^ (-37 : ℤ), by norm_num, by norm_num, ?_⟩
  simp [Ideal.ofBits, Ideal.ieee, -EReal.coe_mul]

theorem hi_val : ∃ r : ℝ, 1 / 2 < r ∧ r < 1 ∧ Ideal.ofBits .f32 0x3F7FF972#32 = (r : EReal) := by
  refine ⟨16775538 * (2 : ℝ) ^ (-24 : ℤ), by norm_num, by norm_num, ?_⟩
  simp [Ideal.ofBits, Ideal.ieee, -EReal.coe_mul]

theorem eps_nonneg : 0 < Ideal.ofBits .f32 0x322BCC77#32 := by
  have h : Ideal.ofBits .f32 0x322BCC77#32 = ((11258999 * (2 : ℝ) ^ (-50 : ℤ) : ℝ) : EReal) := by
    simp [Ideal.ofBits, Ideal.ieee, -EReal.coe_mul]
  rw [h]; exact EReal.coe_pos.mpr (by positivity)

theorem neg_one_val : Ideal.ofBits .f32 0xBF800000#32 = ((-1 : ℝ) : EReal) := by
  simp [Ideal.ofBits, Ideal.ieee, -EReal.coe_mul, -EReal.coe_neg]; norm_num

theorem two_val : Ideal.ofBits .f32 0x40000000#32 = ((2 : ℝ) : EReal) := by
  simp [Ideal.ofBits, Ideal.ieee, -EReal.coe_mul]; norm_num

theorem k128_val : Ideal.ofBits .f32 0x43000000#32 = ((128 : ℝ) : EReal) := by
  simp [Ideal.ofBits, Ideal.ieee, -EReal.coe_mul]; norm_num

theorem k16384_val : Ideal.ofBits .f32 0x46800000#32 = ((16384 : ℝ) : EReal) := by
  simp [Ideal.ofBits, Ideal.ieee, -EReal.coe_mul]; norm_num

theorem bot_val : Ideal.ofBits .f32 0xFF800000#32 = (⊥ : EReal) := by
  simp [Ideal.ofBits, Ideal.ieee]

/-- A class probability held between the two bounds. -/
def clip (x : EReal) : EReal := min (Ideal.ofBits .f32 0x3F7FF972#32) (max (Ideal.ofBits .f32 0x38D1B717#32) x)

theorem clip_real (x : EReal) : ∃ r : ℝ, 0 < r ∧ r < 1 ∧ clip x = (r : EReal) := by
  obtain ⟨l, l0, l1, hl⟩ := lo_val
  obtain ⟨h, h0, h1, hh⟩ := hi_val
  rw [clip, hl, hh]
  induction x with
  | bot => exact ⟨l, l0, by linarith, by rw [max_bot_right]; exact min_eq_right (EReal.coe_le_coe_iff.mpr (by linarith))⟩
  | top => exact ⟨h, by linarith, h1, by rw [max_top_right]; exact min_eq_left le_top⟩
  | coe r =>
    refine ⟨min h (max l r), lt_min (by linarith) (lt_max_of_lt_left l0), min_lt_of_left_lt h1, ?_⟩
    rw [EReal.coe_strictMono.monotone.map_min, EReal.coe_strictMono.monotone.map_max]

/-- The focal loss of one class at probability `x`: of a class that is there, of one that is not, of an anchor left out. -/
def focal (hit live : Prop) [Decidable hit] [Decidable live] (x : EReal) : EReal :=
  if hit then Ideal.ofBits .f32 0x3E800000#32 * (1 - clip x) * (1 - clip x) * (0 - Ideal.log (clip x))
  else if live then Ideal.ofBits .f32 0x3F400000#32 * clip x * clip x * (0 - Ideal.log (1 - clip x)) else 0

/-- The loss from the factor `s` and the probability's distance `y` to its target. -/
def elem (s y : EReal) : EReal := s * y * y * (0 - Ideal.log (1 - y))

theorem sub_sub_real (r : ℝ) : (1 : EReal) - (1 - (r : EReal)) = (r : EReal) := by
  rw [← EReal.coe_one, ← EReal.coe_sub, ← EReal.coe_sub]; exact congrArg _ (by ring)

theorem elem_hit (x : EReal) (live : Prop) [Decidable live] :
    elem (Ideal.ofBits .f32 0x3E800000#32) (1 - clip x) = focal True live x := by
  obtain ⟨r, -, -, hr⟩ := clip_real x
  rw [focal, if_pos trivial, elem, hr, sub_sub_real]

theorem elem_live (x : EReal) (live : Prop) [Decidable live] :
    elem ((if live then 1 else 0) * Ideal.ofBits .f32 0x3F400000#32) (clip x) = focal False live x := by
  rw [focal, if_neg not_false, elem]
  split
  · rw [one_mul]
  · rw [zero_mul, zero_mul, zero_mul, zero_mul]

theorem pow_two_real (r : ℝ) : Ideal.pow (r : EReal) ((2 : ℝ) : EReal) = (r : EReal) * (r : EReal) := by
  rw [← EReal.coe_mul]
  exact congrArg Real.toEReal ((Real.rpow_two r).trans (sq r))

/-- The loss of one class at target `t`: 1, 0, or -1 for an anchor left out. -/
def refElem (t x : EReal) : EReal :=
  if t ≠ Ideal.ofBits .f32 0xBF800000#32 then
    (if t = 1 then Ideal.ofBits .f32 0x3E800000#32 else Ideal.ofBits .f32 0x3F400000#32)
      * Ideal.pow (if t = 1 then 1 - clip x else clip x) (Ideal.ofBits .f32 0x40000000#32)
      * -(t * Ideal.log (clip x) + (1 - t) * Ideal.log (1 - clip x))
  else 0

theorem log_real {r : ℝ} (h : 0 < r) : Ideal.log (r : EReal) = ((Real.log r : ℝ) : EReal) := by
  show (if r ≤ 0 then (⊥ : EReal) else _) = _
  rw [if_neg (not_le.mpr h)]

theorem cross_real (t r : ℝ) (h0 : 0 < r) (h1 : r < 1) :
    -((t : EReal) * Ideal.log (r : EReal) + (((1 : ℝ) : EReal) - (t : EReal)) * Ideal.log (((1 - r : ℝ)) : EReal))
      = ((-(t * Real.log r + (1 - t) * Real.log (1 - r)) : ℝ) : EReal) := by
  rw [log_real h0, log_real (by linarith : (0 : ℝ) < 1 - r), ← EReal.coe_mul, ← EReal.coe_sub, ← EReal.coe_mul, ← EReal.coe_add,
    ← EReal.coe_neg]

theorem ref_hit (x : EReal) (live : Prop) [Decidable live] : refElem 1 x = focal True live x := by
  obtain ⟨r, h0, h1, hr⟩ := clip_real x
  have hne : (1 : EReal) ≠ Ideal.ofBits .f32 0xBF800000#32 := by
    rw [neg_one_val, ← EReal.coe_one]; exact fun h => by have := EReal.coe_injective h; norm_num at this
  rw [refElem, focal, if_pos trivial, if_pos hne, if_pos rfl, if_pos rfl, two_val, hr, ← EReal.coe_one, ← EReal.coe_sub,
    pow_two_real, cross_real 1 r h0 h1, ← mul_assoc, log_real h0, ← EReal.coe_zero, ← EReal.coe_sub]
  exact congrArg _ (congrArg Real.toEReal (by ring))

theorem ref_miss (x : EReal) (live : Prop) [Decidable live] (h : live) : refElem 0 x = focal False live x := by
  obtain ⟨r, h0, h1, hr⟩ := clip_real x
  have hne : (0 : EReal) ≠ Ideal.ofBits .f32 0xBF800000#32 := by
    rw [neg_one_val, ← EReal.coe_zero]; exact fun h => by have := EReal.coe_injective h; norm_num at this
  have h01 : ¬(0 : EReal) = 1 := zero_ne_one
  rw [refElem, focal, if_neg not_false, if_pos h, if_pos hne, if_neg h01, if_neg h01, two_val, hr, ← EReal.coe_one,
    ← EReal.coe_sub, pow_two_real, ← EReal.coe_zero, cross_real 0 r h0 h1, ← mul_assoc,
    log_real (by linarith : (0 : ℝ) < 1 - r), ← EReal.coe_sub]
  exact congrArg _ (congrArg Real.toEReal (by ring))

theorem ref_out (x : EReal) (live : Prop) [Decidable live] (h : ¬live) :
    refElem (Ideal.ofBits .f32 0xBF800000#32) x = focal False live x := by
  rw [refElem, focal, if_neg not_false, if_neg h, if_neg (not_not.mpr rfl)]

/-! ## Class codes -/

theorem fptosi_nat (n : ℕ) (h : n < 2 ^ 31) : Ideal.fptosi 32 ((n : ℝ) : EReal) = BitVec.ofNat 32 n := by
  have h1 : Ideal.toIntClamped (-(2 ^ (32 - 1) : Nat)) ((2 ^ (32 - 1) : Nat) - 1) ((n : ℝ) : EReal) = (n : ℤ) := by
    show max _ (min _ (if (0 : ℝ) ≤ n then ⌊(n : ℝ)⌋ else ⌈(n : ℝ)⌉)) = _
    rw [if_pos (Nat.cast_nonneg n), Int.floor_natCast]
    norm_num
    omega
  rw [Ideal.fptosi, h1, BitVec.ofInt_natCast]

/-- The code of three classes. -/
def code (a b c : ℕ) : ℕ := (a + 1) + 128 * (b + 1) + 16384 * (c + 1)

theorem code_val (a b c : ℕ) :
    ((a : ℝ) : EReal) + 1 + Ideal.ofBits .f32 0x43000000#32 * (((b : ℝ) : EReal) + 1)
      + Ideal.ofBits .f32 0x46800000#32 * (((c : ℝ) : EReal) + 1) = ((code a b c : ℕ) : ℝ) := by
  rw [k128_val, k16384_val, ← EReal.coe_one, ← EReal.coe_add, ← EReal.coe_add, ← EReal.coe_add, ← EReal.coe_mul, ← EReal.coe_mul,
    ← EReal.coe_add, ← EReal.coe_add, code]
  push_cast
  rfl

theorem code_lt {a b c : ℕ} (ha : a < 80) (hb : b < 80) (hc : c < 80) : code a b c < 2 ^ 31 := by
  rw [code]; omega

theorem ofNat_and (n : ℕ) (h : n < 2 ^ 31) : BitVec.ofNat 32 n &&& 127#32 = BitVec.ofNat 32 (n % 128) := by
  apply BitVec.eq_of_toNat_eq
  rw [BitVec.toNat_and, BitVec.toNat_ofNat, BitVec.toNat_ofNat, BitVec.toNat_ofNat, Nat.mod_eq_of_lt (by omega : n < 2 ^ 32),
    Nat.mod_eq_of_lt (by omega : n % 128 < 2 ^ 32)]
  exact Nat.and_two_pow_sub_one_eq_mod n 7

theorem ofNat_shr (n k : ℕ) (h : n < 2 ^ 31) (hk : k < 32) :
    IntOp.shrsi .vector (BitVec.ofNat 32 n) (BitVec.ofNat 32 k) = BitVec.ofNat 32 (n / 2 ^ k) := by
  have hk' : (BitVec.ofNat 32 k).toNat = k := by rw [BitVec.toNat_ofNat]; exact Nat.mod_eq_of_lt (by omega)
  have hn : (BitVec.ofNat 32 n).toNat = n := by rw [BitVec.toNat_ofNat]; exact Nat.mod_eq_of_lt (by omega)
  rw [IntOp.shrsi, if_pos (by omega), BitVec.sshiftRight', hk']
  apply BitVec.eq_of_toNat_eq
  rw [BitVec.sshiftRight_eq_of_msb_false (by rw [BitVec.msb_eq_decide, hn]; exact decide_eq_false (by omega)),
    BitVec.toNat_ushiftRight, hn, BitVec.toNat_ofNat, Nat.shiftRight_eq_div_pow,
    Nat.mod_eq_of_lt (lt_of_le_of_lt (Nat.div_le_self _ _) (by omega))]

theorem ofNat_beq (x y : ℕ) (hx : x < 2 ^ 31) (hy : y < 2 ^ 31) :
    IntOp.cmpi .eq (BitVec.ofNat 32 x) (BitVec.ofNat 32 y) = BitVec.ofBool (decide (x = y)) := by
  refine congrArg BitVec.ofBool ?_
  rw [Bool.eq_iff_iff, beq_iff_eq, decide_eq_true_iff]
  refine ⟨fun h => ?_, fun h => h ▸ rfl⟩
  have := congrArg BitVec.toNat h
  rwa [BitVec.toNat_ofNat, BitVec.toNat_ofNat, Nat.mod_eq_of_lt (by omega), Nat.mod_eq_of_lt (by omega)] at this

/-- Whether class `k` is one of those that `e` codes. -/
def coded (e k : BitVec 32) : BitVec 1 :=
  IntOp.ori (IntOp.ori (IntOp.cmpi .eq (IntOp.andi e 127#32) k)
    (IntOp.cmpi .eq (IntOp.andi (IntOp.shrsi .vector e 7#32) 127#32) k))
    (IntOp.cmpi .eq (IntOp.shrsi .vector e 14#32) k)

theorem coded_nat (n k : ℕ) (h : n < 2 ^ 31) (hk : k < 2 ^ 31) :
    coded (BitVec.ofNat 32 n) (BitVec.ofNat 32 k) = 1#1 ↔ n % 128 = k ∨ n / 128 % 128 = k ∨ n / 16384 = k := by
  have h7 : n / 2 ^ 7 < 2 ^ 31 := lt_of_le_of_lt (Nat.div_le_self _ _) h
  rw [coded, IntOp.andi, IntOp.andi, ofNat_and n h, ofNat_shr n 7 h (by omega), ofNat_shr n 14 h (by omega), ofNat_and _ h7,
    ofNat_beq _ _ (by omega) hk, ofNat_beq _ _ (by omega) hk, ofNat_beq _ _ (by omega) hk, ← or_assoc]
  by_cases h1 : n % 128 = k <;> by_cases h2 : n / 2 ^ 7 % 128 = k <;> by_cases h3 : n / 2 ^ 14 = k <;>
    simp only [h1, h2, h3, decide_true, decide_false, IntOp.ori] <;> norm_num at h2 h3 ⊢ <;> simp [h2, h3]

theorem coded_code {a b c k : ℕ} (ha : a < 80) (hb : b < 80) (hc : c < 80) (hk : k < 80) :
    coded (BitVec.ofNat 32 (code a b c)) (BitVec.ofNat 32 (k + 1)) = 1#1 ↔ a = k ∨ b = k ∨ c = k := by
  rw [coded_nat _ _ (code_lt ha hb hc) (by omega), code]
  omega

theorem coded_none {k : ℕ} (hk : k < 80) : ¬coded (BitVec.ofNat 32 0) (BitVec.ofNat 32 (k + 1)) = 1#1 := by
  rw [coded_nat _ _ (by omega) (by omega)]
  omega

end Cert.Math

end
-- ==== Proof.Math.Spec.lean ====
/- The three losses as plain formulas, and the facts about them that both programs use. -/
module

public import proofs.«01_k».proof.Proof.Math.First
public import proofs.«01_k».proof.Proof.Math.Focal

@[expose] public section

noncomputable section

namespace Cert.Math

open Idealize.ShloMosaic

/-- The area that the anchor `p` and the box `g` share. -/
def inter (p : Fin 4 → EReal) (g : Fin 7 → EReal) : EReal :=
  max (min (p 2) (g 2) - max (p 0) (g 0)) 0 * max (min (p 3) (g 3) - max (p 1) (g 1)) 0

/-- Intersection over union of the anchor `p` and the box `g`. -/
def iou (p : Fin 4 → EReal) (g : Fin 7 → EReal) : EReal :=
  Ideal.div (inter p g)
    (max ((p 2 - p 0) * (p 3 - p 1) + (g 2 - g 0) * (g 3 - g 1) - inter p g) (Ideal.ofBits .f32 0x322BCC77#32))

theorem iou_nonneg (p : Fin 4 → EReal) (g : Fin 7 → EReal) : 0 ≤ iou p g := by
  have h : 0 < max ((p 2 - p 0) * (p 3 - p 1) + (g 2 - g 0) * (g 3 - g 1) - inter p g) (Ideal.ofBits .f32 0x322BCC77#32) :=
    lt_max_of_lt_right eps_nonneg
  rw [iou, Ideal.div, if_neg h.ne']
  exact mul_nonneg (mul_nonneg (le_max_right _ _) (le_max_right _ _)) (EReal.inv_nonneg_of_nonneg h.le)

theorem neg_one_lt_iou (p : Fin 4 → EReal) (g : Fin 7 → EReal) : Ideal.ofBits .f32 0xBF800000#32 < iou p g :=
  lt_of_lt_of_le (by rw [neg_one_val]; exact EReal.coe_neg'.mpr (by norm_num)) (iou_nonneg p g)

variable (p : Fin 4 → EReal) (A : Fin 32 → Fin 7 → EReal)

/-- The first box of those that overlap the anchor most. -/
def pick : Fin 32 := first fun m => iou p (A m)

/-- The anchor's greatest overlap. -/
def best : EReal := iou p (A (pick p A))

/-- The box the anchor is assigned to. -/
def box : Fin 7 → EReal := A (pick p A)

/-- The anchor overlaps its box by half or more. -/
def Pos : Prop := Ideal.ofBits .f32 0x3F000000#32 ≤ best p A

/-- The anchor overlaps every box by less than 0.4. -/
def Low : Prop := best p A < Ideal.ofBits .f32 0x3ECCCCCD#32

/-- Class `c` is one of the box's three. -/
def Hot (g : Fin 7 → EReal) (c : Fin 80) : Prop :=
  g 4 = ((c.val : ℝ) : EReal) ∨ g 5 = ((c.val : ℝ) : EReal) ∨ g 6 = ((c.val : ℝ) : EReal)

/-- The box's three classes are whole numbers from 0 to 79. -/
def Ids (g : Fin 7 → EReal) : Prop :=
  ∀ k : Fin 7, 4 ≤ k.val → ∃ n : ℕ, n < 80 ∧ g k = ((n : ℝ) : EReal)

open Classical in
/-- Smooth L1 of the error `d`. -/
def sl1 (d : EReal) : EReal :=
  if d ≤ Ideal.ofBits .f32 0x3DE38E39#32 then Ideal.ofBits .f32 0x40900000#32 * d * d else d - Ideal.ofBits .f32 0x3D638E39#32

/-- The target of a centre, for an anchor from `lo` of width `w` and a box from `b` of width `gw`. -/
def centre (lo w b gw : EReal) : EReal :=
  Ideal.div (Ideal.div (b + Ideal.ofBits .f32 0x3F000000#32 * gw - (lo + Ideal.ofBits .f32 0x3F000000#32 * w)) w)
    (Ideal.ofBits .f32 0x3DCCCCCD#32)

/-- The target of a width. -/
def width (w gw : EReal) : EReal :=
  Ideal.div (Ideal.log (Ideal.div (max gw 1) w)) (Ideal.ofBits .f32 0x3E4CCCCD#32)

/-- The regression loss of the anchor `p` assigned to `g` and predicted `q`. -/
def regOne (p : Fin 4 → EReal) (g : Fin 7 → EReal) (q : Fin 4 → EReal) : EReal :=
  sl1 (FloatOps.absf (F := Ideal) (φ := .f32) (centre (p 0) (p 2 - p 0) (g 0) (g 2 - g 0) - q 0))
    + sl1 (FloatOps.absf (F := Ideal) (φ := .f32) (centre (p 1) (p 3 - p 1) (g 1) (g 3 - g 1) - q 1))
    + sl1 (FloatOps.absf (F := Ideal) (φ := .f32) (width (p 2 - p 0) (g 2 - g 0) - q 2))
    + sl1 (FloatOps.absf (F := Ideal) (φ := .f32) (width (p 3 - p 1) (g 3 - g 1) - q 3))

/-- The loss of the prediction `x` that a box is there. -/
def soft (x : EReal) : EReal :=
  max (0 - x) 0 + Ideal.log (1 + Ideal.exp (0 - FloatOps.absf (F := Ideal) (φ := .f32) (0 - x)))

variable (P : Fin 100000 → Fin 4 → EReal) (q : Fin 100000 → Fin 4 → EReal) (x : Fin 100000 → Fin 80 → EReal)

open Classical in
/-- The number of positive anchors. -/
def npos : EReal := ∑ a, if Pos (P a) A then 1 else 0

open Classical in
/-- The image's regression loss. -/
def regS : EReal := ∑ a, if Pos (P a) A then regOne (P a) (box (P a) A) (q a) else 0

open Classical in
/-- The loss of anchor `p` and class `c` at probability `y`. -/
def clsOne (c : Fin 80) (y : EReal) : EReal := focal (Pos p A ∧ Hot (box p A) c) (Pos p A ∨ Low p A) y

/-- The image's class loss. -/
def clsS : EReal := ∑ a, ∑ c, clsOne (P a) A c (x a c)

/-- The first result. -/
def loss1 (P : Fin 100000 → Fin 4 → EReal) (A : Fin 4 → Fin 32 → Fin 7 → EReal) (x : Fin 4 → Fin 100000 → Fin 80 → EReal) : EReal :=
  Ideal.div (∑ j, Ideal.div (clsS (A j) P (x j)) (max (npos (A j) P) 1)) (Ideal.ofBits .f32 0x40800000#32)

open Classical in
/-- The second result. -/
def loss2 (P : Fin 100000 → Fin 4 → EReal) (A : Fin 4 → Fin 32 → Fin 7 → EReal) (q : Fin 4 → Fin 100000 → Fin 4 → EReal) : EReal :=
  Ideal.div (∑ j, if 0 < npos (A j) P then
      Ideal.div (regS (A j) P (q j)) (max (npos (A j) P * Ideal.ofBits .f32 0x40800000#32) 1) else 0)
    (Ideal.ofBits .f32 0x40800000#32)

/-- The third result. -/
def loss3 (v : Fin 4 → EReal) : EReal := Ideal.div (∑ j, soft (v j)) (Ideal.ofBits .f32 0x40800000#32)

/-! ## Words of one bit -/

theorem ofBool_and (a b : Bool) : IntOp.andi (BitVec.ofBool a) (BitVec.ofBool b) = BitVec.ofBool (a && b) := by
  cases a <;> cases b <;> rfl

theorem ofBool_or (a b : Bool) : IntOp.ori (BitVec.ofBool a) (BitVec.ofBool b) = BitVec.ofBool (a || b) := by
  cases a <;> cases b <;> rfl

open Classical in
/-- A flag read as a number. -/
theorem sitofp_flag (a : Bool) :
    FloatOps.sitofp (F := Ideal) .f32 (BitVec.setWidth 32 (BitVec.ofBool a)) = if a = true then (1 : EReal) else 0 := by
  cases a
  · show (((BitVec.setWidth 32 (BitVec.ofBool false)).toInt : ℝ) : EReal) = _
    rw [if_neg Bool.false_ne_true, show (BitVec.setWidth 32 (BitVec.ofBool false)).toInt = 0 by decide]; norm_num
  · show (((BitVec.setWidth 32 (BitVec.ofBool true)).toInt : ℝ) : EReal) = _
    rw [if_pos rfl, show (BitVec.setWidth 32 (BitVec.ofBool true)).toInt = 1 by decide]; norm_num

/-- Which places of block `i` are anchors. -/
theorem valid_bit (i r l : ℕ) (hi : i < 4) (hr : r < 200) (hl : l < 128) :
    IntOp.cmpi .slt (IntOp.addi (IntOp.addi (Scalar.muli (BitVec.ofNat 32 i) 25600#32) (IntOp.muli (BitVec.ofNat 32 r) 128#32))
      (BitVec.ofNat 32 l)) 100000#32 = BitVec.ofBool (decide (i * 25600 + r * 128 + l < 100000)) := by
  have h : IntOp.addi (IntOp.addi (Scalar.muli (BitVec.ofNat 32 i) 25600#32) (IntOp.muli (BitVec.ofNat 32 r) 128#32))
      (BitVec.ofNat 32 l) = BitVec.ofNat 32 (i * 25600 + r * 128 + l) := by
    show BitVec.ofNat 32 i * BitVec.ofNat 32 25600 + BitVec.ofNat 32 r * BitVec.ofNat 32 128 + BitVec.ofNat 32 l = _
    rw [← BitVec.ofNat_mul, ← BitVec.ofNat_mul, ← BitVec.ofNat_add, ← BitVec.ofNat_add]
  rw [h]
  refine congrArg BitVec.ofBool ?_
  have h0 : (BitVec.ofNat 32 (i * 25600 + r * 128 + l)).toInt = ((i * 25600 + r * 128 + l : ℕ) : ℤ) := by
    rw [BitVec.toInt_eq_toNat_of_lt (by rw [BitVec.toNat_ofNat, Nat.mod_eq_of_lt (by omega)]; omega), BitVec.toNat_ofNat, Nat.mod_eq_of_lt (by omega)]
  show BitVec.slt _ _ = _
  rw [BitVec.slt, h0, show (100000#32 : BitVec 32).toInt = 100000 from rfl]
  exact decide_eq_decide.mpr (by omega)

end Cert.Math

end
-- ==== Proof.Ref.Point.lean ====
/- The reference's table of overlaps, and the box it assigns to each anchor. -/
module

public import proofs.«01_k».proof.Proof.Ref.Terms
public import proofs.«01_k».proof.Proof.Math.Spec
public import Idealize.ShloMosaic.Lib.Pointwise

@[expose] public section

set_option maxRecDepth 16384

noncomputable section

namespace Cert.ReferenceIdeal.Value

open Cert.ReferenceIdeal Cert.ReferenceIdeal.Gen Cert.Math Idealize.ShloMosaic Idealize.ShloMosaic.TcCoe Idealize.SL.Sem Idealize.ShloMosaic.StableHlo

variable (V : Bufs Ideal)

/-- The probabilities, as given. -/
def arr0 : S4x100000x80.Idx → EReal := fun y => V (Proc.devRef .tc main_arg0) y
/-- The regressions, as given. -/
def arr1 : S4x100000x4.Idx → EReal := fun y => V (Proc.devRef .tc main_arg1) y
/-- The anchors, as given. -/
def arr2 : S1x100000x4.Idx → EReal := fun y => V (Proc.devRef .tc main_arg2) y
/-- The box predictions, as given. -/
def arr3 : S4x1.Idx → EReal := fun y => V (Proc.devRef .tc main_arg3) y
/-- The annotations, as given. -/
def arr4 : S4x32x7.Idx → EReal := fun y => V (Proc.devRef .tc main_arg4) y

/-- The anchors. -/
def P : Fin 100000 → Fin 4 → EReal := fun a k => arr2 V (ix3 0 a k)
/-- The boxes of each image. -/
def A : Fin 4 → Fin 32 → Fin 7 → EReal := fun b n k => arr4 V (ix3 b n k)

section Leaves

variable (a : Fin 100000) (b : Fin 4) (m : Fin 32)

theorem v2_at : (res_main_v2 V : S100000.Idx → EReal) (ix1 a) = P V a 0 := by
  rw [res_main_v2]
  pointwise []
  rfl

theorem v4_at : (res_main_v4 V : S100000.Idx → EReal) (ix1 a) = P V a 1 := by
  rw [res_main_v4]
  pointwise []
  rfl

theorem v6_at : (res_main_v6 V : S100000.Idx → EReal) (ix1 a) = P V a 2 := by
  rw [res_main_v6]
  pointwise []
  rfl

theorem v8_at : (res_main_v8 V : S100000.Idx → EReal) (ix1 a) = P V a 3 := by
  rw [res_main_v8]
  pointwise []
  rfl

theorem v9_at : (res_main_v9 V : S100000.Idx → EReal) (ix1 a) = P V a 2 - P V a 0 := by
  rw [res_main_v9, ← v2_at, ← v6_at]
  generalize res_main_v2 V = x
  generalize res_main_v6 V = y
  rfl

theorem v10_at : (res_main_v10 V : S100000.Idx → EReal) (ix1 a) = P V a 3 - P V a 1 := by
  rw [res_main_v10, ← v4_at, ← v8_at]
  generalize res_main_v4 V = x
  generalize res_main_v8 V = y
  rfl

theorem v19_at : (res_main_v19 V : S4x1x32.Idx → EReal) (ix3 b 0 m) = A V b m 0 := by
  rw [res_main_v19]
  pointwise []
  rfl

theorem v22_at : (res_main_v22 V : S4x1x32.Idx → EReal) (ix3 b 0 m) = A V b m 1 := by
  rw [res_main_v22]
  pointwise []
  rfl

theorem v25_at : (res_main_v25 V : S4x1x32.Idx → EReal) (ix3 b 0 m) = A V b m 2 := by
  rw [res_main_v25]
  pointwise []
  rfl

theorem v28_at : (res_main_v28 V : S4x1x32.Idx → EReal) (ix3 b 0 m) = A V b m 3 := by
  rw [res_main_v28]
  pointwise []
  rfl

theorem v51_at : (res_main_v51 V : S4x100000x32.Idx → EReal) (ix3 b a m) = inter (P V a) (A V b m) := by
  have h1 := v2_at V a
  have h2 := v4_at V a
  have h3 := v6_at V a
  have h4 := v8_at V a
  have g1 := v19_at V b m
  have g2 := v22_at V b m
  have g3 := v25_at V b m
  have g4 := v28_at V b m
  rw [res_main_v51, inter, ← h1, ← h2, ← h3, ← h4, ← g1, ← g2, ← g3, ← g4]
  clear h1 h2 h3 h4 g1 g2 g3 g4
  generalize res_main_v2 V = x1
  change FVec Ideal S100000 .f32 at x1
  generalize res_main_v4 V = x2
  change FVec Ideal S100000 .f32 at x2
  generalize res_main_v6 V = x3
  change FVec Ideal S100000 .f32 at x3
  generalize res_main_v8 V = x4
  change FVec Ideal S100000 .f32 at x4
  generalize res_main_v19 V = b1
  change FVec Ideal S4x1x32 .f32 at b1
  generalize res_main_v22 V = b2
  change FVec Ideal S4x1x32 .f32 at b2
  generalize res_main_v25 V = b3
  change FVec Ideal S4x1x32 .f32 at b3
  generalize res_main_v28 V = b4
  change FVec Ideal S4x1x32 .f32 at b4
  pointwise []

theorem v63_at : (res_main_v63 V : S4x100000x32.Idx → EReal) (ix3 b a m) = iou (P V a) (A V b m) := by
  have h1 := v9_at V a
  have h2 := v10_at V a
  have g1 := v19_at V b m
  have g2 := v22_at V b m
  have g3 := v25_at V b m
  have g4 := v28_at V b m
  have h5 := v51_at V a b m
  rw [res_main_v63, iou, ← h1, ← h2, ← g1, ← g2, ← g3, ← g4, ← h5]
  clear h1 h2 g1 g2 g3 g4 h5
  generalize res_main_v51 V = x51
  change FVec Ideal S4x100000x32 .f32 at x51
  generalize res_main_v9 V = x1
  change FVec Ideal S100000 .f32 at x1
  generalize res_main_v10 V = x2
  change FVec Ideal S100000 .f32 at x2
  generalize res_main_v19 V = b1
  change FVec Ideal S4x1x32 .f32 at b1
  generalize res_main_v22 V = b2
  change FVec Ideal S4x1x32 .f32 at b2
  generalize res_main_v25 V = b3
  change FVec Ideal S4x1x32 .f32 at b3
  generalize res_main_v28 V = b4
  change FVec Ideal S4x1x32 .f32 at b4
  pointwise []

theorem v0_at (k : Fin 80) : (res_main_v0 V : S4x100000x80.Idx → EReal) (ix3 b a k) = clip (arr0 V (ix3 b a k)) := by
  rw [res_main_v0, clip]
  pointwise []
  rfl

end Leaves

end Cert.ReferenceIdeal.Value

end
-- ==== Proof.Math.Arg.lean ====
/- Folding a choice over a list: the result is one of the items and beats them all. -/
module

public import proofs.«01_k».proof.Proof.Math.First

@[expose] public section

noncomputable section

namespace Cert.Math

open Idealize.ShloMosaic

/-- A choice between two that keeps one of them, folded over a list. -/
theorem foldl_top {α : Type} {r : α → α → α} {w : α → α → Prop} (hr : ∀ a b, r a b = a ∨ r a b = b)
    (hl : ∀ a b, w (r a b) a) (hb : ∀ a b, w (r a b) b) (hw : ∀ a, w a a) (ht : ∀ a b c, w a b → w b c → w a c)
    (L : List α) (a : α) :
    (L.foldl r a = a ∨ L.foldl r a ∈ L) ∧ w (L.foldl r a) a ∧ ∀ x ∈ L, w (L.foldl r a) x := by
  induction L generalizing a with
  | nil => exact ⟨Or.inl rfl, hw a, fun x hx => absurd hx List.not_mem_nil⟩
  | cons y L ih =>
    obtain ⟨h1, h2, h3⟩ := ih (r a y)
    rw [List.foldl_cons]
    refine ⟨?_, ht _ _ _ h2 (hl a y), fun x hx => ?_⟩
    · rcases h1 with h | h
      · rcases hr a y with e | e
        · exact Or.inl (h.trans e)
        · exact Or.inr (by rw [h, e]; exact List.mem_cons_self)
      · exact Or.inr (List.mem_cons_of_mem _ h)
    · rcases List.mem_cons.mp hx with e | e
      · rw [e]; exact ht _ _ _ h2 (hb a y)
      · exact h3 x e

/-- The pair `p` is greater than `q`, or as great and no later. -/
def Beats (p q : EReal × BitVec 32) : Prop := q.1 < p.1 ∨ q.1 = p.1 ∧ p.2.toInt ≤ q.2.toInt

theorem Beats.refl (p : EReal × BitVec 32) : Beats p p := Or.inr ⟨rfl, le_rfl⟩

theorem Beats.trans (p q s : EReal × BitVec 32) (h : Beats p q) (h' : Beats q s) : Beats p s := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

theorem ofNat_toInt {n : ℕ} (h : n < 100) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]

/-- The pairs of a row of values with their places, folded from the least value. -/
theorem foldl_first {r : EReal × BitVec 32 → EReal × BitVec 32 → EReal × BitVec 32}
    (hr : ∀ a b, r a b = a ∨ r a b = b) (hl : ∀ a b, Beats (r a b) a) (hb : ∀ a b, Beats (r a b) b)
    (f : Fin 32 → EReal) (hf : ∀ m, 0 ≤ f m) (L : List (EReal × BitVec 32))
    (hL : ∀ p, p ∈ L ↔ ∃ m, p = (f m, BitVec.ofNat 32 m.val)) (z : BitVec 32) :
    L.foldl r (⊥, z) = (f (first f), BitVec.ofNat 32 (first f).val) := by
  obtain ⟨h1, -, h3⟩ := foldl_top hr hl hb Beats.refl Beats.trans L (⊥, z)
  have h0 := h3 _ ((hL _).mpr ⟨0, rfl⟩)
  obtain ⟨k, hk⟩ : ∃ k, L.foldl r (⊥, z) = (f k, BitVec.ofNat 32 k.val) := by
    rcases h1 with e | e
    · rw [e] at h0
      have h := lt_of_lt_of_le EReal.bot_lt_zero (hf 0)
      rcases h0 with h0 | ⟨h0, -⟩
      · exact absurd h0 not_lt_bot
      · exact absurd h0 h.ne'
    · exact (hL _).mp e
  rw [hk] at h3 ⊢
  rw [first_eq (k := k)]
  have h4 : ∀ m, Beats (f k, BitVec.ofNat 32 k.val) (f m, BitVec.ofNat 32 m.val) := fun m => h3 _ ((hL _).mpr ⟨m, rfl⟩)
  refine ⟨fun m => ?_, fun m hm => ?_⟩
  · rcases h4 m with h | ⟨h, -⟩
    · exact h.le
    · exact h.le
  · rcases h4 m with h | ⟨-, h⟩
    · exact h
    · have h' : (BitVec.ofNat 32 k.val).toInt ≤ (BitVec.ofNat 32 m.val).toInt := h
      rw [ofNat_toInt (by omega), ofNat_toInt (by omega)] at h'
      have h'' : m.val < k.val := hm
      omega

/-- The greatest of a row of values, folded from the least. -/
theorem foldl_greatest {r : EReal → EReal → EReal} (hr : ∀ a b, r a b = max a b) (f : Fin 32 → EReal) (L : List EReal)
    (hL : ∀ p, p ∈ L ↔ ∃ m, p = f m) : L.foldl r ⊥ = f (first f) := by
  obtain ⟨h1, -, h3⟩ := foldl_top (r := r) (w := fun p q => q ≤ p)
    (fun a b => by rw [hr]; rcases le_total a b with h | h; exacts [Or.inr (max_eq_right h), Or.inl (max_eq_left h)])
    (fun a b => by rw [hr]; exact le_max_left _ _) (fun a b => by rw [hr]; exact le_max_right _ _) (fun a => le_rfl)
    (fun a b c h h' => h'.trans h) L ⊥
  refine le_antisymm ?_ (h3 _ ((hL _).mpr ⟨_, rfl⟩))
  rcases h1 with e | e
  · rw [e]; exact bot_le
  · obtain ⟨m, hm⟩ := (hL _).mp e
    rw [hm]
    exact (first_spec f).1 m

end Cert.Math

end
-- ==== Proof.Ref.Pick.lean ====
/- The reference's assignment of a box to each anchor. -/
module

public import proofs.«01_k».proof.Proof.Ref.Point
public import proofs.«01_k».proof.Proof.Math.Arg

@[expose] public section

set_option maxRecDepth 16384

noncomputable section

namespace Cert.ReferenceIdeal.Value

open Cert.ReferenceIdeal Cert.ReferenceIdeal.Gen Cert.Math Idealize.ShloMosaic Idealize.ShloMosaic.TcCoe Idealize.SL.Sem Idealize.ShloMosaic.StableHlo

section Lists

variable {s t u : Shape} {axes : List (Fin s.rank)}

/-- A reduction at an index folds a list of the elements that belong to it. -/
theorem reduce_list {α : Type} (f : α → α → α) (x : s.Idx → α) (z : u.Idx → α) (h : s.ReducesTo axes t) (hu : 0 < u.numel) (j : t.Idx) :
    ∃ L : List α, (∀ p, p ∈ L ↔ ∃ i, h.drop i = j ∧ x i = p) ∧ Host.reduce f x z h hu j = L.foldl f (z (Shape.Idx.first hu)) := by
  refine ⟨_, fun p => ?_, (Host.reduce_eq_foldl f x z h hu j).trans (List.foldl_map (f := x) (g := f)).symm⟩
  simp only [List.mem_map, List.mem_filter, List.mem_finRange, true_and, decide_eq_true_eq]
  constructor
  · rintro ⟨i, ⟨-, hi⟩, e⟩
    exact ⟨i, hi, e⟩
  · rintro ⟨i, hi, e⟩
    exact ⟨i, ⟨⟨s.rowMajor i, Equiv.symm_apply_apply _ _⟩, hi⟩, e⟩

/-- The same for a reduction of pairs. -/
theorem pairs_list {α β : Type} (f : α × β → α × β → α × β) (x : s.Idx → α) (y : s.Idx → β) (z : u.Idx → α) (w : u.Idx → β)
    (h : s.ReducesTo axes t) (hu : 0 < u.numel) (j : t.Idx) :
    ∃ L : List (α × β), (∀ p, p ∈ L ↔ ∃ i, h.drop i = j ∧ (x i, y i) = p)
      ∧ Host.reduce2 f x y z w h hu j = L.foldl f (z (Shape.Idx.first hu), w (Shape.Idx.first hu)) := by
  refine ⟨_, fun p => ?_, Host.reduce2_eq_foldl_fiber f x y z w h hu j⟩
  rw [Host.argReduceFiber]
  simp only [List.mem_map, List.mem_filter, List.mem_finRange, true_and, decide_eq_true_eq]
  constructor
  · rintro ⟨n, hn, e⟩
    exact ⟨_, hn, e⟩
  · rintro ⟨i, hi, e⟩
    exact ⟨s.rowMajor i, by rw [Equiv.symm_apply_apply]; exact hi, by rw [Equiv.symm_apply_apply]; exact e⟩

end Lists

/-- The indices of the table of overlaps that belong to an anchor. -/
theorem drop_iff (b : Fin 4) (a : Fin 100000) (i : S4x100000x32.Idx) :
    reducesTo_S4x100000x32_S4x100000_d2.drop i = ix2 b a ↔ ∃ m : Fin 32, i = ix3 b a m := by
  have h0 : (reducesTo_S4x100000x32_S4x100000_d2.drop i 0 : Nat) = i 0 := Shape.ReducesTo.drop_apply_val _ i 0
  have h1 : (reducesTo_S4x100000x32_S4x100000_d2.drop i 1 : Nat) = i 1 := Shape.ReducesTo.drop_apply_val _ i 1
  constructor
  · intro h
    rw [h] at h0 h1
    refine ⟨i 2, funext fun x => Fin.ext ?_⟩
    match x with
    | ⟨0, _⟩ => exact h0.symm
    | ⟨1, _⟩ => exact h1.symm
    | ⟨2, _⟩ => rfl
  · rintro ⟨m, rfl⟩
    refine funext fun x => Fin.ext ?_
    match x with
    | ⟨0, _⟩ => exact h0
    | ⟨1, _⟩ => exact h1

open Classical in
/-- One step of the choice of the greatest overlap. -/
theorem step_eq (x y : EReal × BitVec 32) :
    reducer_argmax_f32_i32 (F := Ideal) x y
      = if y.1 < x.1 then x else if x.1 = y.1 ∧ x.2.toInt < y.2.toInt then (y.1, x.2) else y := by
  have e0 : FloatOps.cmpf (F := Ideal) (φ := .f32) .une x.1 x.1 = 0#1 :=
    congrArg BitVec.ofBool (decide_eq_false fun h => h rfl)
  have e1 : FloatOps.cmpf (F := Ideal) (φ := .f32) .ogt x.1 y.1 = BitVec.ofBool (decide (y.1 < x.1)) := rfl
  have e2 : FloatOps.cmpf (F := Ideal) (φ := .f32) .oeq x.1 y.1 = BitVec.ofBool (decide (x.1 = y.1)) := rfl
  have e3 : IntOp.cmpi .slt x.2 y.2 = BitVec.ofBool (decide (x.2.toInt < y.2.toInt)) := rfl
  simp only [reducer_argmax_f32_i32, e0, e1, e2, e3]
  by_cases h1 : y.1 < x.1
  · rw [if_pos h1, decide_eq_true h1, decide_eq_false (ne_of_gt h1)]
    cases decide (x.2.toInt < y.2.toInt) <;> rfl
  · rw [if_neg h1, decide_eq_false h1]
    by_cases h2 : x.1 = y.1
    · by_cases h3 : x.2.toInt < y.2.toInt
      · rw [if_pos ⟨h2, h3⟩, decide_eq_true h2, decide_eq_true h3]; rfl
      · rw [if_neg (fun h => h3 h.2), decide_eq_true h2, decide_eq_false h3]; rfl
    · rw [if_neg (fun h => h2 h.1), decide_eq_false h2]
      cases decide (x.2.toInt < y.2.toInt) <;> rfl

theorem step_pick (x y : EReal × BitVec 32) :
    reducer_argmax_f32_i32 (F := Ideal) x y = x ∨ reducer_argmax_f32_i32 (F := Ideal) x y = y := by
  rw [step_eq]
  by_cases h1 : y.1 < x.1
  · exact Or.inl (if_pos h1)
  · rw [if_neg h1]
    by_cases h2 : x.1 = y.1 ∧ x.2.toInt < y.2.toInt
    · rw [if_pos h2, ← h2.1]; exact Or.inl rfl
    · exact Or.inr (if_neg h2)

theorem step_left (x y : EReal × BitVec 32) : Beats (reducer_argmax_f32_i32 (F := Ideal) x y) x := by
  rw [step_eq]
  by_cases h1 : y.1 < x.1
  · rw [if_pos h1]; exact Beats.refl x
  · rw [if_neg h1]
    by_cases h2 : x.1 = y.1 ∧ x.2.toInt < y.2.toInt
    · rw [if_pos h2]; exact Or.inr ⟨h2.1, le_rfl⟩
    · rw [if_neg h2]
      rcases lt_or_eq_of_le (not_lt.mp h1) with h | h
      · exact Or.inl h
      · exact Or.inr ⟨h, not_lt.mp fun h3 => h2 ⟨h, h3⟩⟩

theorem step_right (x y : EReal × BitVec 32) : Beats (reducer_argmax_f32_i32 (F := Ideal) x y) y := by
  rw [step_eq]
  by_cases h1 : y.1 < x.1
  · rw [if_pos h1]; exact Or.inl h1
  · rw [if_neg h1]
    by_cases h2 : x.1 = y.1 ∧ x.2.toInt < y.2.toInt
    · rw [if_pos h2]; exact Or.inr ⟨rfl, h2.2.le⟩
    · rw [if_neg h2]; exact Beats.refl y

variable (V : Bufs Ideal) (a : Fin 100000) (b : Fin 4)

theorem v64_at : (res_main_v64 V : S4x100000.Idx → EReal) (ix2 b a) = best (P V a) (A V b) := by
  have h := v63_at V a b
  rw [res_main_v64]
  generalize res_main_v63 V = x at h ⊢
  change S4x100000x32.Idx → EReal at x
  obtain ⟨L, hL, e⟩ := reduce_list (FloatOps.maximumf (F := Ideal) (φ := .f32)) x (constant (F := Ideal) S_ .f32 0xFF800000#32)
    reducesTo_S4x100000x32_S4x100000_d2 h_S_ (ix2 b a)
  refine e.trans ((congrArg (fun z => List.foldl _ z L) bot_val).trans
    (foldl_greatest (fun _ _ => rfl) (fun m => iou (P V a) (A V b m)) L fun p => (hL p).trans ?_))
  constructor
  · rintro ⟨i, hi, rfl⟩
    obtain ⟨m, rfl⟩ := (drop_iff b a i).mp hi
    exact ⟨m, h m⟩
  · rintro ⟨m, rfl⟩
    exact ⟨ix3 b a m, (drop_iff b a _).mpr ⟨m, rfl⟩, h m⟩

/-- The place of the greatest value of a row. -/
theorem arg_at (x : FVec Ideal S4x100000x32 .f32) (y : S4x100000x32.Idx → BitVec 32) (z : S_.Idx → EReal) (w : S_.Idx → BitVec 32)
    (f : Fin 32 → EReal) (hf : ∀ m, 0 ≤ f m) (hx : ∀ m, x (ix3 b a m) = f m) (hy : ∀ m, y (ix3 b a m) = BitVec.ofNat 32 m.val)
    (hz : ∀ i, z i = ⊥) (g : S4x100000.Idx → BitVec 32)
    (hg : g = fun j => (Host.argReduce (reducer_argmax_f32_i32 (F := Ideal)) x y z w reducesTo_S4x100000x32_S4x100000_d2 h_S_ j).2) :
    g (ix2 b a) = BitVec.ofNat 32 (first f).val := by
  have h1 : g (ix2 b a) = (Host.argReduce (reducer_argmax_f32_i32 (F := Ideal)) x y z w reducesTo_S4x100000x32_S4x100000_d2 h_S_ (ix2 b a)).2 :=
    congrFun hg (ix2 b a)
  have h0 := congrFun (Ideal.argReduce_eq_reduce2 (φ := .f32) (reducer_argmax_f32_i32 (F := Ideal)) x y z w reducesTo_S4x100000x32_S4x100000_d2 h_S_) (ix2 b a)
  obtain ⟨L, hL, e⟩ := pairs_list (reducer_argmax_f32_i32 (F := Ideal)) x y z w reducesTo_S4x100000x32_S4x100000_d2 h_S_ (ix2 b a)
  rw [h1, h0, e, hz]
  generalize w (Shape.Idx.first h_S_) = w0
  refine congrArg Prod.snd (foldl_first step_pick step_left step_right f hf L (fun p => (hL p).trans ?_) w0)
  constructor
  · rintro ⟨i, hi, rfl⟩
    obtain ⟨m, rfl⟩ := (drop_iff b a i).mp hi
    exact ⟨m, Prod.ext (hx m) (hy m)⟩
  · rintro ⟨m, rfl⟩
    exact ⟨ix3 b a m, (drop_iff b a _).mpr ⟨m, rfl⟩, Prod.ext (hx m) (hy m)⟩

theorem v65_eq : res_main_v65 V = fun j => (Host.argReduce reducer_argmax_f32_i32 (res_main_v63 V) (res_main_call1_v0 V)
    (res_main_call1_cst V) (res_main_call1_c V) reducesTo_S4x100000x32_S4x100000_d2 h_S_ j).2 := rfl

theorem v65_at : (res_main_v65 V : S4x100000.Idx → BitVec 32) (ix2 b a) = BitVec.ofNat 32 (pick (P V a) (A V b)).val :=
  arg_at a b (res_main_v63 V) (res_main_call1_v0 V) (res_main_call1_cst V) (res_main_call1_c V)
    (fun m => iou (P V a) (A V b m)) (fun m => iou_nonneg _ _) (v63_at V a b) (fun m => rfl) (fun i => bot_val)
    (res_main_v65 V) (v65_eq V)

/-- The rows the reference takes of the annotations: one per anchor, whole. -/
theorem gather_at (x : S4x32x7.Idx → EReal) (idx : S4x100000x1.Idx → BitVec 32) (k : Fin 7) :
    Host.gather gather_S4x32x7_S4x100000x1_S4x100000x7_2_1_0_0_1_2_117 x idx (ix3 b a k)
      = x (ix3 b ⟨min (idx (ix3 b a 0)).toInt.toNat 31, by omega⟩ k) := by
  unfold Host.gather
  refine congrArg x (funext fun c => Fin.ext ?_)
  show GatherDims.start _ _ idx c + GatherDims.batchCoord _ _ c + GatherDims.offCoord _ _ c = _
  have hc : c = (0 : Fin 3) ∨ c = (1 : Fin 3) ∨ c = (2 : Fin 3) := by
    match c with
    | ⟨0, _⟩ => exact Or.inl rfl
    | ⟨1, _⟩ => exact Or.inr (Or.inl rfl)
    | ⟨2, _⟩ => exact Or.inr (Or.inr rfl)
  rcases hc with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4x32x7_S4x100000x1_S4x100000x7_2_1_0_0_1_2_117.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4x32x7_S4x100000x1_S4x100000x7_2_1_0_0_1_2_117.startIndexMap from List.mem_singleton.mpr rfl)]
    refine congrArg (fun i => min (idx i).toInt.toNat 31) (funext fun y => Fin.ext ?_)
    match y with
    | ⟨0, _⟩ => rfl
    | ⟨1, _⟩ => rfl
    | ⟨2, _⟩ => rfl
  · rw [GatherDims.batchCoord_eq_zero _ _ _ (fun h => absurd (List.mem_singleton.mp h) (by decide))]
    unfold GatherDims.start GatherDims.offCoord
    rw [dif_neg (show (2 : Fin 3) ∉ gather_S4x32x7_S4x100000x1_S4x100000x7_2_1_0_0_1_2_117.startIndexMap from
        fun h => absurd (List.mem_singleton.mp h) (by decide)),
      dif_pos (show (2 : Fin 3) ∈ gather_S4x32x7_S4x100000x1_S4x100000x7_2_1_0_0_1_2_117.sKept from (GatherDims.mem_sKept _ _).mpr
        ⟨fun h => absurd (List.mem_singleton.mp h) (by decide), fun h => absurd (List.mem_singleton.mp h) (by decide)⟩)]
    simp only [Nat.zero_add]
    rfl

theorem v72_at (k : Fin 7) : (res_main_v72 V : S4x100000x7.Idx → EReal) (ix3 b a k) = box (P V a) (A V b) k := by
  have h := v65_at V a b
  have hp := (pick (P V a) (A V b)).isLt
  rw [res_main_v72, box]
  generalize pick (P V a) (A V b) = p at h hp ⊢
  generalize res_main_v65 V = x at h ⊢
  change S4x100000.Idx → BitVec 32 at x
  rw [gather_at]
  refine congrArg (fun n => arr4 V (ix3 b n k)) (Fin.ext ?_)
  have e : (broadcastInDim S4x100000x1 ![0, 1] bcast_S4x100000_S4x100000x1_0_1 (select (cmpi .slt x (broadcastInDim S4x100000 ![] bcast_S_S4x100000 (constantI S_ 32 0#32))) (addi x (broadcastInDim S4x100000 ![] bcast_S_S4x100000 (constantI S_ 32 32#32))) x) : S4x100000x1.Idx → BitVec 32) (ix3 b a 0)
      = BitVec.ofNat 32 p.val := by
    have h2 : ((BitVec.ofNat 32 p.val).slt 0#32) = false := by
      rw [BitVec.slt, ofNat_toInt (by omega)]
      exact decide_eq_false (by rw [show (0#32 : BitVec 32).toInt = 0 from rfl]; omega)
    pointwise []
    rw [h]
    show Scalar.select (BitVec.ofBool (BitVec.slt _ _)) _ _ = _
    rw [h2]
    rfl
  show min (BitVec.toInt (_ : BitVec 32)).toNat 31 = p.val
  rw [e, ofNat_toInt (by omega)]
  omega

end Cert.ReferenceIdeal.Value

end
-- ==== Proof.Math.Blocks.lean ====
/- Sums over blocks of anchors, and the loss of one anchor and class case by case. -/
module

public import proofs.«01_k».proof.Proof.Math.Spec

@[expose] public section

noncomputable section

namespace Cert.Math

open Idealize.ShloMosaic

theorem sum_pairs (m n : ℕ) (g : ℕ → EReal) : ∑ i : Fin m, ∑ j : Fin n, g (i.val * n + j.val) = ∑ x ∈ Finset.range (m * n), g x := by
  rw [Finset.sum_range, ← finProdFinEquiv.sum_comp, Fintype.sum_prod_type]
  refine Finset.sum_congr rfl fun i _ => Finset.sum_congr rfl fun j _ => congrArg g ?_
  show i.val * n + j.val = j.val + n * i.val
  ring

/-- A sum over blocks of which the last has places that are no anchors. -/
theorem sum_blocks (f : Fin 100000 → EReal) (h : Fin 4 → Fin 200 → Fin 128 → EReal)
    (hin : ∀ s r l (a : Fin 100000), s.val * 25600 + r.val * 128 + l.val = a.val → h s r l = f a)
    (hout : ∀ (s : Fin 4) (r : Fin 200) (l : Fin 128), ¬s.val * 25600 + r.val * 128 + l.val < 100000 → h s r l = 0) :
    ∑ s : Fin 4, ∑ r : Fin 200, ∑ l : Fin 128, h s r l = ∑ a, f a := by
  let g : ℕ → EReal := fun n => if hn : n < 100000 then f ⟨n, hn⟩ else 0
  have e : ∀ s r l, h s r l = g ((s.val * 200 + r.val) * 128 + l.val) := fun s r l => by
    by_cases hn : (s.val * 200 + r.val) * 128 + l.val < 100000
    · rw [show g ((s.val * 200 + r.val) * 128 + l.val) = f ⟨_, hn⟩ from dif_pos hn]
      exact hin s r l _ (by show _ = (s.val * 200 + r.val) * 128 + l.val; ring)
    · rw [show g ((s.val * 200 + r.val) * 128 + l.val) = 0 from dif_neg hn]
      exact hout s r l (by omega)
  simp only [e]
  rw [sum_pairs 4 200 fun i => ∑ l : Fin 128, g (i * 128 + l.val), Finset.sum_range, sum_pairs (4 * 200) 128 g,
    ← Finset.sum_subset (Finset.range_mono (by norm_num : 100000 ≤ 4 * 200 * 128)) fun n _ hn => dif_neg fun h => hn (Finset.mem_range.mpr h),
    Finset.sum_range]
  exact Finset.sum_congr rfl fun a _ => dif_pos a.isLt

/-- A sum over ten full blocks. -/
theorem sum_tens (f : Fin 100000 → EReal) (h : Fin 10 → Fin 10000 → EReal)
    (hin : ∀ s n (a : Fin 100000), s.val * 10000 + n.val = a.val → h s n = f a) :
    ∑ s : Fin 10, ∑ n : Fin 10000, h s n = ∑ a, f a := by
  let g : ℕ → EReal := fun n => if hn : n < 100000 then f ⟨n, hn⟩ else 0
  have e : ∀ s n, h s n = g (s.val * 10000 + n.val) := fun s n => by
    have hn : s.val * 10000 + n.val < 100000 := by have := s.isLt; have := n.isLt; omega
    rw [show g (s.val * 10000 + n.val) = f ⟨_, hn⟩ from dif_pos hn]
    exact hin s n _ rfl
  simp only [e]
  rw [sum_pairs 10 10000 g, show 10 * 10000 = 100000 from rfl, Finset.sum_range]
  exact Finset.sum_congr rfl fun a _ => dif_pos a.isLt

theorem focal_hit {hit live live' : Prop} [Decidable hit] [Decidable live] [Decidable live'] (h : hit) (x : EReal) :
    focal hit live x = focal True live' x := by
  rw [focal, focal, if_pos h, if_pos trivial]

theorem focal_miss {hit live live' : Prop} [Decidable hit] [Decidable live] [Decidable live'] (h : ¬hit) (e : live ↔ live') (x : EReal) :
    focal hit live x = focal False live' x := by
  rw [focal, focal, if_neg h, if_neg not_false]
  exact if_congr e rfl rfl

theorem nat_real {m n : ℕ} : ((m : ℝ) : EReal) = ((n : ℝ) : EReal) ↔ m = n := by
  rw [EReal.coe_eq_coe_iff, Nat.cast_inj]

/-- The three class numbers of a box. -/
theorem Ids.nats {g : Fin 7 → EReal} (h : Ids g) : ∃ a b c : ℕ, a < 80 ∧ b < 80 ∧ c < 80
    ∧ g 4 = ((a : ℝ) : EReal) ∧ g 5 = ((b : ℝ) : EReal) ∧ g 6 = ((c : ℝ) : EReal) := by
  obtain ⟨a, ha, ea⟩ := h 4 (by decide)
  obtain ⟨b, hb, eb⟩ := h 5 (by decide)
  obtain ⟨c, hc, ec⟩ := h 6 (by decide)
  exact ⟨a, b, c, ha, hb, hc, ea, eb, ec⟩

end Cert.Math

end
-- ==== Proof.Ref.Flags.lean ====
/- Which anchors the reference takes for positive, and the targets it gives the classes and the boxes. -/
module

public import proofs.«01_k».proof.Proof.Ref.Pick
public import proofs.«01_k».proof.Proof.Math.Blocks
public import Idealize.ShloMosaic.Lib.StableHlo.Predicate

@[expose] public section

set_option maxRecDepth 16384

noncomputable section

namespace Cert.ReferenceIdeal.Value

open Cert.ReferenceIdeal Cert.ReferenceIdeal.Gen Cert.Math Idealize.ShloMosaic Idealize.ShloMosaic.TcCoe Idealize.SL.Sem Idealize.ShloMosaic.StableHlo

variable (V : Bufs Ideal) (a : Fin 100000) (b : Fin 4)

open Classical in
theorem v74_at : (res_main_v74 V : S4x100000.Idx → BitVec 1) (ix2 b a) = BitVec.ofBool (decide (Pos (P V a) (A V b))) := by
  have h := v64_at V a b
  rw [res_main_v74]
  generalize res_main_v64 V = x at h ⊢
  change FVec Ideal S4x100000 .f32 at x
  rw [Pos, ← h]
  pointwise []
  exact congrArg BitVec.ofBool (decide_eq_decide.mpr Iff.rfl)

open Classical in
theorem v77_at : (res_main_v77 V : S4.Idx → EReal) (ix1 b) = npos (A V b) (P V) := by
  have h : ∀ a, _ := fun a => v74_at V a b
  rw [res_main_v77, npos]
  generalize res_main_v74 V = x at h ⊢
  change IVec S4x100000 1 at x
  have hc := StableHlo.Predicate.toNat_reduce_count_cols (by decide) x natLt_1_32 reducesTo_S4x100000_S4_d1 h_S_ (ix1 b)
  have e : (Finset.univ.filter fun q : Fin 100000 => x (StableHlo.Predicate.ij (ix1 b 0) q) = 1#1)
      = Finset.univ.filter fun q : Fin 100000 => Pos (P V q) (A V b) := by
    refine Finset.filter_congr fun q _ => ?_
    have hq : x (StableHlo.Predicate.ij (ix1 b 0) q) = BitVec.ofBool (decide (Pos (P V q) (A V b))) :=
      (congrArg x (by funext k; match k with | ⟨0, _⟩ => rfl | ⟨1, _⟩ => rfl)).trans (h q)
    rw [hq]
    by_cases hp : Pos (P V q) (A V b)
    · rw [decide_eq_true hp]; exact iff_of_true rfl hp
    · rw [decide_eq_false hp]; exact iff_of_false (by decide) hp
  rw [e] at hc
  have hle : (Finset.univ.filter fun q : Fin 100000 => Pos (P V q) (A V b)).card ≤ 100000 := by
    simpa using Finset.card_le_univ (Finset.univ.filter fun q : Fin 100000 => Pos (P V q) (A V b))
  rw [Finset.sum_boole]
  generalize (Finset.univ.filter fun q : Fin 100000 => Pos (P V q) (A V b)).card = n at hc hle ⊢
  show (((BitVec.toInt (Host.reduce IntOp.addi (extui 32 x natLt_1_32) (constantI S_ 32 0#32) reducesTo_S4x100000_S4_d1 h_S_ (ix1 b))) : ℝ) : EReal) = _
  rw [BitVec.toInt_eq_toNat_of_lt (by rw [hc]; omega), hc, Int.cast_natCast, EReal.coe_natCast]

theorem v139_at : (res_main_v139 V : S4x100000.Idx → EReal) (ix2 b a) = box (P V a) (A V b) 2 - box (P V a) (A V b) 0 := by
  have h1 := v72_at V a b 2
  have h2 := v72_at V a b 0
  rw [res_main_v139, ← h1, ← h2]
  clear h1 h2
  generalize res_main_v72 V = x
  change FVec Ideal S4x100000x7 .f32 at x
  pointwise []

theorem v144_at : (res_main_v144 V : S4x100000.Idx → EReal) (ix2 b a) = box (P V a) (A V b) 3 - box (P V a) (A V b) 1 := by
  have h1 := v72_at V a b 3
  have h2 := v72_at V a b 1
  rw [res_main_v144, ← h1, ← h2]
  clear h1 h2
  generalize res_main_v72 V = x
  change FVec Ideal S4x100000x7 .f32 at x
  pointwise []

theorem uitofp_flag (p : Prop) [Decidable p] : FloatOps.uitofp (F := Ideal) .f32 (BitVec.ofBool (decide p)) = if p then (1 : EReal) else 0 := by
  show (((BitVec.ofBool (decide p)).toNat : ℝ) : EReal) = _
  by_cases h : p
  · rw [if_pos h, decide_eq_true h]; simp
  · rw [if_neg h, decide_eq_false h]; simp

/-- A class number compared with the number of a class. -/
theorem class_bit {y : EReal} {n : ℕ} (hn : n < 80) (e : y = ((n : ℝ) : EReal)) (c : Fin 80) :
    IntOp.cmpi .eq (FloatOps.fptosi (F := Ideal) (φ := .f32) 32 y) (BitVec.ofNat 32 c.val)
      = BitVec.ofBool (decide (y = ((c.val : ℝ) : EReal))) := by
  rw [e]
  show IntOp.cmpi .eq (Ideal.fptosi 32 ((n : ℝ) : EReal)) _ = _
  rw [fptosi_nat n (by omega), ofNat_beq n c.val (by omega) (by omega)]
  exact congrArg BitVec.ofBool (decide_eq_decide.mpr nat_real.symm)

open Classical in
/-- One of the three comparisons holds when their sum is above zero. -/
theorem hot_sum (g : Fin 7 → EReal) (hg : Ids g) (c : Fin 80) :
    (0 < FloatOps.uitofp (F := Ideal) .f32 (IntOp.cmpi .eq (FloatOps.fptosi (F := Ideal) (φ := .f32) 32 (g 4)) (BitVec.ofNat 32 c.val))
      + FloatOps.uitofp (F := Ideal) .f32 (IntOp.cmpi .eq (FloatOps.fptosi (F := Ideal) (φ := .f32) 32 (g 5)) (BitVec.ofNat 32 c.val))
      + (FloatOps.uitofp (F := Ideal) .f32 (IntOp.cmpi .eq (FloatOps.fptosi (F := Ideal) (φ := .f32) 32 (g 6)) (BitVec.ofNat 32 c.val)) : EReal))
      ↔ Hot g c := by
  obtain ⟨i, j, k, hi, hj, hk, ei, ej, ek⟩ := hg.nats
  rw [class_bit hi ei, class_bit hj ej, class_bit hk ek, uitofp_flag, uitofp_flag, uitofp_flag, Hot]
  have h01 : (0 : EReal) < 1 := zero_lt_one
  have hge : (0 : EReal) ≤ 1 := h01.le
  by_cases h4 : g 4 = ((c.val : ℝ) : EReal)
  · refine iff_of_true ?_ (Or.inl h4)
    rw [if_pos h4]
    refine lt_of_lt_of_le h01 ?_
    have a : (0 : EReal) ≤ if g 5 = ((c.val : ℝ) : EReal) then 1 else 0 := by split; exacts [hge, le_rfl]
    have b : (0 : EReal) ≤ if g 6 = ((c.val : ℝ) : EReal) then 1 else 0 := by split; exacts [hge, le_rfl]
    exact le_trans (le_add_of_nonneg_right a) (le_add_of_nonneg_right b)
  · rw [if_neg h4, zero_add]
    by_cases h5 : g 5 = ((c.val : ℝ) : EReal)
    · refine iff_of_true ?_ (Or.inr (Or.inl h5))
      rw [if_pos h5]
      have b : (0 : EReal) ≤ if g 6 = ((c.val : ℝ) : EReal) then 1 else 0 := by split; exacts [hge, le_rfl]
      exact lt_of_lt_of_le h01 (le_add_of_nonneg_right b)
    · rw [if_neg h5, zero_add]
      by_cases h6 : g 6 = ((c.val : ℝ) : EReal)
      · rw [if_pos h6]; exact iff_of_true h01 (Or.inr (Or.inr h6))
      · rw [if_neg h6]
        refine iff_of_false (lt_irrefl _) ?_
        rintro (h | h | h)
        exacts [h4 h, h5 h, h6 h]

open Classical in
/-- The target of a class. -/
def target (p : Fin 4 → EReal) (B : Fin 32 → Fin 7 → EReal) (c : Fin 80) : EReal :=
  if Pos p B ∧ Hot (box p B) c then 1 else if Pos p B ∨ Low p B then 0 else Ideal.ofBits .f32 0xBF800000#32

theorem target_loss (p : Fin 4 → EReal) (B : Fin 32 → Fin 7 → EReal) (c : Fin 80) (y : EReal) :
    refElem (target p B c) y = clsOne p B c y := by
  classical
  rw [target, clsOne]
  by_cases h : Pos p B ∧ Hot (box p B) c
  · rw [if_pos h, ref_hit y True]
    exact (focal_hit h y).symm
  · rw [if_neg h]
    by_cases hl : Pos p B ∨ Low p B
    · rw [if_pos hl, ref_miss y True trivial]
      exact (focal_miss h (iff_of_true hl trivial) y).symm
    · rw [if_neg hl, ref_out y False not_false]
      exact (focal_miss h (iff_of_false hl not_false) y).symm

theorem v102_at (hA : ∀ b n, Ids (A V b n)) (c : Fin 80) :
    (res_main_v102 V : S4x100000x80.Idx → EReal) (ix3 b a c) = target (P V a) (A V b) c := by
  classical
  have h1 := v74_at V a b
  have h2 := v64_at V a b
  have h3 := v72_at V a b 4
  have h4 := v72_at V a b 5
  have h5 := v72_at V a b 6
  rw [res_main_v102]
  generalize res_main_v74 V = x at h1 ⊢
  change IVec S4x100000 1 at x
  generalize res_main_v64 V = y at h2 ⊢
  change FVec Ideal S4x100000 .f32 at y
  generalize res_main_v72 V = z at h3 h4 h5 ⊢
  change FVec Ideal S4x100000x7 .f32 at z
  pointwise []
  rw [h1, h2, h3, h4, h5, target]
  have hs := hot_sum (box (P V a) (A V b)) (hA b _) c
  by_cases hp : Pos (P V a) (A V b)
  · by_cases hh : Hot (box (P V a) (A V b)) c
    · refine Eq.trans ?_ (if_pos ⟨hp, hh⟩).symm
      rw [decide_eq_true (hs.mpr hh), decide_eq_true hp]
      rfl
    · refine Eq.trans ?_ ((if_neg (fun h => hh h.2)).trans (if_pos (Or.inl hp))).symm
      rw [decide_eq_false (fun h => hh (hs.mp h)), decide_eq_true hp]
      rfl
  · refine Eq.trans ?_ (if_neg (fun h => hp h.1)).symm
    rw [decide_eq_false hp, ofBool_and, Bool.false_and]
    by_cases hl : best (P V a) (A V b) < Ideal.ofBits .f32 0x3ECCCCCD#32
    · rw [if_pos hl]
      exact (if_pos (Or.inr hl)).symm
    · rw [if_neg hl]
      exact (if_neg (fun h => h.elim hp hl)).symm

end Cert.ReferenceIdeal.Value

end
-- ==== Proof.Ref.Boxes.lean ====
/- The reference's errors of the predicted boxes. -/
module

public import proofs.«01_k».proof.Proof.Ref.Flags

@[expose] public section

set_option maxRecDepth 16384

noncomputable section

namespace Cert.ReferenceIdeal.Value

open Cert.ReferenceIdeal Cert.ReferenceIdeal.Gen Cert.Math Idealize.ShloMosaic Idealize.ShloMosaic.TcCoe Idealize.SL.Sem Idealize.ShloMosaic.StableHlo

variable (V : Bufs Ideal) (a : Fin 100000) (b : Fin 4)

/-- The four targets of an anchor `p` assigned to the box `g`. -/
def aims (p : Fin 4 → EReal) (g : Fin 7 → EReal) : Fin 4 → EReal :=
  ![centre (p 0) (p 2 - p 0) (g 0) (g 2 - g 0), centre (p 1) (p 3 - p 1) (g 1) (g 3 - g 1), width (p 2 - p 0) (g 2 - g 0),
    width (p 3 - p 1) (g 3 - g 1)]

/-- The four scales. -/
theorem lit_at (k : Fin 4) :
    lit0 (S4.rowMajor (ix1 k)) = (![0x3DCCCCCD#32, 0x3DCCCCCD#32, 0x3E4CCCCD#32, 0x3E4CCCCD#32] : Fin 4 → BitVec 32) k := by
  match k with
  | 0 | 1 | 2 | 3 => rfl

theorem v188_at (k : Fin 4) : (res_main_v188 V : S4x100000x4.Idx → EReal) (ix3 b a k)
    = FloatOps.absf (F := Ideal) (φ := .f32) (aims (P V a) (box (P V a) (A V b)) k - arr1 V (ix3 b a k)) := by
  have h1 := v139_at V a b
  have h2 := v144_at V a b
  have h3 := v72_at V a b 0
  have h4 := v72_at V a b 1
  have h5 := v2_at V a
  have h6 := v4_at V a
  have h7 := v9_at V a
  have h8 := v10_at V a
  rw [res_main_v188, aims, ← h7, ← h8, ← h1, ← h2, ← h3, ← h4, ← h5, ← h6]
  clear h1 h2 h3 h4 h5 h6 h7 h8
  generalize res_main_v139 V = x
  change FVec Ideal S4x100000 .f32 at x
  generalize res_main_v144 V = y
  change FVec Ideal S4x100000 .f32 at y
  generalize res_main_v72 V = z
  change FVec Ideal S4x100000x7 .f32 at z
  generalize res_main_v2 V = u
  change FVec Ideal S100000 .f32 at u
  generalize res_main_v4 V = v
  change FVec Ideal S100000 .f32 at v
  generalize res_main_v9 V = w
  change FVec Ideal S100000 .f32 at w
  generalize res_main_v10 V = t
  change FVec Ideal S100000 .f32 at t
  match k with
  | 0 | 1 | 2 | 3 =>
    pointwise []
    rw [lit_at]
    rfl

end Cert.ReferenceIdeal.Value

end
-- ==== Proof.Ref.Losses.lean ====
/- The reference's three results as the three losses. -/
module

public import proofs.«01_k».proof.Proof.Ref.Boxes

@[expose] public section

set_option maxRecDepth 16384

noncomputable section

namespace Cert.ReferenceIdeal.Value

open Cert.ReferenceIdeal Cert.ReferenceIdeal.Gen Cert.Math Idealize.ShloMosaic Idealize.ShloMosaic.TcCoe Idealize.SL.Sem Idealize.ShloMosaic.StableHlo

variable (V : Bufs Ideal) (b : Fin 4)

/-- The probabilities. -/
def X : Fin 4 → Fin 100000 → Fin 80 → EReal := fun b a c => arr0 V (ix3 b a c)
/-- The regressions. -/
def Q : Fin 4 → Fin 100000 → Fin 4 → EReal := fun b a k => arr1 V (ix3 b a k)

open Classical in
theorem v134_at (hA : ∀ b n, Ids (A V b n)) : (res_main_v134 V : S4.Idx → EReal) (ix1 b)
    = Ideal.div (clsS (A V b) (P V) (X V b)) (max (npos (A V b) (P V)) 1) := by
  have h1 : ∀ a c, _ := fun a c => v102_at V a b hA c
  have h2 := v77_at V b
  have h3 : ∀ a c, _ := fun a c => v0_at V a b c
  rw [res_main_v134, ← h2]
  clear h2
  generalize res_main_v102 V = x at h1 ⊢
  change FVec Ideal S4x100000x80 .f32 at x
  generalize res_main_v77 V = y
  change FVec Ideal S4 .f32 at y
  generalize res_main_v0 V = z at h3 ⊢
  change FVec Ideal S4x100000x80 .f32 at z
  simp only [id_eq]
  pointwise []
  rw [clsS]
  refine congrArg₂ Ideal.div (Fintype.sum_congr _ _ fun a => Fintype.sum_congr _ _ fun c => ?_) rfl
  rw [h1 a c, h3 a c, X, ← target_loss, refElem]

theorem v216_at (hA : ∀ b n, Ids (A V b n)) : (res_main_v216 V : S1.Idx → EReal) (ix1 0) = loss1 (P V) (A V) (X V) := by
  have h : ∀ b, _ := fun b => v134_at V b hA
  rw [res_main_v216]
  generalize res_main_v134 V = x at h ⊢
  change FVec Ideal S4 .f32 at x
  pointwise []
  rw [loss1]
  exact congrArg (fun t => Ideal.div t _) (Finset.sum_congr rfl fun b _ => h b)

open Classical in
theorem v220_at : (res_main_v220 V : S1.Idx → EReal) (ix1 0) = loss2 (P V) (A V) (Q V) := by
  have h1 : ∀ b a, _ := fun b a => v74_at V a b
  have h2 := v77_at V
  have h3 : ∀ b a k, _ := fun b a k => v188_at V a b k
  rw [res_main_v220]
  generalize res_main_v74 V = x at h1 ⊢
  change IVec S4x100000 1 at x
  generalize res_main_v77 V = y at h2 ⊢
  change FVec Ideal S4 .f32 at y
  generalize res_main_v188 V = z at h3 ⊢
  change FVec Ideal S4x100000x4 .f32 at z
  simp only [id_eq]
  pointwise []
  rw [loss2]
  refine congrArg (fun t => Ideal.div t _) (Finset.sum_congr rfl fun b _ => ?_)
  rw [h2 b, regS]
  refine if_congr Iff.rfl (congrArg₂ Ideal.div (Fintype.sum_congr _ _ fun a => ?_) rfl) rfl
  have e : ∀ d : EReal, (if d ≤ Ideal.ofBits .f32 0x3DE38E39#32 then Ideal.ofBits .f32 0x40900000#32 * (d * d)
      else d - Ideal.ofBits .f32 0x3D638E39#32) = sl1 d := fun d => by rw [sl1, mul_assoc]
  rw [Fin.sum_univ_four, h1 b a, e, e, e, e, h3, h3, h3, h3, regOne]
  by_cases hp : Pos (P V a) (A V b)
  · rw [decide_eq_true hp, if_pos hp]
    rfl
  · rw [decide_eq_false hp, if_neg hp]
    show (0 : EReal) + 0 + 0 + 0 = 0
    rw [add_zero, add_zero, add_zero]

theorem div_one_at (x : EReal) : Ideal.div x 1 = x := by
  rw [Ideal.div, if_neg one_ne_zero, inv_one, mul_one]

theorem v224_at : (res_main_v224 V : S1.Idx → EReal) (ix1 0) = loss3 (fun b => arr3 V (ix2 b 0)) := by
  have h : (res_main_v208 V : S4x1.Idx → EReal) = fun i => -arr3 V i := rfl
  rw [res_main_v224, res_main_call14_v3, res_main_call14_cst]
  generalize res_main_v208 V = x at h ⊢
  change FVec Ideal S4x1 .f32 at x
  pointwise []
  rw [loss3]
  refine congrArg (fun t => Ideal.div t _) (Finset.sum_congr rfl fun b _ => ?_)
  rw [div_one_at, Fin.sum_univ_one, if_neg (not_not.mpr rfl), h, soft, zero_sub, zero_sub]
  rfl

end Cert.ReferenceIdeal.Value

end
-- ==== Proof.Ref.Read0.lean ====
/- The reference program: what the buffers hold after the first stretch of operations. -/
module

public import proofs.«01_k».proof.Proof.Ref.Terms

@[expose] public section

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

def val0 (V0 : Bufs F) : Bufs F := V0

theorem val0_main_arg0 (V0 : Bufs F) : val0 V0 (no_index (Proc.devRef .tc main_arg0)) = V0 (Proc.devRef .tc main_arg0) := rfl

theorem val0_main_arg1 (V0 : Bufs F) : val0 V0 (no_index (Proc.devRef .tc main_arg1)) = V0 (Proc.devRef .tc main_arg1) := rfl

theorem val0_main_arg2 (V0 : Bufs F) : val0 V0 (no_index (Proc.devRef .tc main_arg2)) = V0 (Proc.devRef .tc main_arg2) := rfl

theorem val0_main_arg3 (V0 : Bufs F) : val0 V0 (no_index (Proc.devRef .tc main_arg3)) = V0 (Proc.devRef .tc main_arg3) := rfl

theorem val0_main_arg4 (V0 : Bufs F) : val0 V0 (no_index (Proc.devRef .tc main_arg4)) = V0 (Proc.devRef .tc main_arg4) := rfl

def val0_1 (V0 : Bufs F) : Bufs F := after ops_part0_0 (val0 V0)

abbrev ops_part0_0_W : List (Ref sig .tc) := [main_cst, main_cst_0, main_cst_1, main_call0_v0, main_call0_v1, main_call0_v2, main_call0_v3, main_call0_v4, main_v0, main_v1, main_v2, main_v3, main_v4, main_v5, main_v6, main_v7, main_v8, main_v9, main_v10, main_cst_2, main_v11, main_v12, main_v13, main_cst_3, main_v14, main_v15, main_v16, main_v17, main_v18, main_v19]

theorem ops_part0_0_writes : (ops_part0_0 : List (HloOp τ sig (Elt F))).Forall fun op => op.writes ⊆ (ops_part0_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val0_1_keep (V0 : Bufs F) (r : Ref sig .tc) (h : r ∉ ops_part0_0_W) :
    val0_1 V0 (Proc.devRef .tc r) = val0 V0 (Proc.devRef .tc r) :=
  after_of_writes_sub ops_part0_0 _ ops_part0_0_writes h

theorem val0_1_main_arg0 (V0 : Bufs F) : val0_1 V0 (no_index (Proc.devRef .tc main_arg0)) = V0 (Proc.devRef .tc main_arg0) :=
  (val0_1_keep V0 main_arg0 (by decide)).trans (val0_main_arg0 V0)

theorem val0_1_main_arg1 (V0 : Bufs F) : val0_1 V0 (no_index (Proc.devRef .tc main_arg1)) = V0 (Proc.devRef .tc main_arg1) :=
  (val0_1_keep V0 main_arg1 (by decide)).trans (val0_main_arg1 V0)

theorem val0_1_main_arg2 (V0 : Bufs F) : val0_1 V0 (no_index (Proc.devRef .tc main_arg2)) = V0 (Proc.devRef .tc main_arg2) :=
  (val0_1_keep V0 main_arg2 (by decide)).trans (val0_main_arg2 V0)

theorem val0_1_main_arg3 (V0 : Bufs F) : val0_1 V0 (no_index (Proc.devRef .tc main_arg3)) = V0 (Proc.devRef .tc main_arg3) :=
  (val0_1_keep V0 main_arg3 (by decide)).trans (val0_main_arg3 V0)

theorem val0_1_main_arg4 (V0 : Bufs F) : val0_1 V0 (no_index (Proc.devRef .tc main_arg4)) = V0 (Proc.devRef .tc main_arg4) :=
  (val0_1_keep V0 main_arg4 (by decide)).trans (val0_main_arg4 V0)

theorem val0_1_main_cst (V0 : Bufs F) : val0_1 V0 (no_index (Proc.devRef .tc main_cst)) = (fun i => FloatOps.ofBits .f32 (lit0 (S4.rowMajor i))) := by
  unfold val0_1
  simp only [ops_part0_0, TRef.binary, TRef.unary, TRef.toBuf, TRef.ofBuf, cast_eq]
  after_results_simp
  all_goals rfl

theorem val0_1_main_v0 (V0 : Bufs F) : val0_1 V0 (no_index (Proc.devRef .tc main_v0)) = res_main_v0 V0 := by
  unfold val0_1
  simp only [ops_part0_0, TRef.binary, TRef.unary, TRef.toBuf, TRef.ofBuf, cast_eq]
  after_results_simp
  simp only [val0_main_arg0] <;> rfl

theorem val0_1_main_v2 (V0 : Bufs F) : val0_1 V0 (no_index (Proc.devRef .tc main_v2)) = res_main_v2 V0 := by
  unfold val0_1
  simp only [ops_part0_0, TRef.binary, TRef.unary, TRef.toBuf, TRef.ofBuf, cast_eq]
  after_results_simp
  simp only [val0_main_arg2] <;> rfl

theorem val0_1_main_v4 (V0 : Bufs F) : val0_1 V0 (no_index (Proc.devRef .tc main_v4)) = res_main_v4 V0 := by
  unfold val0_1
  simp only [ops_part0_0, TRef.binary, TRef.unary, TRef.toBuf, TRef.ofBuf, cast_eq]
  after_results_simp
  simp only [val0_main_arg2] <;> rfl

theorem val0_1_main_v6 (V0 : Bufs F) : val0_1 V0 (no_index (Proc.devRef .tc main_v6)) = res_main_v6 V0 := by
  unfold val0_1
  simp only [ops_part0_0, TRef.binary, TRef.unary, TRef.toBuf, TRef.ofBuf, cast_eq]
  after_results_simp
  simp only [val0_main_arg2] <;> rfl

theorem val0_1_main_v8 (V0 : Bufs F) : val0_1 V0 (no_index (Proc.devRef .tc main_v8)) = res_main_v8 V0 := by
  unfold val0_1
  simp only [ops_part0_0, TRef.binary, TRef.unary, TRef.toBuf, TRef.ofBuf, cast_eq]
  after_results_simp
  simp only [val0_main_arg2] <;> rfl

theorem val0_1_main_v9 (V0 : Bufs F) : val0_1 V0 (no_index (Proc.devRef .tc main_v9)) = res_main_v9 V0 := by
  unfold val0_1
  simp only [ops_part0_0, TRef.binary, TRef.unary, TRef.toBuf, TRef.ofBuf, cast_eq]
  after_results_simp
  simp only [val0_main_arg2] <;> rfl

theorem val0_1_main_v10 (V0 : Bufs F) : val0_1 V0 (no_index (Proc.devRef .tc main_v10)) = res_main_v10 V0 := by
  unfold val0_1
  simp only [ops_part0_0, TRef.binary, TRef.unary, TRef.toBuf, TRef.ofBuf, cast_eq]
  after_results_simp
  simp only [val0_main_arg2] <;> rfl

theorem val0_1_main_v13 (V0 : Bufs F) : val0_1 V0 (no_index (Proc.devRef .tc main_v13)) = addf (res_main_v2 V0) (mulf (broadcastInDim S100000 ![] bcast_S_S100000 (constant S_ .f32 0x3F000000#32)) (res_main_v9 V0)) := by
  unfold val0_1
  simp only [ops_part0_0, TRef.binary, TRef.unary, TRef.toBuf, TRef.ofBuf, cast_eq]
  after_results_simp
  simp only [val0_main_arg2] <;> rfl

theorem val0_1_main_v16 (V0 : Bufs F) : val0_1 V0 (no_index (Proc.devRef .tc main_v16)) = addf (res_main_v4 V0) (mulf (broadcastInDim S100000 ![] bcast_S_S100000 (constant S_ .f32 0x3F000000#32)) (res_main_v10 V0)) := by
  unfold val0_1
  simp only [ops_part0_0, TRef.binary, TRef.unary, TRef.toBuf, TRef.ofBuf, cast_eq]
  after_results_simp
  simp only [val0_main_arg2] <;> rfl

theorem val0_1_main_v19 (V0 : Bufs F) : val0_1 V0 (no_index (Proc.devRef .tc main_v19)) = res_main_v19 V0 := by
  unfold val0_1
  simp only [ops_part0_0, TRef.binary, TRef.unary, TRef.toBuf, TRef.ofBuf, cast_eq]
  after_results_simp
  simp only [val0_main_arg4] <;> rfl

def val0_2 (V0 : Bufs F) : Bufs F := after ops_part0_1 (val0_1 V0)

abbrev ops_part0_1_W : List (Ref sig .tc) := [main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_cst_4, main_v47, main_v48]

theorem ops_part0_1_writes : (ops_part0_1 : List (HloOp τ sig (Elt F))).Forall fun op => op.writes ⊆ (ops_part0_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val0_2_keep (V0 : Bufs F) (r : Ref sig .tc) (h : r ∉ ops_part0_1_W) :
    val0_2 V0 (Proc.devRef .tc r) = val0_1 V0 (Proc.devRef .tc r) :=
  after_of_writes_sub ops_part0_1 _ ops_part0_1_writes h

theorem val0_2_main_arg0 (V0 : Bufs F) : val0_2 V0 (no_index (Proc.devRef .tc main_arg0)) = V0 (Proc.devRef .tc main_arg0) :=
  (val0_2_keep V0 main_arg0 (by decide)).trans (val0_1_main_arg0 V0)

theorem val0_2_main_arg1 (V0 : Bufs F) : val0_2 V0 (no_index (Proc.devRef .tc main_arg1)) = V0 (Proc.devRef .tc main_arg1) :=
  (val0_2_keep V0 main_arg1 (by decide)).trans (val0_1_main_arg1 V0)

theorem val0_2_main_arg2 (V0 : Bufs F) : val0_2 V0 (no_index (Proc.devRef .tc main_arg2)) = V0 (Proc.devRef .tc main_arg2) :=
  (val0_2_keep V0 main_arg2 (by decide)).trans (val0_1_main_arg2 V0)

theorem val0_2_main_arg3 (V0 : Bufs F) : val0_2 V0 (no_index (Proc.devRef .tc main_arg3)) = V0 (Proc.devRef .tc main_arg3) :=
  (val0_2_keep V0 main_arg3 (by decide)).trans (val0_1_main_arg3 V0)

theorem val0_2_main_arg4 (V0 : Bufs F) : val0_2 V0 (no_index (Proc.devRef .tc main_arg4)) = V0 (Proc.devRef .tc main_arg4) :=
  (val0_2_keep V0 main_arg4 (by decide)).trans (val0_1_main_arg4 V0)

theorem val0_2_main_cst (V0 : Bufs F) : val0_2 V0 (no_index (Proc.devRef .tc main_cst)) = (fun i => FloatOps.ofBits .f32 (lit0 (S4.rowMajor i))) :=
  (val0_2_keep V0 main_cst (by decide)).trans (val0_1_main_cst V0)

theorem val0_2_main_v0 (V0 : Bufs F) : val0_2 V0 (no_index (Proc.devRef .tc main_v0)) = res_main_v0 V0 :=
  (val0_2_keep V0 main_v0 (by decide)).trans (val0_1_main_v0 V0)

theorem val0_2_main_v9 (V0 : Bufs F) : val0_2 V0 (no_index (Proc.devRef .tc main_v9)) = res_main_v9 V0 :=
  (val0_2_keep V0 main_v9 (by decide)).trans (val0_1_main_v9 V0)

theorem val0_2_main_v10 (V0 : Bufs F) : val0_2 V0 (no_index (Proc.devRef .tc main_v10)) = res_main_v10 V0 :=
  (val0_2_keep V0 main_v10 (by decide)).trans (val0_1_main_v10 V0)

theorem val0_2_main_v13 (V0 : Bufs F) : val0_2 V0 (no_index (Proc.devRef .tc main_v13)) = addf (res_main_v2 V0) (mulf (broadcastInDim S100000 ![] bcast_S_S100000 (constant S_ .f32 0x3F000000#32)) (res_main_v9 V0)) :=
  (val0_2_keep V0 main_v13 (by decide)).trans (val0_1_main_v13 V0)

theorem val0_2_main_v16 (V0 : Bufs F) : val0_2 V0 (no_index (Proc.devRef .tc main_v16)) = addf (res_main_v4 V0) (mulf (broadcastInDim S100000 ![] bcast_S_S100000 (constant S_ .f32 0x3F000000#32)) (res_main_v10 V0)) :=
  (val0_2_keep V0 main_v16 (by decide)).trans (val0_1_main_v16 V0)

theorem val0_2_main_v19 (V0 : Bufs F) : val0_2 V0 (no_index (Proc.devRef .tc main_v19)) = res_main_v19 V0 :=
  (val0_2_keep V0 main_v19 (by decide)).trans (val0_1_main_v19 V0)

theorem val0_2_main_v22 (V0 : Bufs F) : val0_2 V0 (no_index (Proc.devRef .tc main_v22)) = res_main_v22 V0 := by
  unfold val0_2
  simp only [ops_part0_1]
  after_results_simp
  simp only [val0_1_main_arg4] <;> rfl

theorem val0_2_main_v25 (V0 : Bufs F) : val0_2 V0 (no_index (Proc.devRef .tc main_v25)) = res_main_v25 V0 := by
  unfold val0_2
  simp only [ops_part0_1]
  after_results_simp
  simp only [val0_1_main_arg4] <;> rfl

theorem val0_2_main_v28 (V0 : Bufs F) : val0_2 V0 (no_index (Proc.devRef .tc main_v28)) = res_main_v28 V0 := by
  unfold val0_2
  simp only [ops_part0_1]
  after_results_simp
  simp only [val0_1_main_arg4] <;> rfl

theorem val0_2_main_v46 (V0 : Bufs F) : val0_2 V0 (no_index (Proc.devRef .tc main_v46)) = subf (minimumf (broadcastInDim S4x100000x32 ![0, 1, 2] bcast_S1x100000x1_S4x100000x32_0_1_2 (broadcastInDim S1x100000x1 ![1] bcast_S100000_S1x100000x1_1 (res_main_v8 V0))) (broadcastInDim S4x100000x32 ![0, 1, 2] bcast_S4x1x32_S4x100000x32_0_1_2 (res_main_v28 V0))) (maximumf (broadcastInDim S4x100000x32 ![0, 1, 2] bcast_S1x100000x1_S4x100000x32_0_1_2 (broadcastInDim S1x100000x1 ![1] bcast_S100000_S1x100000x1_1 (res_main_v4 V0))) (broadcastInDim S4x100000x32 ![0, 1, 2] bcast_S4x1x32_S4x100000x32_0_1_2 (res_main_v22 V0))) := by
  unfold val0_2
  simp only [ops_part0_1]
  after_results_simp
  simp only [val0_1_main_arg4, val0_1_main_v4, val0_1_main_v8] <;> rfl

theorem val0_2_main_v48 (V0 : Bufs F) : val0_2 V0 (no_index (Proc.devRef .tc main_v48)) = maximumf (subf (minimumf (broadcastInDim S4x100000x32 ![0, 1, 2] bcast_S1x100000x1_S4x100000x32_0_1_2 (broadcastInDim S1x100000x1 ![1] bcast_S100000_S1x100000x1_1 (res_main_v6 V0))) (broadcastInDim S4x100000x32 ![0, 1, 2] bcast_S4x1x32_S4x100000x32_0_1_2 (res_main_v25 V0))) (maximumf (broadcastInDim S4x100000x32 ![0, 1, 2] bcast_S1x100000x1_S4x100000x32_0_1_2 (broadcastInDim S1x100000x1 ![1] bcast_S100000_S1x100000x1_1 (res_main_v2 V0))) (broadcastInDim S4x100000x32 ![0, 1, 2] bcast_S4x1x32_S4x100000x32_0_1_2 (res_main_v19 V0)))) (broadcastInDim S4x100000x32 ![] bcast_S_S4x100000x32 (constant S_ .f32 0x00000000#32)) := by
  unfold val0_2
  simp only [ops_part0_1]
  after_results_simp
  simp only [val0_1_main_v19, val0_1_main_v2, val0_1_main_arg4, val0_1_main_v6] <;> rfl

end Cert.ReferenceIdeal.Value

end
-- ==== Proof.Ref.Read1.lean ====
/- The reference program: what the buffers hold after the second stretch of operations. -/
module

public import proofs.«01_k».proof.Proof.Ref.Read0

@[expose] public section

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

def val1 (V0 : Bufs F) : Bufs F := after ops_part0_2 (val0_2 V0)

abbrev ops_part0_2_W : List (Ref sig .tc) := [main_cst_5, main_v49, main_v50, main_v51, main_v52]

theorem ops_part0_2_writes : (ops_part0_2 : List (HloOp τ sig (Elt F))).Forall fun op => op.writes ⊆ (ops_part0_2_W.map (Proc.devRef (τ := τ) .tc)).toFinset := by
  simp only [List.Forall]
  refine ⟨?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val1_keep (V0 : Bufs F) (r : Ref sig .tc) (h : r ∉ ops_part0_2_W) :
    val1 V0 (Proc.devRef .tc r) = val0_2 V0 (Proc.devRef .tc r) :=
  after_of_writes_sub ops_part0_2 _ ops_part0_2_writes h

theorem val1_main_arg0 (V0 : Bufs F) : val1 V0 (no_index (Proc.devRef .tc main_arg0)) = V0 (Proc.devRef .tc main_arg0) :=
  (val1_keep V0 main_arg0 (by decide)).trans (val0_2_main_arg0 V0)

theorem val1_main_arg1 (V0 : Bufs F) : val1 V0 (no_index (Proc.devRef .tc main_arg1)) = V0 (Proc.devRef .tc main_arg1) :=
  (val1_keep V0 main_arg1 (by decide)).trans (val0_2_main_arg1 V0)

theorem val1_main_arg2 (V0 : Bufs F) : val1 V0 (no_index (Proc.devRef .tc main_arg2)) = V0 (Proc.devRef .tc main_arg2) :=
  (val1_keep V0 main_arg2 (by decide)).trans (val0_2_main_arg2 V0)

theorem val1_main_arg3 (V0 : Bufs F) : val1 V0 (no_index (Proc.devRef .tc main_arg3)) = V0 (Proc.devRef .tc main_arg3) :=
  (val1_keep V0 main_arg3 (by decide)).trans (val0_2_main_arg3 V0)

theorem val1_main_arg4 (V0 : Bufs F) : val1 V0 (no_index (Proc.devRef .tc main_arg4)) = V0 (Proc.devRef .tc main_arg4) :=
  (val1_keep V0 main_arg4 (by decide)).trans (val0_2_main_arg4 V0)

theorem val1_main_cst (V0 : Bufs F) : val1 V0 (no_index (Proc.devRef .tc main_cst)) = (fun i => FloatOps.ofBits .f32 (lit0 (S4.rowMajor i))) :=
  (val1_keep V0 main_cst (by decide)).trans (val0_2_main_cst V0)

theorem val1_main_v0 (V0 : Bufs F) : val1 V0 (no_index (Proc.devRef .tc main_v0)) = res_main_v0 V0 :=
  (val1_keep V0 main_v0 (by decide)).trans (val0_2_main_v0 V0)

theorem val1_main_v9 (V0 : Bufs F) : val1 V0 (no_index (Proc.devRef .tc main_v9)) = res_main_v9 V0 :=
  (val1_keep V0 main_v9 (by decide)).trans (val0_2_main_v9 V0)

theorem val1_main_v10 (V0 : Bufs F) : val1 V0 (no_index (Proc.devRef .tc main_v10)) = res_main_v10 V0 :=
  (val1_keep V0 main_v10 (by decide)).trans (val0_2_main_v10 V0)

theorem val1_main_v13 (V0 : Bufs F) : val1 V0 (no_index (Proc.devRef .tc main_v13)) = addf (res_main_v2 V0) (mulf (broadcastInDim S100000 ![] bcast_S_S100000 (constant S_ .f32 0x3F000000#32)) (res_main_v9 V0)) :=
  (val1_keep V0 main_v13 (by decide)).trans (val0_2_main_v13 V0)

theorem val1_main_v16 (V0 : Bufs F) : val1 V0 (no_index (Proc.devRef .tc main_v16)) = addf (res_main_v4 V0) (mulf (broadcastInDim S100000 ![] bcast_S_S100000 (constant S_ .f32 0x3F000000#32)) (res_main_v10 V0)) :=
  (val1_keep V0 main_v16 (by decide)).trans (val0_2_main_v16 V0)

theorem val1_main_v19 (V0 : Bufs F) : val1 V0 (no_index (Proc.devRef .tc main_v19)) = res_main_v19 V0 :=
  (val1_keep V0 main_v19 (by decide)).trans (val0_2_main_v19 V0)

theorem val1_main_v22 (V0 : Bufs F) : val1 V0 (no_index (Proc.devRef .tc main_v22)) = res_main_v22 V0 :=
  (val1_keep V0 main_v22 (by decide)).trans (val0_2_main_v22 V0)

theorem val1_main_v25 (V0 : Bufs F) : val1 V0 (no_index (Proc.devRef .tc main_v25)) = res_main_v25 V0 :=
  (val1_keep V0 main_v25 (by decide)).trans (val0_2_main_v25 V0)

theorem val1_main_v28 (V0 : Bufs F) : val1 V0 (no_index (Proc.devRef .tc main_v28)) = res_main_v28 V0 :=
  (val1_keep V0 main_v28 (by decide)).trans (val0_2_main_v28 V0)

theorem val1_main_v51 (V0 : Bufs F) : val1 V0 (no_index (Proc.devRef .tc main_v51)) = res_main_v51 V0 := by
  unfold val1
  simp only [ops_part0_2]
  after_results_simp
  simp only [val0_2_main_v46, val0_2_main_v48] <;> rfl

theorem val1_main_v52 (V0 : Bufs F) : val1 V0 (no_index (Proc.devRef .tc main_v52)) = mulf (res_main_v9 V0) (res_main_v10 V0) := by
  unfold val1
  simp only [ops_part0_2]
  after_results_simp
  simp only [val0_2_main_v10, val0_2_main_v9] <;> rfl

def val1_1 (V0 : Bufs F) : Bufs F := after ops_part1_0 (val1 V0)

abbrev ops_part1_0_W : List (Ref sig .tc) := [main_v53, main_v54, main_v55, main_v56, main_v57, main_v58, main_v59, main_v60, main_cst_6, main_v61, main_v62, main_v63, main_cst_7, main_v64, main_call1_v0, main_call1_cst, main_call1_c, main_call1_v1_0, main_v65, main_c, main_v66, main_v67, main_c_8, main_v68, main_v69, main_v70, main_v71, main_v72, main_cst_9, main_v73]

theorem ops_part1_0_writes : (ops_part1_0 : List (HloOp τ sig (Elt F))).Forall fun op => op.writes ⊆ (ops_part1_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val1_1_keep (V0 : Bufs F) (r : Ref sig .tc) (h : r ∉ ops_part1_0_W) :
    val1_1 V0 (Proc.devRef .tc r) = val1 V0 (Proc.devRef .tc r) :=
  after_of_writes_sub ops_part1_0 _ ops_part1_0_writes h

theorem val1_1_main_arg0 (V0 : Bufs F) : val1_1 V0 (no_index (Proc.devRef .tc main_arg0)) = V0 (Proc.devRef .tc main_arg0) :=
  (val1_1_keep V0 main_arg0 (by decide)).trans (val1_main_arg0 V0)

theorem val1_1_main_arg1 (V0 : Bufs F) : val1_1 V0 (no_index (Proc.devRef .tc main_arg1)) = V0 (Proc.devRef .tc main_arg1) :=
  (val1_1_keep V0 main_arg1 (by decide)).trans (val1_main_arg1 V0)

theorem val1_1_main_arg2 (V0 : Bufs F) : val1_1 V0 (no_index (Proc.devRef .tc main_arg2)) = V0 (Proc.devRef .tc main_arg2) :=
  (val1_1_keep V0 main_arg2 (by decide)).trans (val1_main_arg2 V0)

theorem val1_1_main_arg3 (V0 : Bufs F) : val1_1 V0 (no_index (Proc.devRef .tc main_arg3)) = V0 (Proc.devRef .tc main_arg3) :=
  (val1_1_keep V0 main_arg3 (by decide)).trans (val1_main_arg3 V0)

theorem val1_1_main_arg4 (V0 : Bufs F) : val1_1 V0 (no_index (Proc.devRef .tc main_arg4)) = V0 (Proc.devRef .tc main_arg4) :=
  (val1_1_keep V0 main_arg4 (by decide)).trans (val1_main_arg4 V0)

theorem val1_1_main_cst (V0 : Bufs F) : val1_1 V0 (no_index (Proc.devRef .tc main_cst)) = (fun i => FloatOps.ofBits .f32 (lit0 (S4.rowMajor i))) :=
  (val1_1_keep V0 main_cst (by decide)).trans (val1_main_cst V0)

theorem val1_1_main_v0 (V0 : Bufs F) : val1_1 V0 (no_index (Proc.devRef .tc main_v0)) = res_main_v0 V0 :=
  (val1_1_keep V0 main_v0 (by decide)).trans (val1_main_v0 V0)

theorem val1_1_main_v9 (V0 : Bufs F) : val1_1 V0 (no_index (Proc.devRef .tc main_v9)) = res_main_v9 V0 :=
  (val1_1_keep V0 main_v9 (by decide)).trans (val1_main_v9 V0)

theorem val1_1_main_v10 (V0 : Bufs F) : val1_1 V0 (no_index (Proc.devRef .tc main_v10)) = res_main_v10 V0 :=
  (val1_1_keep V0 main_v10 (by decide)).trans (val1_main_v10 V0)

theorem val1_1_main_v13 (V0 : Bufs F) : val1_1 V0 (no_index (Proc.devRef .tc main_v13)) = addf (res_main_v2 V0) (mulf (broadcastInDim S100000 ![] bcast_S_S100000 (constant S_ .f32 0x3F000000#32)) (res_main_v9 V0)) :=
  (val1_1_keep V0 main_v13 (by decide)).trans (val1_main_v13 V0)

theorem val1_1_main_v16 (V0 : Bufs F) : val1_1 V0 (no_index (Proc.devRef .tc main_v16)) = addf (res_main_v4 V0) (mulf (broadcastInDim S100000 ![] bcast_S_S100000 (constant S_ .f32 0x3F000000#32)) (res_main_v10 V0)) :=
  (val1_1_keep V0 main_v16 (by decide)).trans (val1_main_v16 V0)

theorem val1_1_main_v64 (V0 : Bufs F) : val1_1 V0 (no_index (Proc.devRef .tc main_v64)) = res_main_v64 V0 := by
  unfold val1_1
  simp only [ops_part1_0, TRef.nullary, TRef.quaternary, TRef.toBuf, TRef.ofBuf, cast_eq]
  after_results_simp
  simp only [val1_main_v22, val1_main_v28, val1_main_v19, val1_main_v25, val1_main_v52, val1_main_v51] <;> rfl

theorem val1_1_main_v72 (V0 : Bufs F) : val1_1 V0 (no_index (Proc.devRef .tc main_v72)) = res_main_v72 V0 := by
  unfold val1_1
  simp only [ops_part1_0, TRef.nullary, TRef.quaternary, TRef.toBuf, TRef.ofBuf, cast_eq]
  after_results_simp
  simp only [val1_main_v22, val1_main_v28, val1_main_v19, val1_main_v25, val1_main_v52, val1_main_v51, val1_main_arg4] <;> rfl

theorem val1_1_main_v73 (V0 : Bufs F) : val1_1 V0 (no_index (Proc.devRef .tc main_v73)) = broadcastInDim S4x100000 ![] bcast_S_S4x100000 (constant S_ .f32 0x3F000000#32) := by
  unfold val1_1
  simp only [ops_part1_0, TRef.nullary, TRef.quaternary, TRef.toBuf, TRef.ofBuf, cast_eq]
  after_results_simp
  all_goals rfl

def val1_2 (V0 : Bufs F) : Bufs F := after ops_part1_1 (val1_1 V0)

abbrev ops_part1_1_W : List (Ref sig .tc) := [main_v74, main_v75, main_c_10, main_v76, main_v77, main_cst_11, main_v78, main_v79, main_cst_12, main_cst_13, main_call2_v0, main_call2_v1, main_v80, main_cst_14, main_call3_v0, main_v81, main_v82, main_v83, main_v84, main_call4_v0, main_call4_v1, main_call4_v2, main_call4_v3, main_call4_v4, main_v85, main_v86, main_v87, main_v88, main_call5_v0, main_call5_v1]

theorem ops_part1_1_writes : (ops_part1_1 : List (HloOp τ sig (Elt F))).Forall fun op => op.writes ⊆ (ops_part1_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val1_2_keep (V0 : Bufs F) (r : Ref sig .tc) (h : r ∉ ops_part1_1_W) :
    val1_2 V0 (Proc.devRef .tc r) = val1_1 V0 (Proc.devRef .tc r) :=
  after_of_writes_sub ops_part1_1 _ ops_part1_1_writes h

theorem val1_2_main_arg0 (V0 : Bufs F) : val1_2 V0 (no_index (Proc.devRef .tc main_arg0)) = V0 (Proc.devRef .tc main_arg0) :=
  (val1_2_keep V0 main_arg0 (by decide)).trans (val1_1_main_arg0 V0)

theorem val1_2_main_arg1 (V0 : Bufs F) : val1_2 V0 (no_index (Proc.devRef .tc main_arg1)) = V0 (Proc.devRef .tc main_arg1) :=
  (val1_2_keep V0 main_arg1 (by decide)).trans (val1_1_main_arg1 V0)

theorem val1_2_main_arg2 (V0 : Bufs F) : val1_2 V0 (no_index (Proc.devRef .tc main_arg2)) = V0 (Proc.devRef .tc main_arg2) :=
  (val1_2_keep V0 main_arg2 (by decide)).trans (val1_1_main_arg2 V0)

theorem val1_2_main_arg3 (V0 : Bufs F) : val1_2 V0 (no_index (Proc.devRef .tc main_arg3)) = V0 (Proc.devRef .tc main_arg3) :=
  (val1_2_keep V0 main_arg3 (by decide)).trans (val1_1_main_arg3 V0)

theorem val1_2_main_arg4 (V0 : Bufs F) : val1_2 V0 (no_index (Proc.devRef .tc main_arg4)) = V0 (Proc.devRef .tc main_arg4) :=
  (val1_2_keep V0 main_arg4 (by decide)).trans (val1_1_main_arg4 V0)

theorem val1_2_main_cst (V0 : Bufs F) : val1_2 V0 (no_index (Proc.devRef .tc main_cst)) = (fun i => FloatOps.ofBits .f32 (lit0 (S4.rowMajor i))) :=
  (val1_2_keep V0 main_cst (by decide)).trans (val1_1_main_cst V0)

theorem val1_2_main_v0 (V0 : Bufs F) : val1_2 V0 (no_index (Proc.devRef .tc main_v0)) = res_main_v0 V0 :=
  (val1_2_keep V0 main_v0 (by decide)).trans (val1_1_main_v0 V0)

theorem val1_2_main_v9 (V0 : Bufs F) : val1_2 V0 (no_index (Proc.devRef .tc main_v9)) = res_main_v9 V0 :=
  (val1_2_keep V0 main_v9 (by decide)).trans (val1_1_main_v9 V0)

theorem val1_2_main_v10 (V0 : Bufs F) : val1_2 V0 (no_index (Proc.devRef .tc main_v10)) = res_main_v10 V0 :=
  (val1_2_keep V0 main_v10 (by decide)).trans (val1_1_main_v10 V0)

theorem val1_2_main_v13 (V0 : Bufs F) : val1_2 V0 (no_index (Proc.devRef .tc main_v13)) = addf (res_main_v2 V0) (mulf (broadcastInDim S100000 ![] bcast_S_S100000 (constant S_ .f32 0x3F000000#32)) (res_main_v9 V0)) :=
  (val1_2_keep V0 main_v13 (by decide)).trans (val1_1_main_v13 V0)

theorem val1_2_main_v16 (V0 : Bufs F) : val1_2 V0 (no_index (Proc.devRef .tc main_v16)) = addf (res_main_v4 V0) (mulf (broadcastInDim S100000 ![] bcast_S_S100000 (constant S_ .f32 0x3F000000#32)) (res_main_v10 V0)) :=
  (val1_2_keep V0 main_v16 (by decide)).trans (val1_1_main_v16 V0)

theorem val1_2_main_v72 (V0 : Bufs F) : val1_2 V0 (no_index (Proc.devRef .tc main_v72)) = res_main_v72 V0 :=
  (val1_2_keep V0 main_v72 (by decide)).trans (val1_1_main_v72 V0)

theorem val1_2_main_v74 (V0 : Bufs F) : val1_2 V0 (no_index (Proc.devRef .tc main_v74)) = res_main_v74 V0 := by
  unfold val1_2
  simp only [ops_part1_1, TRef.binary, TRef.nullary, TRef.ternary, TRef.unary, TRef.toBuf, TRef.ofBuf, cast_eq]
  after_results_simp
  simp only [val1_1_main_v73, val1_1_main_v64] <;> rfl

theorem val1_2_main_v77 (V0 : Bufs F) : val1_2 V0 (no_index (Proc.devRef .tc main_v77)) = res_main_v77 V0 := by
  unfold val1_2
  simp only [ops_part1_1, TRef.binary, TRef.nullary, TRef.ternary, TRef.unary, TRef.toBuf, TRef.ofBuf, cast_eq]
  after_results_simp
  simp only [val1_1_main_v73, val1_1_main_v64] <;> rfl

theorem val1_2_main_v81 (V0 : Bufs F) : val1_2 V0 (no_index (Proc.devRef .tc main_v81)) = select (res_main_v74 V0) (broadcastInDim S4x100000 ![] bcast_S_S4x100000 (constant S_ .f32 0x00000000#32)) (select (cmpf .olt (res_main_v64 V0) (broadcastInDim S4x100000 ![] bcast_S_S4x100000 (constant S_ .f32 0x3ECCCCCD#32))) (broadcastInDim S4x100000 ![] bcast_S_S4x100000 (constant S_ .f32 0x00000000#32)) (broadcastInDim S4x100000 ![] bcast_S_S4x100000 (constant S_ .f32 0xBF800000#32))) := by
  unfold val1_2
  simp only [ops_part1_1, TRef.binary, TRef.nullary, TRef.ternary, TRef.unary, TRef.toBuf, TRef.ofBuf, cast_eq]
  after_results_simp
  simp only [val1_1_main_v64, val1_1_main_v73] <;> rfl

theorem val1_2_main_v85 (V0 : Bufs F) : val1_2 V0 (no_index (Proc.devRef .tc main_v85)) = uitofp .f32 (cmpi .eq (broadcastInDim S4x100000x80 ![0, 1, 2] bcast_S4x100000x1_S4x100000x80_0_1_2 (broadcastInDim S4x100000x1 ![0, 1] bcast_S4x100000_S4x100000x1_0_1 (fptosi 32 (shapeCast _ (extractStridedSlice S4x100000x1 ![0, 0, 4] (res_main_v72 V0) slices_S4x100000x7_S4x100000x1_0_0_4) shapeCasts_S4x100000x1_S4x100000)))) (broadcastInDim S4x100000x80 ![0, 1, 2] bcast_S1x1x80_S4x100000x80_0_1_2 (iotaInDim S1x1x80 32 2))) := by
  unfold val1_2
  simp only [ops_part1_1, TRef.binary, TRef.nullary, TRef.ternary, TRef.unary, TRef.toBuf, TRef.ofBuf, cast_eq]
  after_results_simp
  simp only [val1_1_main_v72] <;> rfl

theorem val1_2_main_call5_v0 (V0 : Bufs F) : val1_2 V0 (no_index (Proc.devRef .tc main_call5_v0)) = broadcastInDim S4x100000x1 ![0, 1] bcast_S4x100000_S4x100000x1_0_1 (fptosi 32 (shapeCast _ (extractStridedSlice S4x100000x1 ![0, 0, 5] (res_main_v72 V0) slices_S4x100000x7_S4x100000x1_0_0_5) shapeCasts_S4x100000x1_S4x100000)) := by
  unfold val1_2
  simp only [ops_part1_1, TRef.binary, TRef.nullary, TRef.ternary, TRef.unary, TRef.toBuf, TRef.ofBuf, cast_eq]
  after_results_simp
  simp only [val1_1_main_v72] <;> rfl

theorem val1_2_main_call5_v1 (V0 : Bufs F) : val1_2 V0 (no_index (Proc.devRef .tc main_call5_v1)) = iotaInDim S1x1x80 32 2 := by
  unfold val1_2
  simp only [ops_part1_1, TRef.binary, TRef.nullary, TRef.ternary, TRef.unary, TRef.toBuf, TRef.ofBuf, cast_eq]
  after_results_simp
  all_goals rfl

def val2 (V0 : Bufs F) : Bufs F := after ops_part1_2 (val1_2 V0)

abbrev ops_part1_2_W : List (Ref sig .tc) := [main_call5_v2, main_call5_v3, main_call5_v4, main_v89, main_v90, main_v91, main_v92, main_v93, main_call6_v0, main_call6_v1, main_call6_v2, main_call6_v3, main_call6_v4, main_v94, main_v95, main_cst_15, main_v96, main_v97, main_v98, main_v99, main_v100, main_v101]

theorem ops_part1_2_writes : (ops_part1_2 : List (HloOp τ sig (Elt F))).Forall fun op => op.writes ⊆ (ops_part1_2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val2_keep (V0 : Bufs F) (r : Ref sig .tc) (h : r ∉ ops_part1_2_W) :
    val2 V0 (Proc.devRef .tc r) = val1_2 V0 (Proc.devRef .tc r) :=
  after_of_writes_sub ops_part1_2 _ ops_part1_2_writes h

theorem val2_main_arg0 (V0 : Bufs F) : val2 V0 (no_index (Proc.devRef .tc main_arg0)) = V0 (Proc.devRef .tc main_arg0) :=
  (val2_keep V0 main_arg0 (by decide)).trans (val1_2_main_arg0 V0)

theorem val2_main_arg1 (V0 : Bufs F) : val2 V0 (no_index (Proc.devRef .tc main_arg1)) = V0 (Proc.devRef .tc main_arg1) :=
  (val2_keep V0 main_arg1 (by decide)).trans (val1_2_main_arg1 V0)

theorem val2_main_arg2 (V0 : Bufs F) : val2 V0 (no_index (Proc.devRef .tc main_arg2)) = V0 (Proc.devRef .tc main_arg2) :=
  (val2_keep V0 main_arg2 (by decide)).trans (val1_2_main_arg2 V0)

theorem val2_main_arg3 (V0 : Bufs F) : val2 V0 (no_index (Proc.devRef .tc main_arg3)) = V0 (Proc.devRef .tc main_arg3) :=
  (val2_keep V0 main_arg3 (by decide)).trans (val1_2_main_arg3 V0)

theorem val2_main_arg4 (V0 : Bufs F) : val2 V0 (no_index (Proc.devRef .tc main_arg4)) = V0 (Proc.devRef .tc main_arg4) :=
  (val2_keep V0 main_arg4 (by decide)).trans (val1_2_main_arg4 V0)

theorem val2_main_cst (V0 : Bufs F) : val2 V0 (no_index (Proc.devRef .tc main_cst)) = (fun i => FloatOps.ofBits .f32 (lit0 (S4.rowMajor i))) :=
  (val2_keep V0 main_cst (by decide)).trans (val1_2_main_cst V0)

theorem val2_main_v0 (V0 : Bufs F) : val2 V0 (no_index (Proc.devRef .tc main_v0)) = res_main_v0 V0 :=
  (val2_keep V0 main_v0 (by decide)).trans (val1_2_main_v0 V0)

theorem val2_main_v9 (V0 : Bufs F) : val2 V0 (no_index (Proc.devRef .tc main_v9)) = res_main_v9 V0 :=
  (val2_keep V0 main_v9 (by decide)).trans (val1_2_main_v9 V0)

theorem val2_main_v10 (V0 : Bufs F) : val2 V0 (no_index (Proc.devRef .tc main_v10)) = res_main_v10 V0 :=
  (val2_keep V0 main_v10 (by decide)).trans (val1_2_main_v10 V0)

theorem val2_main_v13 (V0 : Bufs F) : val2 V0 (no_index (Proc.devRef .tc main_v13)) = addf (res_main_v2 V0) (mulf (broadcastInDim S100000 ![] bcast_S_S100000 (constant S_ .f32 0x3F000000#32)) (res_main_v9 V0)) :=
  (val2_keep V0 main_v13 (by decide)).trans (val1_2_main_v13 V0)

theorem val2_main_v16 (V0 : Bufs F) : val2 V0 (no_index (Proc.devRef .tc main_v16)) = addf (res_main_v4 V0) (mulf (broadcastInDim S100000 ![] bcast_S_S100000 (constant S_ .f32 0x3F000000#32)) (res_main_v10 V0)) :=
  (val2_keep V0 main_v16 (by decide)).trans (val1_2_main_v16 V0)

theorem val2_main_v72 (V0 : Bufs F) : val2 V0 (no_index (Proc.devRef .tc main_v72)) = res_main_v72 V0 :=
  (val2_keep V0 main_v72 (by decide)).trans (val1_2_main_v72 V0)

theorem val2_main_v74 (V0 : Bufs F) : val2 V0 (no_index (Proc.devRef .tc main_v74)) = res_main_v74 V0 :=
  (val2_keep V0 main_v74 (by decide)).trans (val1_2_main_v74 V0)

theorem val2_main_v77 (V0 : Bufs F) : val2 V0 (no_index (Proc.devRef .tc main_v77)) = res_main_v77 V0 :=
  (val2_keep V0 main_v77 (by decide)).trans (val1_2_main_v77 V0)

theorem val2_main_v100 (V0 : Bufs F) : val2 V0 (no_index (Proc.devRef .tc main_v100)) = andi (broadcastInDim S4x100000x80 ![0, 1, 2] bcast_S4x100000x1_S4x100000x80_0_1_2 (broadcastInDim S4x100000x1 ![0, 1] bcast_S4x100000_S4x100000x1_0_1 (res_main_v74 V0))) (cmpf .ogt (addf (addf (uitofp .f32 (cmpi .eq (broadcastInDim S4x100000x80 ![0, 1, 2] bcast_S4x100000x1_S4x100000x80_0_1_2 (broadcastInDim S4x100000x1 ![0, 1] bcast_S4x100000_S4x100000x1_0_1 (fptosi 32 (shapeCast _ (extractStridedSlice S4x100000x1 ![0, 0, 4] (res_main_v72 V0) slices_S4x100000x7_S4x100000x1_0_0_4) shapeCasts_S4x100000x1_S4x100000)))) (broadcastInDim S4x100000x80 ![0, 1, 2] bcast_S1x1x80_S4x100000x80_0_1_2 (iotaInDim S1x1x80 32 2)))) (uitofp .f32 (cmpi .eq (broadcastInDim S4x100000x80 ![0, 1, 2] bcast_S4x100000x1_S4x100000x80_0_1_2 (broadcastInDim S4x100000x1 ![0, 1] bcast_S4x100000_S4x100000x1_0_1 (fptosi 32 (shapeCast _ (extractStridedSlice S4x100000x1 ![0, 0, 5] (res_main_v72 V0) slices_S4x100000x7_S4x100000x1_0_0_5) shapeCasts_S4x100000x1_S4x100000)))) (broadcastInDim S4x100000x80 ![0, 1, 2] bcast_S1x1x80_S4x100000x80_0_1_2 (iotaInDim S1x1x80 32 2))))) (uitofp .f32 (cmpi .eq (broadcastInDim S4x100000x80 ![0, 1, 2] bcast_S4x100000x1_S4x100000x80_0_1_2 (broadcastInDim S4x100000x1 ![0, 1] bcast_S4x100000_S4x100000x1_0_1 (fptosi 32 (shapeCast _ (extractStridedSlice S4x100000x1 ![0, 0, 6] (res_main_v72 V0) slices_S4x100000x7_S4x100000x1_0_0_6) shapeCasts_S4x100000x1_S4x100000)))) (broadcastInDim S4x100000x80 ![0, 1, 2] bcast_S1x1x80_S4x100000x80_0_1_2 (iotaInDim S1x1x80 32 2)))) : Arr F S4x100000x80 .f32) (broadcastInDim S4x100000x80 ![] bcast_S_S4x100000x80 (constant S_ .f32 0x00000000#32))) := by
  unfold val2
  simp only [ops_part1_2, TRef.binary, TRef.nullary, TRef.unary, TRef.toBuf, TRef.ofBuf, cast_eq]
  after_results_simp
  simp only [val1_2_main_v72, val1_2_main_call5_v1, val1_2_main_call5_v0, val1_2_main_v85, val1_2_main_v74] <;> rfl

theorem val2_main_v101 (V0 : Bufs F) : val2 V0 (no_index (Proc.devRef .tc main_v101)) = broadcastInDim S4x100000x1 ![0, 1] bcast_S4x100000_S4x100000x1_0_1 (select (res_main_v74 V0) (broadcastInDim S4x100000 ![] bcast_S_S4x100000 (constant S_ .f32 0x00000000#32)) (select (cmpf .olt (res_main_v64 V0) (broadcastInDim S4x100000 ![] bcast_S_S4x100000 (constant S_ .f32 0x3ECCCCCD#32))) (broadcastInDim S4x100000 ![] bcast_S_S4x100000 (constant S_ .f32 0x00000000#32)) (broadcastInDim S4x100000 ![] bcast_S_S4x100000 (constant S_ .f32 0xBF800000#32)))) := by
  unfold val2
  simp only [ops_part1_2, TRef.binary, TRef.nullary, TRef.unary, TRef.toBuf, TRef.ofBuf, cast_eq]
  after_results_simp
  simp only [val1_2_main_v81] <;> rfl

end Cert.ReferenceIdeal.Value

end
-- ==== Proof.Ref.Read2.lean ====
/- The reference program: what the buffers hold after the third stretch of operations. -/
module

public import proofs.«01_k».proof.Proof.Ref.Read1

@[expose] public section

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

def val2_1 (V0 : Bufs F) : Bufs F := after ops_part2_0 (val2 V0)

abbrev ops_part2_0_W : List (Ref sig .tc) := [main_cst_16, main_call7_v0, main_call7_v1, main_v102, main_cst_17, main_v103, main_v104, main_cst_18, main_cst_19, main_call8_v0, main_call8_v1, main_v105, main_cst_20, main_v106, main_v107, main_cst_21, main_v108, main_v109, main_v110, main_cst_22, main_v111, main_v112, main_v113, main_v114, main_v115, main_v116, main_v117, main_cst_23, main_v118, main_v119]

theorem ops_part2_0_writes : (ops_part2_0 : List (HloOp τ sig (Elt F))).Forall fun op => op.writes ⊆ (ops_part2_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val2_1_keep (V0 : Bufs F) (r : Ref sig .tc) (h : r ∉ ops_part2_0_W) :
    val2_1 V0 (Proc.devRef .tc r) = val2 V0 (Proc.devRef .tc r) :=
  after_of_writes_sub ops_part2_0 _ ops_part2_0_writes h

theorem val2_1_main_arg0 (V0 : Bufs F) : val2_1 V0 (no_index (Proc.devRef .tc main_arg0)) = V0 (Proc.devRef .tc main_arg0) :=
  (val2_1_keep V0 main_arg0 (by decide)).trans (val2_main_arg0 V0)

theorem val2_1_main_arg1 (V0 : Bufs F) : val2_1 V0 (no_index (Proc.devRef .tc main_arg1)) = V0 (Proc.devRef .tc main_arg1) :=
  (val2_1_keep V0 main_arg1 (by decide)).trans (val2_main_arg1 V0)

theorem val2_1_main_arg2 (V0 : Bufs F) : val2_1 V0 (no_index (Proc.devRef .tc main_arg2)) = V0 (Proc.devRef .tc main_arg2) :=
  (val2_1_keep V0 main_arg2 (by decide)).trans (val2_main_arg2 V0)

theorem val2_1_main_arg3 (V0 : Bufs F) : val2_1 V0 (no_index (Proc.devRef .tc main_arg3)) = V0 (Proc.devRef .tc main_arg3) :=
  (val2_1_keep V0 main_arg3 (by decide)).trans (val2_main_arg3 V0)

theorem val2_1_main_arg4 (V0 : Bufs F) : val2_1 V0 (no_index (Proc.devRef .tc main_arg4)) = V0 (Proc.devRef .tc main_arg4) :=
  (val2_1_keep V0 main_arg4 (by decide)).trans (val2_main_arg4 V0)

theorem val2_1_main_cst (V0 : Bufs F) : val2_1 V0 (no_index (Proc.devRef .tc main_cst)) = (fun i => FloatOps.ofBits .f32 (lit0 (S4.rowMajor i))) :=
  (val2_1_keep V0 main_cst (by decide)).trans (val2_main_cst V0)

theorem val2_1_main_v0 (V0 : Bufs F) : val2_1 V0 (no_index (Proc.devRef .tc main_v0)) = res_main_v0 V0 :=
  (val2_1_keep V0 main_v0 (by decide)).trans (val2_main_v0 V0)

theorem val2_1_main_v9 (V0 : Bufs F) : val2_1 V0 (no_index (Proc.devRef .tc main_v9)) = res_main_v9 V0 :=
  (val2_1_keep V0 main_v9 (by decide)).trans (val2_main_v9 V0)

theorem val2_1_main_v10 (V0 : Bufs F) : val2_1 V0 (no_index (Proc.devRef .tc main_v10)) = res_main_v10 V0 :=
  (val2_1_keep V0 main_v10 (by decide)).trans (val2_main_v10 V0)

theorem val2_1_main_v13 (V0 : Bufs F) : val2_1 V0 (no_index (Proc.devRef .tc main_v13)) = addf (res_main_v2 V0) (mulf (broadcastInDim S100000 ![] bcast_S_S100000 (constant S_ .f32 0x3F000000#32)) (res_main_v9 V0)) :=
  (val2_1_keep V0 main_v13 (by decide)).trans (val2_main_v13 V0)

theorem val2_1_main_v16 (V0 : Bufs F) : val2_1 V0 (no_index (Proc.devRef .tc main_v16)) = addf (res_main_v4 V0) (mulf (broadcastInDim S100000 ![] bcast_S_S100000 (constant S_ .f32 0x3F000000#32)) (res_main_v10 V0)) :=
  (val2_1_keep V0 main_v16 (by decide)).trans (val2_main_v16 V0)

theorem val2_1_main_v72 (V0 : Bufs F) : val2_1 V0 (no_index (Proc.devRef .tc main_v72)) = res_main_v72 V0 :=
  (val2_1_keep V0 main_v72 (by decide)).trans (val2_main_v72 V0)

theorem val2_1_main_v74 (V0 : Bufs F) : val2_1 V0 (no_index (Proc.devRef .tc main_v74)) = res_main_v74 V0 :=
  (val2_1_keep V0 main_v74 (by decide)).trans (val2_main_v74 V0)

theorem val2_1_main_v77 (V0 : Bufs F) : val2_1 V0 (no_index (Proc.devRef .tc main_v77)) = res_main_v77 V0 :=
  (val2_1_keep V0 main_v77 (by decide)).trans (val2_main_v77 V0)

theorem val2_1_main_v102 (V0 : Bufs F) : val2_1 V0 (no_index (Proc.devRef .tc main_v102)) = res_main_v102 V0 := by
  unfold val2_1
  simp only [ops_part2_0, TRef.ternary, TRef.unary, TRef.toBuf, TRef.ofBuf, cast_eq]
  after_results_simp
  simp only [val2_main_v101, val2_main_v100] <;> rfl

theorem val2_1_main_v114 (V0 : Bufs F) : val2_1 V0 (no_index (Proc.devRef .tc main_v114)) = mulf (id (select (cmpf .oeq (res_main_v102 V0) (broadcastInDim S4x100000x80 ![] bcast_S_S4x100000x80 (constant S_ .f32 0x3F800000#32))) (broadcastInDim S4x100000x80 ![] bcast_S_S4x100000x80 (constant S_ .f32 0x3E800000#32)) (broadcastInDim S4x100000x80 ![] bcast_S_S4x100000x80 (constant S_ .f32 0x3F400000#32)))) (Host.powf (select (cmpf .oeq (res_main_v102 V0) (broadcastInDim S4x100000x80 ![] bcast_S_S4x100000x80 (constant S_ .f32 0x3F800000#32))) (subf (broadcastInDim S4x100000x80 ![] bcast_S_S4x100000x80 (constant S_ .f32 0x3F800000#32)) (res_main_v0 V0)) (res_main_v0 V0)) (broadcastInDim S4x100000x80 ![] bcast_S_S4x100000x80 (constant S_ .f32 0x40000000#32))) := by
  unfold val2_1
  simp only [ops_part2_0, TRef.ternary, TRef.unary, TRef.toBuf, TRef.ofBuf, cast_eq]
  after_results_simp
  simp only [val2_main_v0, val2_main_v101, val2_main_v100] <;> rfl

theorem val2_1_main_v117 (V0 : Bufs F) : val2_1 V0 (no_index (Proc.devRef .tc main_v117)) = mulf (id (res_main_v102 V0)) (Host.log (res_main_v0 V0)) := by
  unfold val2_1
  simp only [ops_part2_0, TRef.ternary, TRef.unary, TRef.toBuf, TRef.ofBuf, cast_eq]
  after_results_simp
  simp only [val2_main_v0, val2_main_v101, val2_main_v100] <;> rfl

theorem val2_1_main_v119 (V0 : Bufs F) : val2_1 V0 (no_index (Proc.devRef .tc main_v119)) = subf (broadcastInDim S4x100000x80 ![] bcast_S_S4x100000x80 (constant S_ .f32 0x3F800000#32)) (res_main_v102 V0) := by
  unfold val2_1
  simp only [ops_part2_0, TRef.ternary, TRef.unary, TRef.toBuf, TRef.ofBuf, cast_eq]
  after_results_simp
  simp only [val2_main_v101, val2_main_v100] <;> rfl

def val2_2 (V0 : Bufs F) : Bufs F := after ops_part2_1 (val2_1 V0)

abbrev ops_part2_1_W : List (Ref sig .tc) := [main_cst_24, main_v120, main_v121, main_v122, main_v123, main_v124, main_v125, main_v126, main_cst_25, main_v127, main_v128, main_v129, main_cst_26, main_call10_v0, main_call10_v1, main_v130, main_cst_27, main_v131, main_cst_28, main_v132, main_v133, main_v134, main_v135, main_v136, main_v137, main_v138, main_v139, main_v140, main_v141, main_v142]

theorem ops_part2_1_writes : (ops_part2_1 : List (HloOp τ sig (Elt F))).Forall fun op => op.writes ⊆ (ops_part2_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val2_2_keep (V0 : Bufs F) (r : Ref sig .tc) (h : r ∉ ops_part2_1_W) :
    val2_2 V0 (Proc.devRef .tc r) = val2_1 V0 (Proc.devRef .tc r) :=
  after_of_writes_sub ops_part2_1 _ ops_part2_1_writes h

theorem val2_2_main_arg0 (V0 : Bufs F) : val2_2 V0 (no_index (Proc.devRef .tc main_arg0)) = V0 (Proc.devRef .tc main_arg0) :=
  (val2_2_keep V0 main_arg0 (by decide)).trans (val2_1_main_arg0 V0)

theorem val2_2_main_arg1 (V0 : Bufs F) : val2_2 V0 (no_index (Proc.devRef .tc main_arg1)) = V0 (Proc.devRef .tc main_arg1) :=
  (val2_2_keep V0 main_arg1 (by decide)).trans (val2_1_main_arg1 V0)

theorem val2_2_main_arg2 (V0 : Bufs F) : val2_2 V0 (no_index (Proc.devRef .tc main_arg2)) = V0 (Proc.devRef .tc main_arg2) :=
  (val2_2_keep V0 main_arg2 (by decide)).trans (val2_1_main_arg2 V0)

theorem val2_2_main_arg3 (V0 : Bufs F) : val2_2 V0 (no_index (Proc.devRef .tc main_arg3)) = V0 (Proc.devRef .tc main_arg3) :=
  (val2_2_keep V0 main_arg3 (by decide)).trans (val2_1_main_arg3 V0)

theorem val2_2_main_arg4 (V0 : Bufs F) : val2_2 V0 (no_index (Proc.devRef .tc main_arg4)) = V0 (Proc.devRef .tc main_arg4) :=
  (val2_2_keep V0 main_arg4 (by decide)).trans (val2_1_main_arg4 V0)

theorem val2_2_main_cst (V0 : Bufs F) : val2_2 V0 (no_index (Proc.devRef .tc main_cst)) = (fun i => FloatOps.ofBits .f32 (lit0 (S4.rowMajor i))) :=
  (val2_2_keep V0 main_cst (by decide)).trans (val2_1_main_cst V0)

theorem val2_2_main_v9 (V0 : Bufs F) : val2_2 V0 (no_index (Proc.devRef .tc main_v9)) = res_main_v9 V0 :=
  (val2_2_keep V0 main_v9 (by decide)).trans (val2_1_main_v9 V0)

theorem val2_2_main_v10 (V0 : Bufs F) : val2_2 V0 (no_index (Proc.devRef .tc main_v10)) = res_main_v10 V0 :=
  (val2_2_keep V0 main_v10 (by decide)).trans (val2_1_main_v10 V0)

theorem val2_2_main_v13 (V0 : Bufs F) : val2_2 V0 (no_index (Proc.devRef .tc main_v13)) = addf (res_main_v2 V0) (mulf (broadcastInDim S100000 ![] bcast_S_S100000 (constant S_ .f32 0x3F000000#32)) (res_main_v9 V0)) :=
  (val2_2_keep V0 main_v13 (by decide)).trans (val2_1_main_v13 V0)

theorem val2_2_main_v16 (V0 : Bufs F) : val2_2 V0 (no_index (Proc.devRef .tc main_v16)) = addf (res_main_v4 V0) (mulf (broadcastInDim S100000 ![] bcast_S_S100000 (constant S_ .f32 0x3F000000#32)) (res_main_v10 V0)) :=
  (val2_2_keep V0 main_v16 (by decide)).trans (val2_1_main_v16 V0)

theorem val2_2_main_v72 (V0 : Bufs F) : val2_2 V0 (no_index (Proc.devRef .tc main_v72)) = res_main_v72 V0 :=
  (val2_2_keep V0 main_v72 (by decide)).trans (val2_1_main_v72 V0)

theorem val2_2_main_v74 (V0 : Bufs F) : val2_2 V0 (no_index (Proc.devRef .tc main_v74)) = res_main_v74 V0 :=
  (val2_2_keep V0 main_v74 (by decide)).trans (val2_1_main_v74 V0)

theorem val2_2_main_v77 (V0 : Bufs F) : val2_2 V0 (no_index (Proc.devRef .tc main_v77)) = res_main_v77 V0 :=
  (val2_2_keep V0 main_v77 (by decide)).trans (val2_1_main_v77 V0)

theorem val2_2_main_v134 (V0 : Bufs F) : val2_2 V0 (no_index (Proc.devRef .tc main_v134)) = res_main_v134 V0 := by
  unfold val2_2
  simp only [ops_part2_1, TRef.ternary, TRef.unary, TRef.toBuf, TRef.ofBuf, cast_eq]
  after_results_simp
  simp only [val2_1_main_v77, val2_1_main_v0, val2_1_main_v119, val2_1_main_v117, val2_1_main_v114, val2_1_main_v102] <;> rfl

theorem val2_2_main_v139 (V0 : Bufs F) : val2_2 V0 (no_index (Proc.devRef .tc main_v139)) = res_main_v139 V0 := by
  unfold val2_2
  simp only [ops_part2_1, TRef.ternary, TRef.unary, TRef.toBuf, TRef.ofBuf, cast_eq]
  after_results_simp
  simp only [val2_1_main_v72] <;> rfl

theorem val2_2_main_v141 (V0 : Bufs F) : val2_2 V0 (no_index (Proc.devRef .tc main_v141)) = shapeCast _ (extractStridedSlice S4x100000x1 ![0, 0, 3] (res_main_v72 V0) slices_S4x100000x7_S4x100000x1_0_0_3) shapeCasts_S4x100000x1_S4x100000 := by
  unfold val2_2
  simp only [ops_part2_1, TRef.ternary, TRef.unary, TRef.toBuf, TRef.ofBuf, cast_eq]
  after_results_simp
  simp only [val2_1_main_v72] <;> rfl

theorem val2_2_main_v142 (V0 : Bufs F) : val2_2 V0 (no_index (Proc.devRef .tc main_v142)) = extractStridedSlice S4x100000x1 ![0, 0, 1] (res_main_v72 V0) slices_S4x100000x7_S4x100000x1_0_0_1 := by
  unfold val2_2
  simp only [ops_part2_1, TRef.ternary, TRef.unary, TRef.toBuf, TRef.ofBuf, cast_eq]
  after_results_simp
  simp only [val2_1_main_v72] <;> rfl

def val3 (V0 : Bufs F) : Bufs F := after ops_part2_2 (val2_2 V0)

abbrev ops_part2_2_W : List (Ref sig .tc) := [main_v143, main_v144, main_v145, main_v146, main_cst_29, main_v147]

theorem ops_part2_2_writes : (ops_part2_2 : List (HloOp τ sig (Elt F))).Forall fun op => op.writes ⊆ (ops_part2_2_W.map (Proc.devRef (τ := τ) .tc)).toFinset := by
  simp only [List.Forall]
  refine ⟨?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val3_keep (V0 : Bufs F) (r : Ref sig .tc) (h : r ∉ ops_part2_2_W) :
    val3 V0 (Proc.devRef .tc r) = val2_2 V0 (Proc.devRef .tc r) :=
  after_of_writes_sub ops_part2_2 _ ops_part2_2_writes h

theorem val3_main_arg0 (V0 : Bufs F) : val3 V0 (no_index (Proc.devRef .tc main_arg0)) = V0 (Proc.devRef .tc main_arg0) :=
  (val3_keep V0 main_arg0 (by decide)).trans (val2_2_main_arg0 V0)

theorem val3_main_arg1 (V0 : Bufs F) : val3 V0 (no_index (Proc.devRef .tc main_arg1)) = V0 (Proc.devRef .tc main_arg1) :=
  (val3_keep V0 main_arg1 (by decide)).trans (val2_2_main_arg1 V0)

theorem val3_main_arg2 (V0 : Bufs F) : val3 V0 (no_index (Proc.devRef .tc main_arg2)) = V0 (Proc.devRef .tc main_arg2) :=
  (val3_keep V0 main_arg2 (by decide)).trans (val2_2_main_arg2 V0)

theorem val3_main_arg3 (V0 : Bufs F) : val3 V0 (no_index (Proc.devRef .tc main_arg3)) = V0 (Proc.devRef .tc main_arg3) :=
  (val3_keep V0 main_arg3 (by decide)).trans (val2_2_main_arg3 V0)

theorem val3_main_arg4 (V0 : Bufs F) : val3 V0 (no_index (Proc.devRef .tc main_arg4)) = V0 (Proc.devRef .tc main_arg4) :=
  (val3_keep V0 main_arg4 (by decide)).trans (val2_2_main_arg4 V0)

theorem val3_main_cst (V0 : Bufs F) : val3 V0 (no_index (Proc.devRef .tc main_cst)) = (fun i => FloatOps.ofBits .f32 (lit0 (S4.rowMajor i))) :=
  (val3_keep V0 main_cst (by decide)).trans (val2_2_main_cst V0)

theorem val3_main_v9 (V0 : Bufs F) : val3 V0 (no_index (Proc.devRef .tc main_v9)) = res_main_v9 V0 :=
  (val3_keep V0 main_v9 (by decide)).trans (val2_2_main_v9 V0)

theorem val3_main_v10 (V0 : Bufs F) : val3 V0 (no_index (Proc.devRef .tc main_v10)) = res_main_v10 V0 :=
  (val3_keep V0 main_v10 (by decide)).trans (val2_2_main_v10 V0)

theorem val3_main_v13 (V0 : Bufs F) : val3 V0 (no_index (Proc.devRef .tc main_v13)) = addf (res_main_v2 V0) (mulf (broadcastInDim S100000 ![] bcast_S_S100000 (constant S_ .f32 0x3F000000#32)) (res_main_v9 V0)) :=
  (val3_keep V0 main_v13 (by decide)).trans (val2_2_main_v13 V0)

theorem val3_main_v16 (V0 : Bufs F) : val3 V0 (no_index (Proc.devRef .tc main_v16)) = addf (res_main_v4 V0) (mulf (broadcastInDim S100000 ![] bcast_S_S100000 (constant S_ .f32 0x3F000000#32)) (res_main_v10 V0)) :=
  (val3_keep V0 main_v16 (by decide)).trans (val2_2_main_v16 V0)

theorem val3_main_v72 (V0 : Bufs F) : val3 V0 (no_index (Proc.devRef .tc main_v72)) = res_main_v72 V0 :=
  (val3_keep V0 main_v72 (by decide)).trans (val2_2_main_v72 V0)

theorem val3_main_v74 (V0 : Bufs F) : val3 V0 (no_index (Proc.devRef .tc main_v74)) = res_main_v74 V0 :=
  (val3_keep V0 main_v74 (by decide)).trans (val2_2_main_v74 V0)

theorem val3_main_v77 (V0 : Bufs F) : val3 V0 (no_index (Proc.devRef .tc main_v77)) = res_main_v77 V0 :=
  (val3_keep V0 main_v77 (by decide)).trans (val2_2_main_v77 V0)

theorem val3_main_v134 (V0 : Bufs F) : val3 V0 (no_index (Proc.devRef .tc main_v134)) = res_main_v134 V0 :=
  (val3_keep V0 main_v134 (by decide)).trans (val2_2_main_v134 V0)

theorem val3_main_v139 (V0 : Bufs F) : val3 V0 (no_index (Proc.devRef .tc main_v139)) = res_main_v139 V0 :=
  (val3_keep V0 main_v139 (by decide)).trans (val2_2_main_v139 V0)

theorem val3_main_v144 (V0 : Bufs F) : val3 V0 (no_index (Proc.devRef .tc main_v144)) = res_main_v144 V0 := by
  unfold val3
  simp only [ops_part2_2]
  after_results_simp
  simp only [val2_2_main_v142, val2_2_main_v141] <;> rfl

theorem val3_main_v146 (V0 : Bufs F) : val3 V0 (no_index (Proc.devRef .tc main_v146)) = shapeCast _ (extractStridedSlice S4x100000x1 ![0, 0, 0] (res_main_v72 V0) slices_S4x100000x7_S4x100000x1_0_0_0) shapeCasts_S4x100000x1_S4x100000 := by
  unfold val3
  simp only [ops_part2_2]
  after_results_simp
  simp only [val2_2_main_v72] <;> rfl

theorem val3_main_v147 (V0 : Bufs F) : val3 V0 (no_index (Proc.devRef .tc main_v147)) = broadcastInDim S4x100000 ![] bcast_S_S4x100000 (constant S_ .f32 0x3F000000#32) := by
  unfold val3
  simp only [ops_part2_2]
  after_results_simp
  all_goals rfl

end Cert.ReferenceIdeal.Value

end
-- ==== Proof.Ref.Read3.lean ====
/- The reference program: what the buffers hold after the last stretches of operations. -/
module

public import proofs.«01_k».proof.Proof.Ref.Read2

@[expose] public section

set_option maxRecDepth 8192
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

def val3_1 (V0 : Bufs F) : Bufs F := after ops_part3_0 (val3 V0)

abbrev ops_part3_0_W : List (Ref sig .tc) := [main_v148, main_v149, main_v150, main_v151, main_cst_30, main_v152, main_v153, main_v154, main_cst_31, main_v155, main_v156, main_cst_32, main_v157, main_v158, main_v159, main_v160, main_v161, main_v162, main_v163, main_v164, main_v165, main_v166, main_v167, main_v168, main_v169, main_v170, main_v171, main_v172, main_v173, main_v174]

theorem ops_part3_0_writes : (ops_part3_0 : List (HloOp τ sig (Elt F))).Forall fun op => op.writes ⊆ (ops_part3_0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val3_1_keep (V0 : Bufs F) (r : Ref sig .tc) (h : r ∉ ops_part3_0_W) :
    val3_1 V0 (Proc.devRef .tc r) = val3 V0 (Proc.devRef .tc r) :=
  after_of_writes_sub ops_part3_0 _ ops_part3_0_writes h

theorem val3_1_main_arg0 (V0 : Bufs F) : val3_1 V0 (no_index (Proc.devRef .tc main_arg0)) = V0 (Proc.devRef .tc main_arg0) :=
  (val3_1_keep V0 main_arg0 (by decide)).trans (val3_main_arg0 V0)

theorem val3_1_main_arg1 (V0 : Bufs F) : val3_1 V0 (no_index (Proc.devRef .tc main_arg1)) = V0 (Proc.devRef .tc main_arg1) :=
  (val3_1_keep V0 main_arg1 (by decide)).trans (val3_main_arg1 V0)

theorem val3_1_main_arg2 (V0 : Bufs F) : val3_1 V0 (no_index (Proc.devRef .tc main_arg2)) = V0 (Proc.devRef .tc main_arg2) :=
  (val3_1_keep V0 main_arg2 (by decide)).trans (val3_main_arg2 V0)

theorem val3_1_main_arg3 (V0 : Bufs F) : val3_1 V0 (no_index (Proc.devRef .tc main_arg3)) = V0 (Proc.devRef .tc main_arg3) :=
  (val3_1_keep V0 main_arg3 (by decide)).trans (val3_main_arg3 V0)

theorem val3_1_main_arg4 (V0 : Bufs F) : val3_1 V0 (no_index (Proc.devRef .tc main_arg4)) = V0 (Proc.devRef .tc main_arg4) :=
  (val3_1_keep V0 main_arg4 (by decide)).trans (val3_main_arg4 V0)

theorem val3_1_main_cst (V0 : Bufs F) : val3_1 V0 (no_index (Proc.devRef .tc main_cst)) = (fun i => FloatOps.ofBits .f32 (lit0 (S4.rowMajor i))) :=
  (val3_1_keep V0 main_cst (by decide)).trans (val3_main_cst V0)

theorem val3_1_main_v10 (V0 : Bufs F) : val3_1 V0 (no_index (Proc.devRef .tc main_v10)) = res_main_v10 V0 :=
  (val3_1_keep V0 main_v10 (by decide)).trans (val3_main_v10 V0)

theorem val3_1_main_v74 (V0 : Bufs F) : val3_1 V0 (no_index (Proc.devRef .tc main_v74)) = res_main_v74 V0 :=
  (val3_1_keep V0 main_v74 (by decide)).trans (val3_main_v74 V0)

theorem val3_1_main_v77 (V0 : Bufs F) : val3_1 V0 (no_index (Proc.devRef .tc main_v77)) = res_main_v77 V0 :=
  (val3_1_keep V0 main_v77 (by decide)).trans (val3_main_v77 V0)

theorem val3_1_main_v134 (V0 : Bufs F) : val3_1 V0 (no_index (Proc.devRef .tc main_v134)) = res_main_v134 V0 :=
  (val3_1_keep V0 main_v134 (by decide)).trans (val3_main_v134 V0)

theorem val3_1_main_v158 (V0 : Bufs F) : val3_1 V0 (no_index (Proc.devRef .tc main_v158)) = maximumf (res_main_v144 V0) (broadcastInDim S4x100000 ![] bcast_S_S4x100000 (constant S_ .f32 0x3F800000#32)) := by
  unfold val3_1
  simp only [ops_part3_0]
  after_results_simp
  simp only [val3_main_v144] <;> rfl

theorem val3_1_main_v164 (V0 : Bufs F) : val3_1 V0 (no_index (Proc.devRef .tc main_v164)) = Host.divf (subf (addf (shapeCast _ (extractStridedSlice S4x100000x1 ![0, 0, 0] (res_main_v72 V0) slices_S4x100000x7_S4x100000x1_0_0_0) shapeCasts_S4x100000x1_S4x100000) (mulf (broadcastInDim S4x100000 ![] bcast_S_S4x100000 (constant S_ .f32 0x3F000000#32)) (res_main_v139 V0))) (broadcastInDim S4x100000 ![0, 1] bcast_S1x100000_S4x100000_0_1 (broadcastInDim S1x100000 ![1] bcast_S100000_S1x100000_1 (addf (res_main_v2 V0) (mulf (broadcastInDim S100000 ![] bcast_S_S100000 (constant S_ .f32 0x3F000000#32)) (res_main_v9 V0)))))) (broadcastInDim S4x100000 ![0, 1] bcast_S1x100000_S4x100000_0_1 (broadcastInDim S1x100000 ![1] bcast_S100000_S1x100000_1 (res_main_v9 V0))) := by
  unfold val3_1
  simp only [ops_part3_0]
  after_results_simp
  simp only [val3_main_v9, val3_main_v13, val3_main_v139, val3_main_v147, val3_main_v146] <;> rfl

theorem val3_1_main_v170 (V0 : Bufs F) : val3_1 V0 (no_index (Proc.devRef .tc main_v170)) = Host.divf (subf (addf (shapeCast _ (extractStridedSlice S4x100000x1 ![0, 0, 1] (res_main_v72 V0) slices_S4x100000x7_S4x100000x1_0_0_1) shapeCasts_S4x100000x1_S4x100000) (mulf (broadcastInDim S4x100000 ![] bcast_S_S4x100000 (constant S_ .f32 0x3F000000#32)) (res_main_v144 V0))) (broadcastInDim S4x100000 ![0, 1] bcast_S1x100000_S4x100000_0_1 (broadcastInDim S1x100000 ![1] bcast_S100000_S1x100000_1 (addf (res_main_v4 V0) (mulf (broadcastInDim S100000 ![] bcast_S_S100000 (constant S_ .f32 0x3F000000#32)) (res_main_v10 V0)))))) (broadcastInDim S4x100000 ![0, 1] bcast_S1x100000_S4x100000_0_1 (broadcastInDim S1x100000 ![1] bcast_S100000_S1x100000_1 (res_main_v10 V0))) := by
  unfold val3_1
  simp only [ops_part3_0]
  after_results_simp
  simp only [val3_main_v10, val3_main_v16, val3_main_v144, val3_main_v72] <;> rfl

theorem val3_1_main_v174 (V0 : Bufs F) : val3_1 V0 (no_index (Proc.devRef .tc main_v174)) = Host.log (Host.divf (maximumf (res_main_v139 V0) (broadcastInDim S4x100000 ![] bcast_S_S4x100000 (constant S_ .f32 0x3F800000#32))) (broadcastInDim S4x100000 ![0, 1] bcast_S1x100000_S4x100000_0_1 (broadcastInDim S1x100000 ![1] bcast_S100000_S1x100000_1 (res_main_v9 V0)))) := by
  unfold val3_1
  simp only [ops_part3_0]
  after_results_simp
  simp only [val3_main_v9, val3_main_v139] <;> rfl

def val3_2 (V0 : Bufs F) : Bufs F := after ops_part3_1 (val3_1 V0)

abbrev ops_part3_1_W : List (Ref sig .tc) := [main_v175, main_v176, main_v177, main_v178, main_v179, main_v180, main_v181, main_v182, main_v183, main_v184, main_v185, main_v186, main_v187, main_v188, main_cst_33, main_v189, main_v190, main_v191, main_cst_34, main_v192, main_v193, main_cst_35, main_v194, main_v195, main_v196, main_v197, main_cst_36, main_call12_v0, main_call12_v1, main_call12_v2]

theorem ops_part3_1_writes : (ops_part3_1 : List (HloOp τ sig (Elt F))).Forall fun op => op.writes ⊆ (ops_part3_1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val3_2_keep (V0 : Bufs F) (r : Ref sig .tc) (h : r ∉ ops_part3_1_W) :
    val3_2 V0 (Proc.devRef .tc r) = val3_1 V0 (Proc.devRef .tc r) :=
  after_of_writes_sub ops_part3_1 _ ops_part3_1_writes h

theorem val3_2_main_arg0 (V0 : Bufs F) : val3_2 V0 (no_index (Proc.devRef .tc main_arg0)) = V0 (Proc.devRef .tc main_arg0) :=
  (val3_2_keep V0 main_arg0 (by decide)).trans (val3_1_main_arg0 V0)

theorem val3_2_main_arg1 (V0 : Bufs F) : val3_2 V0 (no_index (Proc.devRef .tc main_arg1)) = V0 (Proc.devRef .tc main_arg1) :=
  (val3_2_keep V0 main_arg1 (by decide)).trans (val3_1_main_arg1 V0)

theorem val3_2_main_arg2 (V0 : Bufs F) : val3_2 V0 (no_index (Proc.devRef .tc main_arg2)) = V0 (Proc.devRef .tc main_arg2) :=
  (val3_2_keep V0 main_arg2 (by decide)).trans (val3_1_main_arg2 V0)

theorem val3_2_main_arg3 (V0 : Bufs F) : val3_2 V0 (no_index (Proc.devRef .tc main_arg3)) = V0 (Proc.devRef .tc main_arg3) :=
  (val3_2_keep V0 main_arg3 (by decide)).trans (val3_1_main_arg3 V0)

theorem val3_2_main_arg4 (V0 : Bufs F) : val3_2 V0 (no_index (Proc.devRef .tc main_arg4)) = V0 (Proc.devRef .tc main_arg4) :=
  (val3_2_keep V0 main_arg4 (by decide)).trans (val3_1_main_arg4 V0)

theorem val3_2_main_v77 (V0 : Bufs F) : val3_2 V0 (no_index (Proc.devRef .tc main_v77)) = res_main_v77 V0 :=
  (val3_2_keep V0 main_v77 (by decide)).trans (val3_1_main_v77 V0)

theorem val3_2_main_v134 (V0 : Bufs F) : val3_2 V0 (no_index (Proc.devRef .tc main_v134)) = res_main_v134 V0 :=
  (val3_2_keep V0 main_v134 (by decide)).trans (val3_1_main_v134 V0)

theorem val3_2_main_v196 (V0 : Bufs F) : val3_2 V0 (no_index (Proc.devRef .tc main_v196)) = select (cmpf .ole (res_main_v188 V0) (broadcastInDim S4x100000x4 ![] bcast_S_S4x100000x4 (constant S_ .f32 0x3DE38E39#32))) (mulf (broadcastInDim S4x100000x4 ![] bcast_S_S4x100000x4 (constant S_ .f32 0x40900000#32)) (mulf (res_main_v188 V0) (res_main_v188 V0))) (subf (res_main_v188 V0) (broadcastInDim S4x100000x4 ![] bcast_S_S4x100000x4 (constant S_ .f32 0x3D638E39#32))) := by
  unfold val3_2
  simp only [ops_part3_1, TRef.ternary, TRef.unary, TRef.toBuf, TRef.ofBuf, cast_eq]
  after_results_simp
  try dsimp only [Matrix.cons_val]
  try after_results_simp
  simp only [val3_1_main_arg1, val3_1_main_cst, val3_1_main_v10, val3_1_main_v158, val3_1_main_v174, val3_1_main_v170, val3_1_main_v164] <;> rfl

theorem val3_2_main_call12_v1 (V0 : Bufs F) : val3_2 V0 (no_index (Proc.devRef .tc main_call12_v1)) = broadcastInDim S4x100000x4 ![0, 1, 2] bcast_S4x100000x1_S4x100000x4_0_1_2 (broadcastInDim S4x100000x1 ![0, 1] bcast_S4x100000_S4x100000x1_0_1 (res_main_v74 V0)) := by
  unfold val3_2
  simp only [ops_part3_1, TRef.ternary, TRef.unary, TRef.toBuf, TRef.ofBuf, cast_eq]
  after_results_simp
  try dsimp only [Matrix.cons_val]
  try after_results_simp
  simp only [val3_1_main_v74] <;> rfl

theorem val3_2_main_call12_v2 (V0 : Bufs F) : val3_2 V0 (no_index (Proc.devRef .tc main_call12_v2)) = broadcastInDim S4x100000x4 ![] bcast_S_S4x100000x4 (id (constant S_ .f32 0x00000000#32)) := by
  unfold val3_2
  simp only [ops_part3_1, TRef.ternary, TRef.unary, TRef.toBuf, TRef.ofBuf, cast_eq]
  after_results_simp
  try dsimp only [Matrix.cons_val]
  try after_results_simp
  all_goals rfl

def val4 (V0 : Bufs F) : Bufs F := after ops_part3_2 (val3_2 V0)

abbrev ops_part3_2_W : List (Ref sig .tc) := [main_v198, main_cst_37, main_v199]

theorem ops_part3_2_writes : (ops_part3_2 : List (HloOp τ sig (Elt F))).Forall fun op => op.writes ⊆ (ops_part3_2_W.map (Proc.devRef (τ := τ) .tc)).toFinset := by
  simp only [List.Forall]
  refine ⟨?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val4_keep (V0 : Bufs F) (r : Ref sig .tc) (h : r ∉ ops_part3_2_W) :
    val4 V0 (Proc.devRef .tc r) = val3_2 V0 (Proc.devRef .tc r) :=
  after_of_writes_sub ops_part3_2 _ ops_part3_2_writes h

theorem val4_main_arg0 (V0 : Bufs F) : val4 V0 (no_index (Proc.devRef .tc main_arg0)) = V0 (Proc.devRef .tc main_arg0) :=
  (val4_keep V0 main_arg0 (by decide)).trans (val3_2_main_arg0 V0)

theorem val4_main_arg1 (V0 : Bufs F) : val4 V0 (no_index (Proc.devRef .tc main_arg1)) = V0 (Proc.devRef .tc main_arg1) :=
  (val4_keep V0 main_arg1 (by decide)).trans (val3_2_main_arg1 V0)

theorem val4_main_arg2 (V0 : Bufs F) : val4 V0 (no_index (Proc.devRef .tc main_arg2)) = V0 (Proc.devRef .tc main_arg2) :=
  (val4_keep V0 main_arg2 (by decide)).trans (val3_2_main_arg2 V0)

theorem val4_main_arg3 (V0 : Bufs F) : val4 V0 (no_index (Proc.devRef .tc main_arg3)) = V0 (Proc.devRef .tc main_arg3) :=
  (val4_keep V0 main_arg3 (by decide)).trans (val3_2_main_arg3 V0)

theorem val4_main_arg4 (V0 : Bufs F) : val4 V0 (no_index (Proc.devRef .tc main_arg4)) = V0 (Proc.devRef .tc main_arg4) :=
  (val4_keep V0 main_arg4 (by decide)).trans (val3_2_main_arg4 V0)

theorem val4_main_v77 (V0 : Bufs F) : val4 V0 (no_index (Proc.devRef .tc main_v77)) = res_main_v77 V0 :=
  (val4_keep V0 main_v77 (by decide)).trans (val3_2_main_v77 V0)

theorem val4_main_v134 (V0 : Bufs F) : val4 V0 (no_index (Proc.devRef .tc main_v134)) = res_main_v134 V0 :=
  (val4_keep V0 main_v134 (by decide)).trans (val3_2_main_v134 V0)

theorem val4_main_v198 (V0 : Bufs F) : val4 V0 (no_index (Proc.devRef .tc main_v198)) = select (broadcastInDim S4x100000x4 ![0, 1, 2] bcast_S4x100000x1_S4x100000x4_0_1_2 (broadcastInDim S4x100000x1 ![0, 1] bcast_S4x100000_S4x100000x1_0_1 (res_main_v74 V0))) (select (cmpf .ole (res_main_v188 V0) (broadcastInDim S4x100000x4 ![] bcast_S_S4x100000x4 (constant S_ .f32 0x3DE38E39#32))) (mulf (broadcastInDim S4x100000x4 ![] bcast_S_S4x100000x4 (constant S_ .f32 0x40900000#32)) (mulf (res_main_v188 V0) (res_main_v188 V0))) (subf (res_main_v188 V0) (broadcastInDim S4x100000x4 ![] bcast_S_S4x100000x4 (constant S_ .f32 0x3D638E39#32)))) (broadcastInDim S4x100000x4 ![] bcast_S_S4x100000x4 (id (constant S_ .f32 0x00000000#32))) := by
  unfold val4
  simp only [ops_part3_2, TRef.ternary, TRef.toBuf, TRef.ofBuf, cast_eq]
  after_results_simp
  simp only [val3_2_main_call12_v2, val3_2_main_v196, val3_2_main_call12_v1] <;> rfl

theorem val4_main_v199 (V0 : Bufs F) : val4 V0 (no_index (Proc.devRef .tc main_v199)) = broadcastInDim S4 ![] bcast_S_S4 (constant S_ .f32 0x00000000#32) := by
  unfold val4
  simp only [ops_part3_2, TRef.ternary, TRef.toBuf, TRef.ofBuf, cast_eq]
  after_results_simp
  all_goals rfl

def val5 (V0 : Bufs F) : Bufs F := after ops_part4 (val4 V0)

abbrev ops_part4_W : List (Ref sig .tc) := [main_v200, main_cst_38, main_v201, main_cst_39, main_v202, main_v203, main_cst_40, main_v204, main_v205, main_v206, main_cst_41, main_call13_v0, main_call13_v1, main_v207, main_v208, main_call14_cst, main_call14_v0, main_call14_v1, main_call14_v2, main_call14_v3, main_call14_v4, main_call14_v5, main_call14_v6, main_call14_v7, main_call14_v8, main_call14_v9, main_call14_v10, main_call14_v11, main_v209, main_cst_42, main_v210, main_cst_43, main_v211, main_v212, main_cst_44, main_v213, main_v214, main_cst_45, main_v215, main_v216, main_cst_46, main_v217, main_v218, main_cst_47, main_v219, main_v220, main_cst_48, main_v221, main_v222, main_cst_49, main_v223, main_v224]

theorem ops_part4_writes : (ops_part4 : List (HloOp τ sig (Elt F))).Forall fun op => op.writes ⊆ (ops_part4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val5_keep (V0 : Bufs F) (r : Ref sig .tc) (h : r ∉ ops_part4_W) :
    val5 V0 (Proc.devRef .tc r) = val4 V0 (Proc.devRef .tc r) :=
  after_of_writes_sub ops_part4 _ ops_part4_writes h

theorem val5_main_arg0 (V0 : Bufs F) : val5 V0 (no_index (Proc.devRef .tc main_arg0)) = V0 (Proc.devRef .tc main_arg0) :=
  (val5_keep V0 main_arg0 (by decide)).trans (val4_main_arg0 V0)

theorem val5_main_arg1 (V0 : Bufs F) : val5 V0 (no_index (Proc.devRef .tc main_arg1)) = V0 (Proc.devRef .tc main_arg1) :=
  (val5_keep V0 main_arg1 (by decide)).trans (val4_main_arg1 V0)

theorem val5_main_arg2 (V0 : Bufs F) : val5 V0 (no_index (Proc.devRef .tc main_arg2)) = V0 (Proc.devRef .tc main_arg2) :=
  (val5_keep V0 main_arg2 (by decide)).trans (val4_main_arg2 V0)

theorem val5_main_arg3 (V0 : Bufs F) : val5 V0 (no_index (Proc.devRef .tc main_arg3)) = V0 (Proc.devRef .tc main_arg3) :=
  (val5_keep V0 main_arg3 (by decide)).trans (val4_main_arg3 V0)

theorem val5_main_arg4 (V0 : Bufs F) : val5 V0 (no_index (Proc.devRef .tc main_arg4)) = V0 (Proc.devRef .tc main_arg4) :=
  (val5_keep V0 main_arg4 (by decide)).trans (val4_main_arg4 V0)

theorem val5_main_v216 (V0 : Bufs F) : val5 V0 (no_index (Proc.devRef .tc main_v216)) = res_main_v216 V0 := by
  unfold val5
  simp only [ops_part4, TRef.binary, TRef.nullary, TRef.ternary, TRef.unary, TRef.toBuf, TRef.ofBuf, cast_eq]
  after_results_simp
  simp only [val4_main_v134] <;> rfl

theorem val5_main_v220 (V0 : Bufs F) : val5 V0 (no_index (Proc.devRef .tc main_v220)) = res_main_v220 V0 := by
  unfold val5
  simp only [ops_part4, TRef.binary, TRef.nullary, TRef.ternary, TRef.unary, TRef.toBuf, TRef.ofBuf, cast_eq]
  after_results_simp
  simp only [val4_main_v77, val4_main_v198, val4_main_v199] <;> rfl

theorem val5_main_v224 (V0 : Bufs F) : val5 V0 (no_index (Proc.devRef .tc main_v224)) = res_main_v224 V0 := by
  unfold val5
  simp only [ops_part4, TRef.binary, TRef.nullary, TRef.ternary, TRef.unary, TRef.toBuf, TRef.ofBuf, cast_eq]
  after_results_simp
  simp only [val4_main_arg3] <;> rfl

end Cert.ReferenceIdeal.Value

end
-- ==== Proof.Ref.Run.lean ====
/- The reference program: every run ends with the results at their terms and the arguments unchanged. -/
module

public import proofs.«01_k».proof.Proof.Ref.Read3

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The list of operations carries the launch contents to the last contents named above. -/
theorem after_ops (V0 : Bufs F) : after ops V0 = val5 V0 := by
  simp only [ops, ops_part0, ops_part1, ops_part2, ops_part3, after_append]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v216) = res_main_v216 (launchContents m c)
      ∧ r.2.mem ((c.tc : Thread nD τ).loc main_v220) = res_main_v220 (launchContents m c)
      ∧ r.2.mem ((c.tc : Thread nD τ).loc main_v224) = res_main_v224 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v216).trans ((congrFun (after_ops (launchContents m c)) (Proc.devRef .tc main_v216)).trans (val5_main_v216 (launchContents m c))),
      (h c main_v220).trans ((congrFun (after_ops (launchContents m c)) (Proc.devRef .tc main_v220)).trans (val5_main_v220 (launchContents m c))),
      (h c main_v224).trans ((congrFun (after_ops (launchContents m c)) (Proc.devRef .tc main_v224)).trans (val5_main_v224 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c))),
      (h c main_arg4).trans ((congrFun (after_ops (launchContents m c)) (Proc.devRef .tc main_arg4)).trans (val5_main_arg4 (launchContents m c)))⟩)
    (run_seq scopedRefs_eq scopedSems_eq defs main (fun _ => ops) main_eq (fun _ => ops_sub) m ρ fun _ => ops_fresh)

/-- The same run, stated with every semaphore counter at zero: the program has no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2.2, sem_eq_zero_of_no_sems rfl r.2⟩) (run m ρ)

end Cert.ReferenceIdeal.Value

end
-- ==== Proof.KernelIdeal.Assign.lean ====
/- The assignment call of the kernel at the ideal instance: its body run at every grid point, and what it leaves in its two outputs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := k0_cond1 i = 1#1
/-- The first branch is taken at the first point of an image. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ 1 ≤ t.val % 4 :=
  (by decide +kernel : ∀ t : Fin grid0.N, cond0_1 (grid0.coords t) ↔ 1 ≤ t.val % 4)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The points before which the sums block holds nothing yet. -/
def freshTab0_4 : ℕ → Bool
  | 0 => true
  | n + 1 => (0x8888 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
theorem liveAt0_4_A : ∀ t : Fin cfg0.N, cond0_0 (grid0.coords t) → ¬cond0_1 (grid0.coords t) → cfg0.idle 4 (grid0.coords t) = false := by decide +kernel
theorem liveAt0_4_B : ∀ t : Fin cfg0.N, ¬cond0_0 (grid0.coords t) → cond0_1 (grid0.coords t) → cfg0.idle 4 (grid0.coords t) = false := by decide +kernel
theorem notFresh0_4_B : ∀ t : Fin cfg0.N, ¬cond0_0 (grid0.coords t) → cond0_1 (grid0.coords t) → cfg0.fresh 4 t.val = false := by
  intro t; rw [fresh0_4_eq t]; revert t; decide +kernel

abbrev VO0_3 : View sig .tc .vmem S1x2x1x200x128 .f32 := (Memref.whole cc0_stg3_0 : Memref sig .tc .vmem S1x2x1x200x128 .f32).view
abbrev VO0_4 : View sig .tc .vmem S1x8x128 .f32 := (Memref.whole cc0_stg4_0 : Memref sig .tc .vmem S1x8x128 .f32).view
abbrev ms0_0 (t : Fin cfg0.N) : Memref sig .tc .smem S4x32x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1x200x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x1x200x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x1x200x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

set_option maxHeartbeats 2280000 in
/-- The run of the assignment body at the first point of an image: what its stores leave in the two output blocks, with the proof that it runs. -/
noncomputable def kernelRun0_A (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : cond0_0 i) (hc1 : ¬cond0_1 i)
    (x0 : Vec F S4x32x8 .f32) (x1 : Vec F S4x1x200x128 .f32) (x2 : Vec F S1x4x1x200x128 .f32) :
    Σ' (L3 : List (View.Piece (Elt F) S1x2x1x200x128 .f32)), { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__assign_body i arg2 harg2 arg3 harg3 arg4 harg4 arg5 harg5 arg6 harg6) K } := by
  refine ⟨?_, ?_, fun E K => ?run⟩
  case run =>
    simp only [cc0__assign_body_eq_skeleton]; unfold cc0__assign_body_skel
    simp only [k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

theorem cover0_A_3 (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : cond0_0 i) (hc1 : ¬cond0_1 i)
    (x0 : Vec F S4x32x8 .f32) (x1 : Vec F S4x1x200x128 .f32) (x2 : Vec F S1x4x1x200x128 .f32) (y : S1x2x1x200x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1x1x1x200x128.size (by sl_kernel_rfl) y

def out0_A_3 (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : cond0_0 i) (hc1 : ¬cond0_1 i)
    (x0 : Vec F S4x32x8 .f32) (x1 : Vec F S4x1x200x128 .f32) (x2 : Vec F S1x4x1x200x128 .f32) : Vec F S1x2x1x200x128 .f32 :=
  VO0_3.read (Elt F) (VO0_3.writes (Elt F) VO0_3.junk (kernelRun0_A c i arg2 harg2 arg3 harg3 arg4 harg4 arg5 harg5 arg6 harg6 hc0 hc1 x0 x1 x2).1)

theorem cover0_A_4 (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : cond0_0 i) (hc1 : ¬cond0_1 i)
    (x0 : Vec F S4x32x8 .f32) (x1 : Vec F S4x1x200x128 .f32) (x2 : Vec F S1x4x1x200x128 .f32) (y : S1x8x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x8x128.size (by sl_kernel_rfl) y

def out0_A_4 (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : cond0_0 i) (hc1 : ¬cond0_1 i)
    (x0 : Vec F S4x32x8 .f32) (x1 : Vec F S4x1x200x128 .f32) (x2 : Vec F S1x4x1x200x128 .f32) : Vec F S1x8x128 .f32 :=
  VO0_4.read (Elt F) (VO0_4.writes (Elt F) VO0_4.junk (kernelRun0_A c i arg2 harg2 arg3 harg3 arg4 harg4 arg5 harg5 arg6 harg6 hc0 hc1 x0 x1 x2).2.1)

set_option maxHeartbeats 2276000 in
/-- The run of the assignment body at a later point of an image, where the second output block is added to. -/
noncomputable def kernelRun0_B (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : ¬cond0_0 i) (hc1 : cond0_1 i)
    (x0 : Vec F S4x32x8 .f32) (x1 : Vec F S4x1x200x128 .f32) (x2 : Vec F S1x4x1x200x128 .f32) (xo4 : Vec F S1x8x128 .f32) :
    Σ' (L3 : List (View.Piece (Elt F) S1x2x1x200x128 .f32)), { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__assign_body i arg2 harg2 arg3 harg3 arg4 harg4 arg5 harg5 arg6 harg6) K } := by
  refine ⟨?_, ?_, fun E K => ?run⟩
  case run =>
    simp only [cc0__assign_body_eq_skeleton]; unfold cc0__assign_body_skel
    simp only [k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

theorem cover0_B_3 (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : ¬cond0_0 i) (hc1 : cond0_1 i)
    (x0 : Vec F S4x32x8 .f32) (x1 : Vec F S4x1x200x128 .f32) (x2 : Vec F S1x4x1x200x128 .f32) (xo4 : Vec F S1x8x128 .f32) (y : S1x2x1x200x128.Idx) :
    ∃ pc ∈ (kernelRun0_B c i arg2 harg2 arg3 harg3 arg4 harg4 arg5 harg5 arg6 harg6 hc0 hc1 x0 x1 x2 xo4).1, y ∈ pc.1.set :=
  View.cover_of_tiledL (kernelRun0_B c i arg2 harg2 arg3 harg3 arg4 harg4 arg5 harg5 arg6 harg6 hc0 hc1 x0 x1 x2 xo4).1 S1x1x1x200x128.size (by sl_kernel_rfl) y

def out0_B_3 (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : ¬cond0_0 i) (hc1 : cond0_1 i)
    (x0 : Vec F S4x32x8 .f32) (x1 : Vec F S4x1x200x128 .f32) (x2 : Vec F S1x4x1x200x128 .f32) (xo4 : Vec F S1x8x128 .f32) : Vec F S1x2x1x200x128 .f32 :=
  VO0_3.read (Elt F) (VO0_3.writes (Elt F) VO0_3.junk (kernelRun0_B c i arg2 harg2 arg3 harg3 arg4 harg4 arg5 harg5 arg6 harg6 hc0 hc1 x0 x1 x2 xo4).1)

theorem cover0_B_4 (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : ¬cond0_0 i) (hc1 : cond0_1 i)
    (x0 : Vec F S4x32x8 .f32) (x1 : Vec F S4x1x200x128 .f32) (x2 : Vec F S1x4x1x200x128 .f32) (xo4 : Vec F S1x8x128 .f32) (y : S1x8x128.Idx) :
    ∃ pc ∈ (kernelRun0_B c i arg2 harg2 arg3 harg3 arg4 harg4 arg5 harg5 arg6 harg6 hc0 hc1 x0 x1 x2 xo4).2.1, y ∈ pc.1.set :=
  View.cover_of_tiledL (kernelRun0_B c i arg2 harg2 arg3 harg3 arg4 harg4 arg5 harg5 arg6 harg6 hc0 hc1 x0 x1 x2 xo4).2.1 S1x8x128.size (by sl_kernel_rfl) y

def out0_B_4 (c : Dev nD) (i : grid0.Coords) (arg2 : Memref sig .tc .smem S4x32x8 .f32) (harg2 : arg2.IsWhole) (arg3 : Memref sig .tc .vmem S4x1x200x128 .f32) (harg3 : arg3.IsWhole) (arg4 : Memref sig .tc .vmem S1x4x1x200x128 .f32) (harg4 : arg4.IsWhole) (arg5 : Memref sig .tc .vmem S1x2x1x200x128 .f32) (harg5 : arg5.IsWhole) (arg6 : Memref sig .tc .vmem S1x8x128 .f32) (harg6 : arg6.IsWhole) (hc0 : ¬cond0_0 i) (hc1 : cond0_1 i)
    (x0 : Vec F S4x32x8 .f32) (x1 : Vec F S4x1x200x128 .f32) (x2 : Vec F S1x4x1x200x128 .f32) (xo4 : Vec F S1x8x128 .f32) : Vec F S1x8x128 .f32 :=
  VO0_4.read (Elt F) (VO0_4.writes (Elt F) VO0_4.junk (kernelRun0_B c i arg2 harg2 arg3 harg3 arg4 harg4 arg5 harg5 arg6 harg6 hc0 hc1 x0 x1 x2 xo4).2.1)

/-- What the two output blocks of the assignment call hold after each point. -/
def outsAt0 (c : Dev nD) : (n : ℕ) → n < cfg0.N → Vec F S1x2x1x200x128 .f32 × Vec F S1x8x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : 1 ≤ (n + 1) % 4 then
        False.elim (by have hN : n + 1 < 16 := lt_of_lt_of_eq hn (show cfg0.N = 16 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : 1 ≤ (n + 1) % 4 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by have hN : n + 1 < 16 := lt_of_lt_of_eq hn (show cfg0.N = 16 from N_0); omega)

theorem outsAt0_A (c : Dev nD) (t : Fin cfg0.N) (h0 : t.val % 4 = 0) (h1 : ¬1 ≤ t.val % 4) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : 1 ≤ t.val % 4) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The proof data of the assignment call. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  have hN : t.val < 16 := lt_of_lt_of_eq t.isLt (show cfg0.N = 16 from N_0)
  rw [after0_4, after0_4]
  by_cases h0 : t.val % 4 = 0
  · by_cases h1 : 1 ≤ t.val % 4
    · exfalso; omega
    · rw [liveAt0_4_A t ((hcond0_0 t).mpr h0) (fun h => h1 ((hcond0_1 t).mp h))] at hi
      exact absurd hi Bool.false_ne_true
  · by_cases h1 : 1 ≤ t.val % 4
    · rw [liveAt0_4_B t (fun h => h0 ((hcond0_0 t).mp h)) ((hcond0_1 t).mpr h1)] at hi
      exact absurd hi Bool.false_ne_true
    · exfalso; omega
theorem before0_4_B (c : Dev nD) (t : Fin cfg0.N) (h0 : ¬t.val % 4 = 0) (h1 : 1 ≤ t.val % 4) (d) :
    (dat0 V c).before 4 t d = (outsAt0 V c (t.val - 1) (Nat.lt_of_le_of_lt (Nat.sub_le _ _) t.isLt)).2 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The assignment body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 16 := lt_of_lt_of_eq t.isLt (show cfg0.N = 16 from N_0)
  by_cases h0 : t.val % 4 = 0
  · by_cases h1 : 1 ≤ t.val % 4
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_A t ((hcond0_0 t).mpr h0) (fun h => h1 ((hcond0_1 t).mp h))], after0_4]
      rw [outsAt0_A V c t h0 h1]
      unfold out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _)
  · by_cases h1 : 1 ≤ t.val % 4
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_B t (fun h => h0 ((hcond0_0 t).mp h)) ((hcond0_1 t).mpr h1)], after0_4]
      rw [outsAt0_B V c t h0 h1]
      simp only [before0_4_B V c t h0 h1]
      unfold out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _)
    · exfalso; omega

theorem defs₀_row0 (t : Fin cfg0.N) :
    defs₀ (F := F) .tc cfg0.body (cfg0.bodyArgs t (cfg0.slots t)) = bodyAt0 t := by
  unfold defs₀; rw [Defs.onTc_tc]

/-- The obligation of the assignment call. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdeal.Focal.lean ====
/- The focal call of the kernel at the ideal instance: its body run at every grid point, and what it leaves in its output. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
def dflt1_2 : (cfg1.win 2).block.Idx → Elt F (cfg1.win 2).elt := fun _ => Classical.choice inferInstance
/-- The whole block of the weights-and-ids window, which is never cut. -/
def X1_2 (c : Dev nD) (t : Fin cfg1.N) : (cfg1.win 2).block.Idx → Elt F (cfg1.win 2).elt :=
  (cfg1.win 2).fill (cfg1.grid.coords t) dflt1_2 (iblk1 V c 2 t)
theorem xsize1_2 : ∀ t : Fin cfg1.N, ∀ a, (cfg1.win 2).xsize (cfg1.grid.coords t) a = (cfg1.win 2).size a := by decide +kernel
theorem moved1_2 (t : Fin cfg1.N) (j : (cfg1.win 2).block.Idx) : (cfg1.win 2).moved (cfg1.grid.coords t) j = true :=
  ((cfg1.win 2).moved_iff _ j).mpr fun a => by rw [xsize1_2 t a]; exact (j a).isLt
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved1_2 t j), dif_pos (moved1_2 t j)]
theorem before1_2_of {c : Dev nD} (dat : Dat τ (Elt F) Unit ℕ (UR sig nD τ) ℕ cfg1 c) (hA : dat.A 2 = V c (Pipeline.arrRef spec1 2))
    (hafter : ∀ t, dat.after 2 t = X1_2 V c t) (t : Fin cfg1.N) (d) : dat.before 2 t d = X1_2 V c t :=
  (dat.before_in_eq_fetched 2 rfl (fun _ => rfl)
      (fun t t' h => funext fun a => congrArg (fun n => Pipeline.Clip.of n ((cfg1.win 2).size a) (S4x102400x2.size a)) (congrFun h a))
      (fun t => by rw [hafter]; unfold X1_2; rw [Pipeline.Window.cut_fill]; unfold Dat.blockOf iblk1; rw [hA]; try rfl) t d).trans
    (by unfold Dat.fetched X1_2; rw [fill1_2 t d dflt1_2]; unfold Dat.blockOf iblk1; rw [hA]; try rfl)

abbrev cond1_0 (i : grid1.Coords) : Prop := k1_cond1 i = 1#1
/-- The first branch is taken at the first point of an image. -/
theorem hcond1_0 : ∀ t : Fin cfg1.N, cond1_0 (grid1.coords t) ↔ t.val % 10 = 0 :=
  (fun t => by
    have ht : t.val < 40 := Nat.lt_of_lt_of_eq t.isLt N_1
    have e0 : (grid1.coords t 0).val = t.val / 10 % 4 := Pipeline.Grid.coords_val t 0 (by decide) rfl
    have e1 : (grid1.coords t 1).val = t.val / 1 % 10 := Pipeline.Grid.coords_val t 1 (by decide) rfl
    simp only [cond1_0, k1_cond1, e0, e1]
    word_cmp
   : ∀ t : Fin grid1.N, cond1_0 (grid1.coords t) ↔ t.val % 10 = 0)

abbrev cond1_1 (i : grid1.Coords) : Prop := k1_cond2 i = 1#1
theorem hcond1_1 : ∀ t : Fin cfg1.N, cond1_1 (grid1.coords t) ↔ 1 ≤ t.val % 10 :=
  (by decide +kernel : ∀ t : Fin grid1.N, cond1_1 (grid1.coords t) ↔ 1 ≤ t.val % 10)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The points before which the sums block holds nothing yet. -/
def freshTab1_3 : ℕ → Bool
  | 0 => true
  | n + 1 => (0x8020080200 : ℕ).testBit n
theorem freshTab1_3_step : ∀ t : Fin cfg1.N,
    freshTab1_3 (t.val + 1) = ((cfg1.win 3).flush t || (cfg1.idle 3 (cfg1.grid.coords t) && freshTab1_3 t.val)) := by decide +kernel
theorem fresh1_3_eq (t : Fin cfg1.N) : cfg1.fresh 3 t.val = freshTab1_3 t.val :=
  Pipeline.Cfg.fresh_tab cfg1 3 freshTab1_3 rfl freshTab1_3_step t.val (Nat.le_of_lt t.isLt)
theorem liveAt1_3_A : ∀ t : Fin cfg1.N, cond1_0 (grid1.coords t) → ¬cond1_1 (grid1.coords t) → cfg1.idle 3 (grid1.coords t) = false := by decide +kernel
theorem liveAt1_3_B : ∀ t : Fin cfg1.N, ¬cond1_0 (grid1.coords t) → cond1_1 (grid1.coords t) → cfg1.idle 3 (grid1.coords t) = false := by decide +kernel
theorem notFresh1_3_B : ∀ t : Fin cfg1.N, ¬cond1_0 (grid1.coords t) → cond1_1 (grid1.coords t) → cfg1.fresh 3 t.val = false := by
  intro t; rw [fresh1_3_eq t]; revert t; decide +kernel

abbrev VO1_3 : View sig .tc .vmem S1x8x128 .f32 := (Memref.whole cc1_stg3_0 : Memref sig .tc .vmem S1x8x128 .f32).view
abbrev ms1_0 (t : Fin cfg1.N) : Memref sig .tc .vmem S1x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x10000x80 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10000x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x128 .f32 := win1_3.stage (cfg1.slots t 3)
abbrev hs1_3 (t : Fin cfg1.N) : (ms1_3 t).IsWhole := hstage1_3 ((cfg1.slots t 3).cast nbuf1_3)

set_option maxHeartbeats 1000000 in
/-- The run of the focal body at the first point of an image. -/
noncomputable def kernelRun1_A (c : Dev nD) (i : grid1.Coords) (arg2 : Memref sig .tc .vmem S1x128 .f32) (harg2 : arg2.IsWhole) (arg3 : Memref sig .tc .vmem S1x10000x80 .f32) (harg3 : arg3.IsWhole) (arg4 : Memref sig .tc .vmem S1x10000x2 .f32) (harg4 : arg4.IsWhole) (arg5 : Memref sig .tc .vmem S1x8x128 .f32) (harg5 : arg5.IsWhole) (hc0 : cond1_0 i) (hc1 : ¬cond1_1 i)
    (x0 : Vec F S1x128 .f32) (x1 : Vec F S1x10000x80 .f32) (x2 : Vec F S1x10000x2 .f32) :
    { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__focal_body i arg2 harg2 arg3 harg3 arg4 harg4 arg5 harg5) K } := by
  refine ⟨?_, fun E K => ?run⟩
  case run =>
    simp only [cc1__focal_body_eq_skeleton]; unfold cc1__focal_body_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

theorem cover1_A_3 (c : Dev nD) (i : grid1.Coords) (arg2 : Memref sig .tc .vmem S1x128 .f32) (harg2 : arg2.IsWhole) (arg3 : Memref sig .tc .vmem S1x10000x80 .f32) (harg3 : arg3.IsWhole) (arg4 : Memref sig .tc .vmem S1x10000x2 .f32) (harg4 : arg4.IsWhole) (arg5 : Memref sig .tc .vmem S1x8x128 .f32) (harg5 : arg5.IsWhole) (hc0 : cond1_0 i) (hc1 : ¬cond1_1 i)
    (x0 : Vec F S1x128 .f32) (x1 : Vec F S1x10000x80 .f32) (x2 : Vec F S1x10000x2 .f32) (y : S1x8x128.Idx) :
    ∃ pc ∈ (kernelRun1_A c i arg2 harg2 arg3 harg3 arg4 harg4 arg5 harg5 hc0 hc1 x0 x1 x2).1, y ∈ pc.1.set :=
  View.cover_of_tiledL (kernelRun1_A c i arg2 harg2 arg3 harg3 arg4 harg4 arg5 harg5 hc0 hc1 x0 x1 x2).1 S1x8x128.size (by sl_kernel_rfl) y

def out1_A_3 (c : Dev nD) (i : grid1.Coords) (arg2 : Memref sig .tc .vmem S1x128 .f32) (harg2 : arg2.IsWhole) (arg3 : Memref sig .tc .vmem S1x10000x80 .f32) (harg3 : arg3.IsWhole) (arg4 : Memref sig .tc .vmem S1x10000x2 .f32) (harg4 : arg4.IsWhole) (arg5 : Memref sig .tc .vmem S1x8x128 .f32) (harg5 : arg5.IsWhole) (hc0 : cond1_0 i) (hc1 : ¬cond1_1 i)
    (x0 : Vec F S1x128 .f32) (x1 : Vec F S1x10000x80 .f32) (x2 : Vec F S1x10000x2 .f32) : Vec F S1x8x128 .f32 :=
  VO1_3.read (Elt F) (VO1_3.writes (Elt F) VO1_3.junk (kernelRun1_A c i arg2 harg2 arg3 harg3 arg4 harg4 arg5 harg5 hc0 hc1 x0 x1 x2).1)

set_option maxHeartbeats 1000000 in
/-- The run of the focal body at a later point of an image, where the output block is added to. -/
noncomputable def kernelRun1_B (c : Dev nD) (i : grid1.Coords) (arg2 : Memref sig .tc .vmem S1x128 .f32) (harg2 : arg2.IsWhole) (arg3 : Memref sig .tc .vmem S1x10000x80 .f32) (harg3 : arg3.IsWhole) (arg4 : Memref sig .tc .vmem S1x10000x2 .f32) (harg4 : arg4.IsWhole) (arg5 : Memref sig .tc .vmem S1x8x128 .f32) (harg5 : arg5.IsWhole) (hc0 : ¬cond1_0 i) (hc1 : cond1_1 i)
    (x0 : Vec F S1x128 .f32) (x1 : Vec F S1x10000x80 .f32) (x2 : Vec F S1x10000x2 .f32) (xo3 : Vec F S1x8x128 .f32) :
    { L3 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__focal_body i arg2 harg2 arg3 harg3 arg4 harg4 arg5 harg5) K } := by
  refine ⟨?_, fun E K => ?run⟩
  case run =>
    simp only [cc1__focal_body_eq_skeleton]; unfold cc1__focal_body_skel
    simp only [k1_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

theorem cover1_B_3 (c : Dev nD) (i : grid1.Coords) (arg2 : Memref sig .tc .vmem S1x128 .f32) (harg2 : arg2.IsWhole) (arg3 : Memref sig .tc .vmem S1x10000x80 .f32) (harg3 : arg3.IsWhole) (arg4 : Memref sig .tc .vmem S1x10000x2 .f32) (harg4 : arg4.IsWhole) (arg5 : Memref sig .tc .vmem S1x8x128 .f32) (harg5 : arg5.IsWhole) (hc0 : ¬cond1_0 i) (hc1 : cond1_1 i)
    (x0 : Vec F S1x128 .f32) (x1 : Vec F S1x10000x80 .f32) (x2 : Vec F S1x10000x2 .f32) (xo3 : Vec F S1x8x128 .f32) (y : S1x8x128.Idx) :
    ∃ pc ∈ (kernelRun1_B c i arg2 harg2 arg3 harg3 arg4 harg4 arg5 harg5 hc0 hc1 x0 x1 x2 xo3).1, y ∈ pc.1.set :=
  View.cover_of_tiledL (kernelRun1_B c i arg2 harg2 arg3 harg3 arg4 harg4 arg5 harg5 hc0 hc1 x0 x1 x2 xo3).1 S1x8x128.size (by sl_kernel_rfl) y

def out1_B_3 (c : Dev nD) (i : grid1.Coords) (arg2 : Memref sig .tc .vmem S1x128 .f32) (harg2 : arg2.IsWhole) (arg3 : Memref sig .tc .vmem S1x10000x80 .f32) (harg3 : arg3.IsWhole) (arg4 : Memref sig .tc .vmem S1x10000x2 .f32) (harg4 : arg4.IsWhole) (arg5 : Memref sig .tc .vmem S1x8x128 .f32) (harg5 : arg5.IsWhole) (hc0 : ¬cond1_0 i) (hc1 : cond1_1 i)
    (x0 : Vec F S1x128 .f32) (x1 : Vec F S1x10000x80 .f32) (x2 : Vec F S1x10000x2 .f32) (xo3 : Vec F S1x8x128 .f32) : Vec F S1x8x128 .f32 :=
  VO1_3.read (Elt F) (VO1_3.writes (Elt F) VO1_3.junk (kernelRun1_B c i arg2 harg2 arg3 harg3 arg4 harg4 arg5 harg5 hc0 hc1 x0 x1 x2 xo3).1)

/-- What the output block of the focal call holds after each point. -/
def outsAt1 (c : Dev nD) : (n : ℕ) → n < cfg1.N → Vec F S1x8x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (X1_2 V c ⟨0, hn⟩)
  | n + 1, hn =>
    if h0 : (n + 1) % 10 = 0 then
      if h1 : 1 ≤ (n + 1) % 10 then
        False.elim (by have hN : n + 1 < 40 := lt_of_lt_of_eq hn (show cfg1.N = 40 from N_1); omega)
      else
        out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (X1_2 V c ⟨n + 1, hn⟩)
    else
      if h1 : 1 ≤ (n + 1) % 10 then
        out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (X1_2 V c ⟨n + 1, hn⟩) (outsAt1 c n (Nat.lt_of_succ_lt hn))
      else
        False.elim (by have hN : n + 1 < 40 := lt_of_lt_of_eq hn (show cfg1.N = 40 from N_1); omega)

theorem outsAt1_A (c : Dev nD) (t : Fin cfg1.N) (h0 : t.val % 10 = 0) (h1 : ¬1 ≤ t.val % 10) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (fun h => h1 ((hcond1_1 t).mp h)) (iblk1 V c 0 t) (iblk1 V c 1 t) (X1_2 V c t) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : 1 ≤ t.val % 10) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h1) (iblk1 V c 0 t) (iblk1 V c 1 t) (X1_2 V c t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The proof data of the focal call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => X1_2 V c t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = X1_2 V c t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = X1_2 V c t :=
  before1_2_of V (dat1 V c) (A_eq1 V c 2) (after1_2 V c) t d

theorem hcarry1_3 (c : Dev nD) : ∀ (t : Fin cfg1.N) (_ : t.val ≠ 0), cfg1.idle 3 (grid1.coords t) = true → cfg1.fresh 3 t.val = false →
    (dat1 V c).after 3 t = (dat1 V c).after 3 ⟨t.val - 1, by omega⟩ := by
  intro t _ hi _
  have hN : t.val < 40 := lt_of_lt_of_eq t.isLt (show cfg1.N = 40 from N_1)
  rw [after1_3, after1_3]
  by_cases h0 : t.val % 10 = 0
  · by_cases h1 : 1 ≤ t.val % 10
    · exfalso; omega
    · rw [liveAt1_3_A t ((hcond1_0 t).mpr h0) (fun h => h1 ((hcond1_1 t).mp h))] at hi
      exact absurd hi Bool.false_ne_true
  · by_cases h1 : 1 ≤ t.val % 10
    · rw [liveAt1_3_B t (fun h => h0 ((hcond1_0 t).mp h)) ((hcond1_1 t).mpr h1)] at hi
      exact absurd hi Bool.false_ne_true
    · exfalso; omega
theorem before1_3_B (c : Dev nD) (t : Fin cfg1.N) (h0 : ¬t.val % 10 = 0) (h1 : 1 ≤ t.val % 10) (d) :
    (dat1 V c).before 3 t d = (outsAt1 V c (t.val - 1) (Nat.lt_of_le_of_lt (Nat.sub_le _ _) t.isLt)) := by
  rw [Dat.before_out_traj _ 3 rfl (fun _ _ => rfl) (hcarry1_3 V c) t.val t rfl d,
    if_neg (by rw [notFresh1_3_B t (fun h => h0 ((hcond1_0 t).mp h)) ((hcond1_1 t).mpr h1)]; exact Bool.false_ne_true)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 800000 in
/-- The focal body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  have hN : t.val < 40 := lt_of_lt_of_eq t.isLt (show cfg1.N = 40 from N_1)
  by_cases h0 : t.val % 10 = 0
  · by_cases h1 : 1 ≤ t.val % 10
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_A t ((hcond1_0 t).mpr h0) (fun h => h1 ((hcond1_1 t).mp h))], after1_3]
      rw [outsAt1_A V c t h0 h1]
      unfold out1_A_3
      iintro ⟨HΦ, Ho, ⟨%d0, H0⟩, ⟨%d1, H1⟩, ⟨%d2, H2⟩, ⟨%d3, H3⟩⟩
      iapply ((kernelRun1_A c (grid1.coords t) _ _ _ _ _ _ _ _ ((hcond1_0 t).mpr h0) (fun h => h1 ((hcond1_1 t).mp h)) (iblk1 V c 0 t) (iblk1 V c 1 t) (X1_2 V c t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _)
  · by_cases h1 : 1 ≤ t.val % 10
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
      rw [outsAt1_B V c t h0 h1]
      simp only [before1_3_B V c t h0 h1]
      unfold out1_B_3
      iintro ⟨HΦ, Ho, ⟨%d0, H0⟩, ⟨%d1, H1⟩, ⟨%d2, H2⟩, ⟨%d3, H3⟩⟩
      iapply ((kernelRun1_B c (grid1.coords t) _ _ _ _ _ _ _ _ (fun h => h0 ((hcond1_0 t).mp h)) ((hcond1_1 t).mpr h1) (iblk1 V c 0 t) (iblk1 V c 1 t) (X1_2 V c t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

/-- The obligation of the focal call. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KernelIdeal.Whole.lean ====
/- The whole kernel at the ideal instance: the two calls among the host operations, run from the launch to the return. -/
module

public import proofs.«01_k».proof.Proof.KernelIdeal.Assign
public import proofs.«01_k».proof.Proof.KernelIdeal.Focal

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v2, main_v3, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v4]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v5, main_v6, main_v7, main_v8, main_v9]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v11, main_v12, main_v13, main_v14]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v16, main_v17, main_v18, main_v19, main_v20, main_v21, main_v22, main_v23, main_cst, main_v24, main_v25, main_v26, main_cst_1, main_v27, main_v28, main_cst_2, main_v29, main_v30, main_cst_3, main_v31, main_v32, main_cst_4, main_v33, main_v34, main_cst_5, main_v35, main_v36, main_v37, main_cst_6]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps2_1_fresh : (hostOps2_1 : List (HloOp τ sig (Elt F))).Forall fun op => op.fresh = ∅ := by
  simp only [List.Forall]; repeat' constructor
abbrev hostOps2_1_W : List (Ref sig .tc) := [main_call2_v0, main_call2_v1, main_v38]
theorem hostOps2_1_writes : (hostOps2_1 : List (HloOp τ sig (Elt F))).Forall fun op => op.writes ⊆ (hostOps2_1_W.map (Proc.devRef (τ := τ) .tc)).toFinset :=
  StableHlo.forall_writes_sub_of_map rfl
theorem hostOps2_1_args : ∀ a ∈ argRefs, a ∉ hostOps2_1_W := ListAll.forall_mem_of_all_decide (by decide +kernel)

theorem hostOps2_2_fresh : (hostOps2_2 : List (HloOp τ sig (Elt F))).Forall fun op => op.fresh = ∅ := by
  simp only [List.Forall]; repeat' constructor
abbrev hostOps2_2_W : List (Ref sig .tc) := [main_cst_7, main_v39, main_v40, main_cst_8, main_v41, main_v42, main_cst_9, main_v43, main_v44, main_cst_10, main_v45, main_v46]
theorem hostOps2_2_writes : (hostOps2_2 : List (HloOp τ sig (Elt F))).Forall fun op => op.writes ⊆ (hostOps2_2_W.map (Proc.devRef (τ := τ) .tc)).toFinset :=
  StableHlo.forall_writes_sub_of_map rfl
theorem hostOps2_2_args : ∀ a ∈ argRefs, a ∉ hostOps2_2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev V5 : (c : Dev nD) → (b : Ref sig .tc) → Buf (Elt F) ((c : Thread nD τ).loc b) := fun c b => W5 m ρ c b
/-- The buffers after the assignment call. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
abbrev V7 : (c : Dev nD) → (b : Ref sig .tc) → Buf (Elt F) ((c : Thread nD τ).loc b) := fun c b => W7 m ρ c b
/-- The buffers after the focal call. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
abbrev W10 : Dev nD → Valuation τ sig (Elt F) := fun c => StableHlo.after hostOps2_1 (W9 m ρ c)
theorem W10_of (c : Dev nD) (r : Ref sig .tc) (h : r ∉ hostOps2_1_W) : W10 m ρ c (Proc.devRef .tc r) = W9 m ρ c (Proc.devRef .tc r) :=
  StableHlo.after_of_writes_sub hostOps2_1 _ hostOps2_1_writes h
theorem W10_args (c : Dev nD) : ∀ a ∈ argRefs, W10 m ρ c (Proc.devRef .tc a) = m ((c : Thread nD τ).loc a) :=
  fun a ha => (W10_of m ρ c a (hostOps2_1_args a ha)).trans (W9_args m ρ c a ha)
abbrev W11 : Dev nD → Valuation τ sig (Elt F) := fun c => StableHlo.after hostOps2_2 (W10 m ρ c)
theorem W11_of (c : Dev nD) (r : Ref sig .tc) (h : r ∉ hostOps2_2_W) : W11 m ρ c (Proc.devRef .tc r) = W10 m ρ c (Proc.devRef .tc r) :=
  StableHlo.after_of_writes_sub hostOps2_2 _ hostOps2_2_writes h
theorem W11_args (c : Dev nD) : ∀ a ∈ argRefs, W11 m ρ c (Proc.devRef .tc a) = m ((c : Thread nD τ).loc a) :=
  fun a ha => (W11_of m ρ c a (hostOps2_2_args a ha)).trans (W10_args m ρ c a ha)

theorem W11_main_arg0 (c : Dev nD) : W11 m ρ c (Proc.devRef .tc main_arg0) = m ((c : Thread nD τ).loc main_arg0) :=
  W11_args m ρ c main_arg0 (by decide)
theorem W11_main_arg1 (c : Dev nD) : W11 m ρ c (Proc.devRef .tc main_arg1) = m ((c : Thread nD τ).loc main_arg1) :=
  W11_args m ρ c main_arg1 (by decide)
theorem W11_main_arg2 (c : Dev nD) : W11 m ρ c (Proc.devRef .tc main_arg2) = m ((c : Thread nD τ).loc main_arg2) :=
  W11_args m ρ c main_arg2 (by decide)
theorem W11_main_arg3 (c : Dev nD) : W11 m ρ c (Proc.devRef .tc main_arg3) = m ((c : Thread nD τ).loc main_arg3) :=
  W11_args m ρ c main_arg3 (by decide)
theorem W11_main_arg4 (c : Dev nD) : W11 m ρ c (Proc.devRef .tc main_arg4) = m ((c : Thread nD τ).loc main_arg4) :=
  W11_args m ρ c main_arg4 (by decide)

abbrev adm : (p : Fin 2) → (pcfgs (F := F) p).Adm := fun p => (cfgs p).toPCfg_adm
/-- The proof data of both calls. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What every segment carries along beside the buffers. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

set_option backward.isDefEq.respectTransparency.types false in
/-- The assignment call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The focal call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segments of @main in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)) ]
/-- @main is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with each buffer that outlives the calls at its contents after the last segment, and every counter at zero. -/
theorem ends : θ_run defs (onTc (τ := τ) (main (F := F))) ⟨m, fun _ => 0, ρ⟩ (fun r => (∀ c : Dev nD, ∀ b ∈ Pipeline.ucRefs τ sig,
      r.2.mem ((c : Thread nD τ).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W11_main_arg0 m ρ c),
       (h.1 c _ (mem_uc main_arg1 (by decide))).trans (W11_main_arg1 m ρ c),
       (h.1 c _ (mem_uc main_arg2 (by decide))).trans (W11_main_arg2 m ρ c),
       (h.1 c _ (mem_uc main_arg3 (by decide))).trans (W11_main_arg3 m ρ c),
       (h.1 c _ (mem_uc main_arg4 (by decide))).trans (W11_main_arg4 m ρ c)⟩, h.2⟩) (ends m ρ)

/-- The results and the arguments at the end of every run. -/
theorem results : θ_run defs (onTc (τ := τ) (main (F := F))) ⟨m, fun _ => 0, ρ⟩ (fun r => ∀ c : Dev nD,
      r.2.mem ((c.tc : Thread nD τ).loc main_v30) = W11 m ρ c (Proc.devRef .tc main_v30)
      ∧ r.2.mem ((c.tc : Thread nD τ).loc main_v42) = W11 m ρ c (Proc.devRef .tc main_v42)
      ∧ r.2.mem ((c.tc : Thread nD τ).loc main_v46) = W11 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h.1 c _ (mem_uc main_v30 (by decide)), h.1 c _ (mem_uc main_v42 (by decide)), h.1 c _ (mem_uc main_v46 (by decide)),
       (h.1 c _ (mem_uc main_arg0 (by decide))).trans (W11_main_arg0 m ρ c),
       (h.1 c _ (mem_uc main_arg1 (by decide))).trans (W11_main_arg1 m ρ c),
       (h.1 c _ (mem_uc main_arg2 (by decide))).trans (W11_main_arg2 m ρ c),
       (h.1 c _ (mem_uc main_arg3 (by decide))).trans (W11_main_arg3 m ρ c),
       (h.1 c _ (mem_uc main_arg4 (by decide))).trans (W11_main_arg4 m ρ c)⟩) (ends m ρ)

end Cert.KernelIdeal.Whole

end
-- ==== Proof.KernelIdeal.Boxes.lean ====
/- The assignment body at one grid point: the walk over the 32 boxes as a recursion, and the body's stores in terms of it. -/
module

public import proofs.«01_k».proof.Proof.KernelIdeal.Assign

@[expose] public section

set_option maxRecDepth 16384

noncomputable section

namespace Cert.KernelIdeal.Boxes

open Cert.KernelIdeal Cert.KernelIdeal.Gen Cert.KernelIdeal.Whole
open Idealize.ShloMosaic Idealize.ShloMosaic.Tactic

variable {F : FTy → Type} [FloatOps F]

section Walk

-- The anchors' coordinates and areas, and the annotation words `w m k` of the image.
variable (x1 y1 x2 y2 ar : FVec F S200x128 .f32) (w : ℕ → ℕ → F .f32)

/-- The greatest overlap with the boxes before box `m`. -/
def bst (m : ℕ) : FVec F S200x128 .f32 :=
  Nat.rec (motive := fun _ => FVec F S200x128 .f32) k0_pay10
    (fun m b => select (k0_pay19 x1 y1 x2 y2 ar b (w m 0) (w m 1) (w m 2) (w m 3))
      (k0_pay18 x1 y1 x2 y2 ar (w m 0) (w m 1) (w m 2) (w m 3)) b) m

/-- Which anchors take box `m` for their best so far. -/
def upd (m : ℕ) : IVec S200x128 1 :=
  k0_pay19 x1 y1 x2 y2 ar (bst x1 y1 x2 y2 ar w m) (w m 0) (w m 1) (w m 2) (w m 3)

/-- Word `k` of the best box among those before box `m`. -/
def fld (k m : ℕ) : FVec F S200x128 .f32 :=
  Nat.rec (motive := fun _ => FVec F S200x128 .f32) k0_pay11
    (fun m b => select (upd x1 y1 x2 y2 ar w m) (broadcast S200x128 (w m k)) b) m

end Walk

/-- The place of word `(m, k)` of image `i 0` in the annotations. -/
def place (i : grid0.Coords) (m k : ℕ) : Fin 3 → ℕ :=
  ![(Scalar.indexCast (BitVec.ofNat 32 (i 0).val)).toNat, m % 32, k % 8]

theorem place_inb (i : grid0.Coords) (m k : ℕ) : ∀ a, place i m k a + S1x1x1.size a ≤ S4x32x8.size a := by
  intro a
  match a with
  | ⟨0, _⟩ => exact k0_off1_inb i 0
  | ⟨1, _⟩ => show m % 32 + 1 ≤ 32; omega
  | ⟨2, _⟩ => show k % 8 + 1 ≤ 8; omega

/-- Word `(m, k)` of image `i 0`, as the body loads it. -/
def word (i : grid0.Coords) (arg2 : Memref sig .tc .smem S4x32x8 .f32) (harg2 : arg2.IsWhole) (x0 : Vec F S4x32x8 .f32)
    (m k : ℕ) : F .f32 :=
  View.readAt (Elt F) arg2.view (Rect.unit (s := S4x32x8) (place i m k) S1x1x1.size (place_inb i m k)).toLoadRect
    (harg2.unread x0) (Shape.Idx.first (s := S1x1x1) (by decide))

theorem plane_inb (k : ℕ) : ∀ a, (![k % 4, 0, 0, 0] : Fin 4 → ℕ) a + S1x1x200x128.size a ≤ S4x1x200x128.size a := by
  intro a
  match a with
  | ⟨0, _⟩ => show k % 4 + 1 ≤ 4; omega
  | ⟨1, _⟩ => show 0 + 1 ≤ 1; omega
  | ⟨2, _⟩ => show 0 + 200 ≤ 200; omega
  | ⟨3, _⟩ => show 0 + 128 ≤ 128; omega

/-- Coordinate `k` of the point's anchors, as the body loads it. -/
def plane (arg3 : Memref sig .tc .vmem S4x1x200x128 .f32) (harg3 : arg3.IsWhole) (x1 : Vec F S4x1x200x128 .f32) (k : ℕ) :
    Vec F S1x1x200x128 .f32 :=
  View.readAt (Elt F) arg3.view (Rect.unit (s := S4x1x200x128) ![k % 4, 0, 0, 0] S1x1x200x128.size (plane_inb k)).toLoadRect
    (harg3.unread x1)

theorem rplane_inb (k : ℕ) : ∀ a, (![0, k % 4, 0, 0, 0] : Fin 5 → ℕ) a + S1x1x1x200x128.size a ≤ S1x4x1x200x128.size a := by
  intro a
  match a with
  | ⟨0, _⟩ => show 0 + 1 ≤ 1; omega
  | ⟨1, _⟩ => show k % 4 + 1 ≤ 4; omega
  | ⟨2, _⟩ => show 0 + 1 ≤ 1; omega
  | ⟨3, _⟩ => show 0 + 200 ≤ 200; omega
  | ⟨4, _⟩ => show 0 + 128 ≤ 128; omega

/-- Component `k` of the point's regressions, as the body loads it. -/
def rplane (arg4 : Memref sig .tc .vmem S1x4x1x200x128 .f32) (harg4 : arg4.IsWhole) (x2 : Vec F S1x4x1x200x128 .f32)
    (k : ℕ) : Vec F S1x1x1x200x128 .f32 :=
  View.readAt (Elt F) arg4.view (Rect.unit (s := S1x4x1x200x128) ![0, k % 4, 0, 0, 0] S1x1x1x200x128.size (rplane_inb k)).toLoadRect
    (harg4.unread x2)

section Point

variable (i : grid0.Coords) (w : ℕ → ℕ → F .f32) (p : ℕ → Vec F S1x1x200x128 .f32) (q : ℕ → Vec F S1x1x1x200x128 .f32)

/-- The greatest overlap of the point's anchors. -/
def top : FVec F S200x128 .f32 :=
  bst (k0_pay1 (p 0)) (k0_pay2 (p 1)) (k0_pay3 (p 2)) (k0_pay4 (p 3)) (k0_pay9 (p 0) (p 1) (p 2) (p 3)) w 32

/-- Word `k` of the boxes that the point's anchors are assigned to. -/
def got (k : ℕ) : FVec F S200x128 .f32 :=
  fld (k0_pay1 (p 0)) (k0_pay2 (p 1)) (k0_pay3 (p 2)) (k0_pay4 (p 3)) (k0_pay9 (p 0) (p 1) (p 2) (p 3)) w k 32

/-- Which places of the block are anchors. -/
def real : IVec S200x128 1 := k0_pay374 (BitVec.ofNat 32 (i 1).val)

/-- The block's mask of anchors that take part in the class loss. -/
def maskRow : FVec F S1x1x1x200x128 .f32 := k0_pay378 (top w p) (real i) k0_pay375

/-- The block's codes of the assigned classes. -/
def codeRow : FVec F S1x1x1x200x128 .f32 := k0_pay379 (top w p) (got w p 4) (got w p 5) (got w p 6) (real i) k0_pay375

/-- The block's number of positive anchors. -/
def count : F .f32 := k0_pay377 (top w p) (real i) k0_pay375

/-- The block's regression loss. -/
def regSum : FVec F S1x1x1 .f32 :=
  k0_pay387 (k0_pay376 (top w p) (real i) k0_pay375)
    (k0_pay383 (k0_pay5 (p 0) (p 2)) (k0_pay380 (got w p 0) (got w p 2)))
    (k0_pay384 (k0_pay6 (p 1) (p 3)) (k0_pay381 (got w p 1) (got w p 3)))
    (k0_pay385 (k0_pay5 (p 0) (p 2)) (k0_pay7 (p 0) (p 2)) (k0_pay382 (got w p 0) (got w p 2)) (q 0))
    (k0_pay386 (k0_pay6 (p 1) (p 3)) (k0_pay8 (p 1) (p 3)) (got w p 1) (k0_pay381 (got w p 1) (got w p 3)) (q 1))
    (Scalar.ofBits .f32 0x3DE38E39#32) (q 2) (q 3)

end Point

section Runs

variable (c : Dev nD) (i : grid0.Coords) (arg2 : Memref sig .tc .smem S4x32x8 .f32) (harg2 : arg2.IsWhole)
  (arg3 : Memref sig .tc .vmem S4x1x200x128 .f32) (harg3 : arg3.IsWhole)
  (arg4 : Memref sig .tc .vmem S1x4x1x200x128 .f32) (harg4 : arg4.IsWhole)
  (arg5 : Memref sig .tc .vmem S1x2x1x200x128 .f32) (harg5 : arg5.IsWhole)
  (arg6 : Memref sig .tc .vmem S1x8x128 .f32) (harg6 : arg6.IsWhole)
  (x0 : Vec F S4x32x8 .f32) (x1 : Vec F S4x1x200x128 .f32) (x2 : Vec F S1x4x1x200x128 .f32)

/-- The stores of the mask and the codes at the first point of an image. -/
theorem stores_A_3 (hc0 : cond0_0 i) (hc1 : ¬cond0_1 i) :
    (kernelRun0_A c i arg2 harg2 arg3 harg3 arg4 harg4 arg5 harg5 arg6 harg6 hc0 hc1 x0 x1 x2).1
      = [⟨Rect.unit ![0, 1, 0, 0, 0] S1x1x1x200x128.size inb_S1x2x1x200x128_S1x1x1x200x128_0_1_0_0_0,
          codeRow i (word i arg2 harg2 x0) (plane arg3 harg3 x1)⟩,
        ⟨Rect.unit ![0, 0, 0, 0, 0] S1x1x1x200x128.size inb_S1x2x1x200x128_S1x1x1x200x128_0_0_0_0_0,
          maskRow i (word i arg2 harg2 x0) (plane arg3 harg3 x1)⟩] := by
  sl_kernel_rfl

/-- The store of the sums at the first point of an image. -/
theorem stores_A_4 (hc0 : cond0_0 i) (hc1 : ¬cond0_1 i) :
    (kernelRun0_A c i arg2 harg2 arg3 harg3 arg4 harg4 arg5 harg5 arg6 harg6 hc0 hc1 x0 x1 x2).2.1
      = [⟨Rect.unit ![0, 0, 0] S1x8x128.size inb_S1x8x128_S1x8x128_0_0_0,
          k0_pay389 (count i (word i arg2 harg2 x0) (plane arg3 harg3 x1))
            (regSum i (word i arg2 harg2 x0) (plane arg3 harg3 x1) (rplane arg4 harg4 x2)) (word i arg2 harg2 x0 0 7)⟩] := by
  sl_kernel_rfl

/-- The stores of the mask and the codes at a later point of an image. -/
theorem stores_B_3 (hc0 : ¬cond0_0 i) (hc1 : cond0_1 i) (xo : Vec F S1x8x128 .f32) :
    (kernelRun0_B c i arg2 harg2 arg3 harg3 arg4 harg4 arg5 harg5 arg6 harg6 hc0 hc1 x0 x1 x2 xo).1
      = [⟨Rect.unit ![0, 1, 0, 0, 0] S1x1x1x200x128.size inb_S1x2x1x200x128_S1x1x1x200x128_0_1_0_0_0,
          codeRow i (word i arg2 harg2 x0) (plane arg3 harg3 x1)⟩,
        ⟨Rect.unit ![0, 0, 0, 0, 0] S1x1x1x200x128.size inb_S1x2x1x200x128_S1x1x1x200x128_0_0_0_0_0,
          maskRow i (word i arg2 harg2 x0) (plane arg3 harg3 x1)⟩] := by
  sl_kernel_rfl

/-- The store of the sums at a later point of an image: added to what the block holds. -/
theorem stores_B_4 (hc0 : ¬cond0_0 i) (hc1 : cond0_1 i) (xo : Vec F S1x8x128 .f32) :
    (kernelRun0_B c i arg2 harg2 arg3 harg3 arg4 harg4 arg5 harg5 arg6 harg6 hc0 hc1 x0 x1 x2 xo).2.1
      = [⟨Rect.unit ![0, 0, 0] S1x8x128.size inb_S1x8x128_S1x8x128_0_0_0,
          k0_pay390 (count i (word i arg2 harg2 x0) (plane arg3 harg3 x1))
            (regSum i (word i arg2 harg2 x0) (plane arg3 harg3 x1) (rplane arg4 harg4 x2))
            (View.readAt (Elt F) arg6.view (Rect.unit (s := S1x8x128) ![0, 0, 0] S1x8x128.size
              inb_S1x8x128_S1x8x128_0_0_0).toLoadRect (harg6.unread xo))⟩] := by
  sl_kernel_rfl

end Runs

end Cert.KernelIdeal.Boxes

end
-- ==== Proof.KernelIdeal.Point.lean ====
/- What the assigning kernel leaves for one block, read at one anchor. -/
module

public import proofs.«01_k».proof.Proof.KernelIdeal.Boxes
public import proofs.«01_k».proof.Proof.Math.Spec
public import Idealize.ShloMosaic.Lib.Pointwise

@[expose] public section

set_option maxRecDepth 16384

noncomputable section

namespace Cert.KernelIdeal.Boxes

open Cert.KernelIdeal Cert.KernelIdeal.Gen Cert.Math Idealize.ShloMosaic Idealize.ShloMosaic.TcCoe Idealize.SL.Sem Idealize.ShloMosaic.StableHlo

section Walk

variable (x1 y1 x2 y2 ar : FVec Ideal S200x128 .f32) (w : ℕ → ℕ → Ideal .f32) (r : Fin 200) (l : Fin 128)

/-- The overlap with box `m` at one place. -/
def lap (m : ℕ) : EReal := k0_pay18 x1 y1 x2 y2 ar (w m 0) (w m 1) (w m 2) (w m 3) (ix2 r l)

open Classical in
theorem bst_at (m : ℕ) :
    bst x1 y1 x2 y2 ar w m (ix2 r l) = high (Ideal.ofBits .f32 0xBF800000#32) (lap x1 y1 x2 y2 ar w r l) m := by
  induction m with
  | zero => show k0_pay10 (F := Ideal) (ix2 r l) = _; pointwise [k0_pay10]; rfl
  | succ m ih =>
    rw [high_succ, ← ih]
    show select (k0_pay19 x1 y1 x2 y2 ar (bst x1 y1 x2 y2 ar w m) (w m 0) (w m 1) (w m 2) (w m 3))
      (k0_pay18 x1 y1 x2 y2 ar (w m 0) (w m 1) (w m 2) (w m 3)) (bst x1 y1 x2 y2 ar w m) (ix2 r l) = _
    generalize bst x1 y1 x2 y2 ar w m = b
    rw [lap]
    pointwise [k0_pay19]

open Classical in
theorem fld_at (k m : ℕ) :
    fld x1 y1 x2 y2 ar w k m (ix2 r l)
      = held (Ideal.ofBits .f32 0xBF800000#32) (lap x1 y1 x2 y2 ar w r l) (0 : EReal) (fun m => w m k) m := by
  induction m with
  | zero => show k0_pay11 (F := Ideal) (ix2 r l) = _; pointwise [k0_pay11]; rfl
  | succ m ih =>
    rw [held_succ, ← ih, ← bst_at]
    show select (upd x1 y1 x2 y2 ar w m) (broadcast S200x128 (w m k)) (fld x1 y1 x2 y2 ar w k m) (ix2 r l) = _
    rw [upd, lap]
    generalize bst x1 y1 x2 y2 ar w m = b
    generalize fld x1 y1 x2 y2 ar w k m = f
    pointwise [k0_pay19]

end Walk

section Point

variable (i : grid0.Coords) (w : ℕ → ℕ → Ideal .f32) (p : ℕ → Vec Ideal S1x1x200x128 .f32)
  (q : ℕ → Vec Ideal S1x1x1x200x128 .f32) (r : Fin 200) (l : Fin 128)

/-- The anchor at one place of the block. -/
def anch : Fin 4 → EReal := fun k => p k.val (ix4 0 0 r l)

/-- The image's boxes. -/
def boxes : Fin 32 → Fin 7 → EReal := fun m k => w m.val k.val

/-- The prediction at one place of the block. -/
def pred : Fin 4 → EReal := fun k => q k.val (ix5 0 0 0 r l)

/-- The place is an anchor. -/
def Live : Prop := (i 1).val * 25600 + r.val * 128 + l.val < 100000

theorem area_at : k0_pay9 (p 0) (p 1) (p 2) (p 3) (ix2 r l)
    = (anch p r l 2 - anch p r l 0) * (anch p r l 3 - anch p r l 1) := by
  pointwise [k0_pay9, k0_pay5, k0_pay6, k0_pay1, k0_pay2, k0_pay3, k0_pay4]
  rfl

theorem lap_at (m : Fin 32) :
    lap (k0_pay1 (p 0)) (k0_pay2 (p 1)) (k0_pay3 (p 2)) (k0_pay4 (p 3)) (k0_pay9 (p 0) (p 1) (p 2) (p 3)) w r l m.val
      = iou (anch p r l) (boxes w m) := by
  have h := area_at p r l
  rw [lap]
  generalize k0_pay9 (p 0) (p 1) (p 2) (p 3) = ar at h ⊢
  have h' : k0_pay18 (k0_pay1 (p 0)) (k0_pay2 (p 1)) (k0_pay3 (p 2)) (k0_pay4 (p 3)) ar (w m.val 0) (w m.val 1) (w m.val 2)
      (w m.val 3) (ix2 r l)
      = Ideal.div (inter (anch p r l) (boxes w m)) (max (ar (ix2 r l) + (boxes w m 2 - boxes w m 0) * (boxes w m 3 - boxes w m 1)
        - inter (anch p r l) (boxes w m)) (Ideal.ofBits .f32 0x322BCC77#32)) := by
    pointwise [k0_pay18, k0_pay1, k0_pay2, k0_pay3, k0_pay4]
    rfl
  rw [h', h, iou]

theorem walk_pick :
    (first fun m : Fin 32 => lap (k0_pay1 (p 0)) (k0_pay2 (p 1)) (k0_pay3 (p 2)) (k0_pay4 (p 3))
      (k0_pay9 (p 0) (p 1) (p 2) (p 3)) w r l m.val) = pick (anch p r l) (boxes w) :=
  first_congr fun m => lap_at w p r l m

theorem walk_pos : Ideal.ofBits .f32 0xBF800000#32 < lap (k0_pay1 (p 0)) (k0_pay2 (p 1)) (k0_pay3 (p 2)) (k0_pay4 (p 3))
    (k0_pay9 (p 0) (p 1) (p 2) (p 3)) w r l 0 :=
  lt_of_lt_of_eq (neg_one_lt_iou _ _) (lap_at w p r l 0).symm

theorem top_at : top w p (ix2 r l) = best (anch p r l) (boxes w) := by
  rw [top, bst_at, (walk_first (n := 31) (walk_pos w p r l)).1, walk_pick w p r l, lap_at, best]

theorem got_at (k : Fin 7) : got w p k.val (ix2 r l) = box (anch p r l) (boxes w) k := by
  rw [got, fld_at, (walk_first (n := 31) (walk_pos w p r l)).2 EReal 0 (fun m => w m k.val), walk_pick w p r l, box]
  rfl

open Classical in
theorem maskRow_at : maskRow i w p (ix5 0 0 0 r l)
    = if (Pos (anch p r l) (boxes w) ∨ Low (anch p r l) (boxes w)) ∧ Live i r l then 1 else 0 := by
  have h := top_at w p r l
  rw [maskRow]
  generalize top w p = t at h ⊢
  pointwise [real, k0_pay374, k0_pay375, k0_pay376, k0_pay378]
  rw [valid_bit _ _ _ (i 1).isLt r.isLt l.isLt, ofBool_and, ofBool_or, ofBool_and, sitofp_flag, h]
  refine if_congr ?_ rfl rfl
  simp only [Bool.and_eq_true, Bool.or_eq_true, decide_eq_true_eq]
  show ((Pos (anch p r l) (boxes w) ∧ Live i r l) ∨ Low (anch p r l) (boxes w)) ∧ Live i r l ↔ _
  tauto

theorem select_flag {α : Type} (a : Bool) (x y : α) : Scalar.select (BitVec.ofBool a) x y = if a = true then x else y := by
  cases a <;> rfl

open Classical in
theorem codeRow_at : codeRow i w p (ix5 0 0 0 r l)
    = if Pos (anch p r l) (boxes w) ∧ Live i r l then
        box (anch p r l) (boxes w) 4 + 1 + Ideal.ofBits .f32 0x43000000#32 * (box (anch p r l) (boxes w) 5 + 1)
          + Ideal.ofBits .f32 0x46800000#32 * (box (anch p r l) (boxes w) 6 + 1) else 0 := by
  have h := top_at w p r l
  have h4 := got_at w p r l 4
  have h5 := got_at w p r l 5
  have h6 := got_at w p r l 6
  change got w p 4 _ = _ at h4
  change got w p 5 _ = _ at h5
  change got w p 6 _ = _ at h6
  rw [codeRow]
  generalize top w p = t at h ⊢
  generalize got w p 4 = g4 at h4 ⊢
  generalize got w p 5 = g5 at h5 ⊢
  generalize got w p 6 = g6 at h6 ⊢
  pointwise [real, k0_pay374, k0_pay375, k0_pay376, k0_pay379]
  rw [valid_bit _ _ _ (i 1).isLt r.isLt l.isLt, ofBool_and, select_flag, h, h4, h5, h6]
  refine if_congr ?_ rfl rfl
  simp only [Bool.and_eq_true, decide_eq_true_eq]
  rfl

open Classical in
theorem count_eq : count i w p
    = ∑ r : Fin 200, ∑ l : Fin 128, if Pos (anch p r l) (boxes w) ∧ Live i r l then (1 : EReal) else 0 := by
  have h := top_at w p
  rw [count]
  generalize top w p = t at h ⊢
  pointwise [real, k0_pay374, k0_pay375, k0_pay376, k0_pay377]
  refine Finset.sum_congr rfl fun r _ => Finset.sum_congr rfl fun l _ => ?_
  rw [valid_bit _ _ _ (i 1).isLt r.isLt l.isLt, ofBool_and, sitofp_flag, h]
  refine if_congr ?_ rfl rfl
  simp only [Bool.and_eq_true, decide_eq_true_eq]
  rfl

open Classical in
theorem regSum_eq : regSum i w p q (ix3 0 0 0)
    = ∑ r : Fin 200, ∑ l : Fin 128, if Pos (anch p r l) (boxes w) ∧ Live i r l then
        regOne (anch p r l) (box (anch p r l) (boxes w)) (pred q r l) else 0 := by
  have h := top_at w p
  have h0 := fun r l => got_at w p r l 0
  have h1 := fun r l => got_at w p r l 1
  have h2 := fun r l => got_at w p r l 2
  have h3 := fun r l => got_at w p r l 3
  change ∀ r l, got w p 0 _ = _ at h0
  change ∀ r l, got w p 1 _ = _ at h1
  change ∀ r l, got w p 2 _ = _ at h2
  change ∀ r l, got w p 3 _ = _ at h3
  rw [regSum]
  generalize top w p = t at h ⊢
  generalize got w p 0 = g0 at h0 ⊢
  generalize got w p 1 = g1 at h1 ⊢
  generalize got w p 2 = g2 at h2 ⊢
  generalize got w p 3 = g3 at h3 ⊢
  pointwise [real, k0_pay374, k0_pay375, k0_pay376, k0_pay380, k0_pay381, k0_pay382, k0_pay383, k0_pay384, k0_pay385, k0_pay386,
    k0_pay387, k0_pay5, k0_pay6, k0_pay7, k0_pay8, k0_pay1, k0_pay2, k0_pay3, k0_pay4]
  refine Finset.sum_congr rfl fun r _ => Finset.sum_congr rfl fun l _ => ?_
  rw [valid_bit _ _ _ (i 1).isLt r.isLt l.isLt, ofBool_and, select_flag, h, h0, h1, h2, h3]
  refine if_congr ?_ ?_ rfl
  · simp only [Bool.and_eq_true, decide_eq_true_eq]
    rfl
  · rw [regOne, sl1, sl1, sl1, sl1, centre, centre, width, width, anch, pred]
    rfl

end Point

end Cert.KernelIdeal.Boxes

end
-- ==== Proof.KernelIdeal.Loads.lean ====
/- What the assigning kernel loads from its blocks, and what it leaves in its own, read at coordinates. -/
module

public import proofs.«01_k».proof.Proof.KernelIdeal.Point
public import Idealize.ShloMosaic.Lib.Pipeline.ValueKit

@[expose] public section

set_option maxRecDepth 16384

noncomputable section

namespace Cert.KernelIdeal.Boxes

open Cert.KernelIdeal Cert.KernelIdeal.Gen Cert.KernelIdeal.Whole Cert.Math Idealize.ShloMosaic Idealize.ShloMosaic.TcCoe Idealize.SL.Sem Idealize.ShloMosaic.StableHlo

section Loads

variable (i : grid0.Coords) (arg2 : Memref sig .tc .smem S4x32x8 .f32) (harg2 : arg2.IsWhole)
  (arg3 : Memref sig .tc .vmem S4x1x200x128 .f32) (harg3 : arg3.IsWhole)
  (arg4 : Memref sig .tc .vmem S1x4x1x200x128 .f32) (harg4 : arg4.IsWhole)
  (x0 : Vec Ideal S4x32x8 .f32) (x1 : Vec Ideal S4x1x200x128 .f32) (x2 : Vec Ideal S1x4x1x200x128 .f32)

theorem word_at (m : Fin 32) (k : Fin 8) : word i arg2 harg2 x0 m.val k.val = x0 (ix3 (i 0) m k) := by
  rw [word, View.readAt_eq_ld, harg2.read_unread]
  refine View.ld_unit_apply_of _ _ _ _ _ _ fun a => ?_
  match a with
  | ⟨0, _⟩ =>
    show (i 0).val = (BitVec.ofNat 32 (i 0).val).toNat + 0
    have h : (i 0).val < 4 := (i 0).isLt
    rw [BitVec.toNat_ofNat]
    omega
  | ⟨1, _⟩ => show m.val = m.val % 32 + 0; omega
  | ⟨2, _⟩ => show k.val = k.val % 8 + 0; omega

theorem plane_at (k : Fin 4) (r : Fin 200) (l : Fin 128) : plane arg3 harg3 x1 k.val (ix4 0 0 r l) = x1 (ix4 k 0 r l) := by
  rw [plane, View.readAt_eq_ld, harg3.read_unread]
  refine View.ld_unit_apply_of _ _ _ _ _ _ fun a => ?_
  match a with
  | ⟨0, _⟩ => show k.val = k.val % 4 + 0; omega
  | ⟨1, _⟩ => rfl
  | ⟨2, _⟩ => show r.val = 0 + r.val; omega
  | ⟨3, _⟩ => show l.val = 0 + l.val; omega

theorem rplane_at (k : Fin 4) (r : Fin 200) (l : Fin 128) : rplane arg4 harg4 x2 k.val (ix5 0 0 0 r l) = x2 (ix5 0 k 0 r l) := by
  rw [rplane, View.readAt_eq_ld, harg4.read_unread]
  refine View.ld_unit_apply_of _ _ _ _ _ _ fun a => ?_
  match a with
  | ⟨0, _⟩ => rfl
  | ⟨1, _⟩ => show k.val = k.val % 4 + 0; omega
  | ⟨2, _⟩ => rfl
  | ⟨3, _⟩ => show r.val = 0 + r.val; omega
  | ⟨4, _⟩ => show l.val = 0 + l.val; omega

end Loads

section Leaves

variable (c : Dev nD) (i : grid0.Coords) (arg2 : Memref sig .tc .smem S4x32x8 .f32) (harg2 : arg2.IsWhole)
  (arg3 : Memref sig .tc .vmem S4x1x200x128 .f32) (harg3 : arg3.IsWhole)
  (arg4 : Memref sig .tc .vmem S1x4x1x200x128 .f32) (harg4 : arg4.IsWhole)
  (arg5 : Memref sig .tc .vmem S1x2x1x200x128 .f32) (harg5 : arg5.IsWhole)
  (arg6 : Memref sig .tc .vmem S1x8x128 .f32) (harg6 : arg6.IsWhole)
  (x0 : Vec Ideal S4x32x8 .f32) (x1 : Vec Ideal S4x1x200x128 .f32) (x2 : Vec Ideal S1x4x1x200x128 .f32)

/-- The block of masks and codes from its two rows. -/
def rows (mask code : FVec Ideal S1x1x1x200x128 .f32) : Vec Ideal S1x2x1x200x128 .f32 :=
  fun y => if (y 1).val = 0 then mask (ix5 0 0 0 (y 3) (y 4)) else code (ix5 0 0 0 (y 3) (y 4))

theorem piece_ix (y' : S1x2x1x200x128.Idx) (y : S1x1x1x200x128.Idx) (h3 : (y' 3).val = (y 3).val) (h4 : (y' 4).val = (y 4).val) :
    y = ix5 0 0 0 (y' 3) (y' 4) := by
  funext a
  match a with
  | ⟨0, _⟩ => exact Fin.ext (Nat.lt_one_iff.mp (y 0).isLt)
  | ⟨1, _⟩ => exact Fin.ext (Nat.lt_one_iff.mp (y 1).isLt)
  | ⟨2, _⟩ => exact Fin.ext (Nat.lt_one_iff.mp (y 2).isLt)
  | ⟨3, _⟩ => exact Fin.ext h3.symm
  | ⟨4, _⟩ => exact Fin.ext h4.symm

theorem rows_canon (mask code : FVec Ideal S1x1x1x200x128 .f32) :
    View.canon ([⟨Rect.unit ![0, 1, 0, 0, 0] S1x1x1x200x128.size inb_S1x2x1x200x128_S1x1x1x200x128_0_1_0_0_0, code⟩,
        ⟨Rect.unit ![0, 0, 0, 0, 0] S1x1x1x200x128.size inb_S1x2x1x200x128_S1x1x1x200x128_0_0_0_0_0, mask⟩] : List (View.Piece (Elt Ideal) S1x2x1x200x128 .f32))
      = rows mask code := by
  funext y
  canon_tiles y h
  · rw [rows, if_neg (by omega)]
    exact congrArg code (piece_ix _ _ h3 h4)
  · rw [rows, if_pos (by omega)]
    exact congrArg mask (piece_ix _ _ h3 h4)

theorem out_A_3 (hc0 : cond0_0 i) (hc1 : ¬cond0_1 i) :
    out0_A_3 c i arg2 harg2 arg3 harg3 arg4 harg4 arg5 harg5 arg6 harg6 hc0 hc1 x0 x1 x2
      = rows (maskRow i (word i arg2 harg2 x0) (plane arg3 harg3 x1)) (codeRow i (word i arg2 harg2 x0) (plane arg3 harg3 x1)) := by
  rw [out0_A_3, View.read_writes_junk_eq_canon, stores_A_3, rows_canon]

theorem out_B_3 (hc0 : ¬cond0_0 i) (hc1 : cond0_1 i) (xo : Vec Ideal S1x8x128 .f32) :
    out0_B_3 c i arg2 harg2 arg3 harg3 arg4 harg4 arg5 harg5 arg6 harg6 hc0 hc1 x0 x1 x2 xo
      = rows (maskRow i (word i arg2 harg2 x0) (plane arg3 harg3 x1)) (codeRow i (word i arg2 harg2 x0) (plane arg3 harg3 x1)) := by
  rw [out0_B_3, View.read_writes_junk_eq_canon, stores_B_3, rows_canon]

theorem out_A_4 (hc0 : cond0_0 i) (hc1 : ¬cond0_1 i) :
    out0_A_4 c i arg2 harg2 arg3 harg3 arg4 harg4 arg5 harg5 arg6 harg6 hc0 hc1 x0 x1 x2
      = k0_pay389 (count i (word i arg2 harg2 x0) (plane arg3 harg3 x1))
            (regSum i (word i arg2 harg2 x0) (plane arg3 harg3 x1) (rplane arg4 harg4 x2)) (word i arg2 harg2 x0 0 7) := by
  rw [out0_A_4, View.read_writes_junk_eq_canon, stores_A_4]
  exact View.canon_cons_unit_lit _ _ _ (by decide)

theorem out_B_4 (hc0 : ¬cond0_0 i) (hc1 : cond0_1 i) (xo : Vec Ideal S1x8x128 .f32) :
    out0_B_4 c i arg2 harg2 arg3 harg3 arg4 harg4 arg5 harg5 arg6 harg6 hc0 hc1 x0 x1 x2 xo
      = k0_pay390 (count i (word i arg2 harg2 x0) (plane arg3 harg3 x1))
            (regSum i (word i arg2 harg2 x0) (plane arg3 harg3 x1) (rplane arg4 harg4 x2)) xo := by
  rw [out0_B_4, View.read_writes_junk_eq_canon, stores_B_4, View.readAt_eq_ld, harg6.read_unread, View.ld_unit_lit _ _ (by decide)]
  exact View.canon_cons_unit_lit _ _ _ (by decide)

end Leaves

end Cert.KernelIdeal.Boxes

end
-- ==== Proof.KernelIdeal.Arrays0.lean ====
/- The two arrays that the assigning kernel leaves, from the three that it reads. -/
module

public import proofs.«01_k».proof.Proof.KernelIdeal.Loads
public import Idealize.ShloMosaic.Lib.Pipeline.ValueKit

@[expose] public section

set_option maxRecDepth 16384

noncomputable section

namespace Cert.KernelIdeal.Boxes

open Cert.KernelIdeal Cert.KernelIdeal.Gen Cert.KernelIdeal.Whole Cert.Math Idealize.ShloMosaic Idealize.ShloMosaic.TcCoe Idealize.SL.Sem Idealize.ShloMosaic.StableHlo

variable (V : (c : Dev nD) → (b : Ref sig .tc) → Buf (Elt Ideal) ((c : Thread nD τ).loc b)) (c : Dev nD)

/-- The annotation words. -/
def An : S4x32x8.Idx → EReal := fun y => V c main_v9 y

/-- The anchors, packed in blocks. -/
def Pk : S4x4x200x128.Idx → EReal := fun y => V c main_v3 y

/-- The regressions, packed in blocks. -/
def Rk : S4x4x4x200x128.Idx → EReal := fun y => V c main_v6 y

/-- The boxes of image `b`. -/
def pA (b : Fin 4) : Fin 32 → Fin 7 → EReal := fun m k => An V c (ix3 b m (k.castLE (by decide)))

/-- The anchor at place `(r, l)` of block `s`. -/
def pP (s : Fin 4) (r : Fin 200) (l : Fin 128) : Fin 4 → EReal := fun k => Pk V c (ix4 k s r l)

/-- The prediction there for image `b`. -/
def pQ (b s : Fin 4) (r : Fin 200) (l : Fin 128) : Fin 4 → EReal := fun k => Rk V c (ix5 b k s r l)

/-- The place is an anchor. -/
def pL (s : Fin 4) (r : Fin 200) (l : Fin 128) : Prop := s.val * 25600 + r.val * 128 + l.val < 100000

theorem index0 : ∀ t : Fin cfg0.N, win0_0.index t = ![0, 0, 0] ∧ win0_1.index t = ![0, (grid0.coords t 1).val, 0, 0]
    ∧ win0_2.index t = ![(grid0.coords t 0).val, 0, (grid0.coords t 1).val, 0, 0]
    ∧ win0_3.index t = ![(grid0.coords t 0).val, 0, (grid0.coords t 1).val, 0, 0]
    ∧ win0_4.index t = ![(grid0.coords t 0).val, 0, 0]
    ∧ (grid0.coords t 0).val = t.val / 4 ∧ (grid0.coords t 1).val = t.val % 4 := by decide +kernel

variable (t : Fin cfg0.N)

/-- The image of point `t`. -/
def img : Fin 4 := grid0.coords t 0

/-- The block of anchors of point `t`. -/
def blk : Fin 4 := grid0.coords t 1

theorem ann_blk (a : Fin 4) (m : Fin 32) (k : Fin 8) : iblk0 V c 0 t (ix3 a m k) = An V c (ix3 a m k) := by
  rw [An]
  blk_ext [iblk0, (index0 t).1]

theorem anc_blk (k : Fin 4) (r : Fin 200) (l : Fin 128) : iblk0 V c 1 t (ix4 k 0 r l) = Pk V c (ix4 k (blk t) r l) := by
  rw [Pk, blk]
  blk_ext [iblk0, (index0 t).2.1]

theorem reg_blk (k : Fin 4) (r : Fin 200) (l : Fin 128) :
    iblk0 V c 2 t (ix5 0 k 0 r l) = Rk V c (ix5 (img t) k (blk t) r l) := by
  rw [Rk, blk, img]
  blk_ext [iblk0, (index0 t).2.2.1]

/-- The words of point `t`. -/
def ws : ℕ → ℕ → Ideal .f32 := word (grid0.coords t) (ms0_0 t) (hs0_0 t) (iblk0 V c 0 t)

/-- The coordinates of point `t`. -/
def ps : ℕ → Vec Ideal S1x1x200x128 .f32 := plane (ms0_1 t) (hs0_1 t) (iblk0 V c 1 t)

/-- The predictions of point `t`. -/
def qs : ℕ → Vec Ideal S1x1x1x200x128 .f32 := rplane (ms0_2 t) (hs0_2 t) (iblk0 V c 2 t)

theorem boxes_ws : boxes (ws V c t) = pA V c (img t) := by
  funext m k
  exact (word_at (grid0.coords t) (ms0_0 t) (hs0_0 t) (iblk0 V c 0 t) m (k.castLE (by decide))).trans (ann_blk V c t _ m _)

theorem anch_ps (r : Fin 200) (l : Fin 128) : anch (ps V c t) r l = pP V c (blk t) r l := by
  funext k
  exact (plane_at (ms0_1 t) (hs0_1 t) (iblk0 V c 1 t) k r l).trans (anc_blk V c t k r l)

theorem pred_qs (r : Fin 200) (l : Fin 128) : pred (qs V c t) r l = pQ V c (img t) (blk t) r l := by
  funext k
  exact (rplane_at (ms0_2 t) (hs0_2 t) (iblk0 V c 2 t) k r l).trans (reg_blk V c t k r l)

theorem exists_word : ws V c t 0 7 = An V c (ix3 (img t) 0 7) :=
  (word_at (grid0.coords t) (ms0_0 t) (hs0_0 t) (iblk0 V c 0 t) 0 7).trans (ann_blk V c t _ 0 7)

open Classical in
/-- The mask of image `b` at place `(r, l)` of block `s`. -/
def maskV (b s : Fin 4) (r : Fin 200) (l : Fin 128) : EReal :=
  if (Pos (pP V c s r l) (pA V c b) ∨ Low (pP V c s r l) (pA V c b)) ∧ pL s r l then 1 else 0

open Classical in
/-- The class code there. -/
def codeV (b s : Fin 4) (r : Fin 200) (l : Fin 128) : EReal :=
  if Pos (pP V c s r l) (pA V c b) ∧ pL s r l then
    box (pP V c s r l) (pA V c b) 4 + 1 + Ideal.ofBits .f32 0x43000000#32 * (box (pP V c s r l) (pA V c b) 5 + 1)
      + Ideal.ofBits .f32 0x46800000#32 * (box (pP V c s r l) (pA V c b) 6 + 1) else 0

open Classical in
/-- The number of positive anchors of block `s` for image `b`. -/
def countV (b s : Fin 4) : EReal :=
  ∑ r : Fin 200, ∑ l : Fin 128, if Pos (pP V c s r l) (pA V c b) ∧ pL s r l then (1 : EReal) else 0

open Classical in
/-- Their regression loss. -/
def regV (b s : Fin 4) : EReal :=
  ∑ r : Fin 200, ∑ l : Fin 128, if Pos (pP V c s r l) (pA V c b) ∧ pL s r l then
    regOne (pP V c s r l) (box (pP V c s r l) (pA V c b)) (pQ V c b s r l) else 0

theorem mask_t (r : Fin 200) (l : Fin 128) :
    maskRow (grid0.coords t) (ws V c t) (ps V c t) (ix5 0 0 0 r l) = maskV V c (img t) (blk t) r l := by
  rw [maskRow_at, boxes_ws, anch_ps]; rfl

theorem code_t (r : Fin 200) (l : Fin 128) :
    codeRow (grid0.coords t) (ws V c t) (ps V c t) (ix5 0 0 0 r l) = codeV V c (img t) (blk t) r l := by
  rw [codeRow_at, boxes_ws, anch_ps]; rfl

theorem count_t : count (grid0.coords t) (ws V c t) (ps V c t) = countV V c (img t) (blk t) := by
  rw [count_eq, boxes_ws]
  refine Finset.sum_congr rfl fun r _ => Finset.sum_congr rfl fun l _ => ?_
  rw [anch_ps]; rfl

theorem reg_t : regSum (grid0.coords t) (ws V c t) (ps V c t) (qs V c t) (ix3 0 0 0) = regV V c (img t) (blk t) := by
  rw [regSum_eq, boxes_ws]
  refine Finset.sum_congr rfl fun r _ => Finset.sum_congr rfl fun l _ => ?_
  rw [anch_ps, pred_qs]; rfl

theorem leaves_3 : (outsAt0 V c t.val t.isLt).1
    = rows (maskRow (grid0.coords t) (ws V c t) (ps V c t)) (codeRow (grid0.coords t) (ws V c t) (ps V c t)) := by
  rw [ws, ps]
  by_cases h0 : t.val % 4 = 0
  · rw [outsAt0_A V c t h0 (by omega)]
    dsimp only
    rw [out_A_3]
  · rw [outsAt0_B V c t h0 (by omega)]
    dsimp only
    rw [out_B_3]

theorem leaves_3_at (y : S1x2x1x200x128.Idx) : (outsAt0 V c t.val t.isLt).1 y
    = if (y 1).val = 0 then maskV V c (img t) (blk t) (y 3) (y 4) else codeV V c (img t) (blk t) (y 3) (y 4) := by
  rw [leaves_3, rows]
  exact if_congr Iff.rfl (mask_t V c t _ _) (code_t V c t _ _)

theorem quad_congr {α β γ δ : Type} (f : α → β → γ → δ → EReal) {a a' : α} {b b' : β} {x x' : γ} {y y' : δ} (ha : a = a') (hb : b = b')
    (hx : x = x') (hy : y = y') : f a b x y = f a' b' x' y' := by
  subst ha hb hx hy; rfl

/-- The array of masks and codes. -/
theorem meta_arr : (dat0 V c).arrAt 3 cfg0.N
    = fun y : S4x2x4x200x128.Idx => if (y 1).val = 0 then maskV V c (y 0) (y 2) (y 3) (y 4) else codeV V c (y 0) (y 2) (y 3) (y 4) := by
  refine (dat0 V c).arrAt_eq_of_covers 3 _ (by decide +kernel) fun t hf y => ?_
  have h0 : img t = (win0_3.blk t).view.emb y 0 := Fin.ext (by blk_simp [(index0 t).2.2.2.1]; rfl)
  have h2 : blk t = (win0_3.blk t).view.emb y 2 := Fin.ext (by blk_simp [(index0 t).2.2.2.1]; rfl)
  have h3 : y 3 = (win0_3.blk t).view.emb y 3 := Fin.ext (by blk_simp [(index0 t).2.2.2.1])
  have h4 : y 4 = (win0_3.blk t).view.emb y 4 := Fin.ext (by blk_simp [(index0 t).2.2.2.1])
  blk_simp
  rw [after0_3]
  refine (leaves_3_at V c t y).trans (if_congr ?_ (quad_congr _ h0 h2 h3 h4) (quad_congr _ h0 h2 h3 h4))
  rw [(index0 t).2.2.2.1]
  show (y 1).val = 0 ↔ 0 * 2 + (y 1).val = 0
  omega

/-- What block `s` adds to row `r` of the sums of image `b`. -/
def addV (b s : Fin 4) (r : Fin 8) : EReal :=
  if r.val = 0 then countV V c b s else if r.val = 1 then regV V c b s
  else if r.val = 2 ∧ s.val = 0 then soft (An V c (ix3 b 0 7)) else 0

theorem first_at (x : Ideal .f32) (f : FVec Ideal S1x1x1 .f32) (g : Ideal .f32) (r : Fin 8) (l : Fin 128) :
    k0_pay389 x f g (ix3 0 r l) = if r.val = 0 then x else if r.val = 1 then f (ix3 0 0 0)
      else if r.val = 2 then soft g else 0 := by
  rw [soft]
  fin_cases r <;> pointwise [k0_pay388, k0_pay389] <;> rfl

theorem later_at (x : Ideal .f32) (f : FVec Ideal S1x1x1 .f32) (p : Vec Ideal S1x8x128 .f32) (r : Fin 8) (l : Fin 128) :
    k0_pay390 x f p (ix3 0 r l) = p (ix3 0 r l) + if r.val = 0 then x else if r.val = 1 then f (ix3 0 0 0) else (0 : EReal) := by
  fin_cases r <;> pointwise [k0_pay388, k0_pay390] <;> rfl

theorem sums_A (h0 : t.val % 4 = 0) (r : Fin 8) (l : Fin 128) :
    (outsAt0 V c t.val t.isLt).2 (ix3 0 r l) = 0 + addV V c (img t) (blk t) r := by
  have hb : (blk t).val = 0 := (index0 t).2.2.2.2.2.2.trans h0
  rw [outsAt0_A V c t h0 (by omega)]
  dsimp only
  rw [out_A_4, first_at, zero_add, addV, hb]
  refine if_congr Iff.rfl (count_t V c t) (if_congr Iff.rfl (reg_t V c t) (if_congr (by simp) ?_ rfl))
  exact congrArg soft (exists_word V c t)

theorem sums_B (h0 : ¬t.val % 4 = 0) (r : Fin 8) (l : Fin 128) :
    (outsAt0 V c t.val t.isLt).2 (ix3 0 r l)
      = (outsAt0 V c (t.val - 1) (Nat.lt_of_le_of_lt (Nat.sub_le _ _) t.isLt)).2 (ix3 0 r l) + addV V c (img t) (blk t) r := by
  have hb : ¬(blk t).val = 0 := fun h => h0 ((index0 t).2.2.2.2.2.2.symm.trans h)
  rw [outsAt0_B V c t h0 (by omega)]
  dsimp only
  rw [out_B_4, later_at, addV]
  exact congrArg _ (if_congr Iff.rfl (count_t V c t) (if_congr Iff.rfl (reg_t V c t) (if_neg fun h => hb h.2).symm))

theorem row_eq (i : S1x8x128.Idx) : i = ix3 (0 : Fin 1) (i 1 : Fin 8) (i 2 : Fin 128) := by
  funext a
  fin_cases a
  · exact Fin.ext (Nat.lt_one_iff.mp (i 0).isLt)
  · rfl
  · rfl

/-- The array of sums. -/
theorem sums_arr : (dat0 V c).arrAt 4 cfg0.N = fun y : S4x8x128.Idx => ∑ s : Fin 4, addV V c (y 0) s (y 1) := by
  refine (dat0 V c).arrAt_eq_of_covers 4 _ (by decide +kernel) fun t hf y => ?_
  blk_simp
  rw [after0_4]
  have h1 : (win0_4.blk t).view.emb y 1 = y 1 := Fin.ext (by blk_simp [(index0 t).2.2.2.2.1])
  have h0 : img t = (win0_4.blk t).view.emb y 0 := Fin.ext (by blk_simp [(index0 t).2.2.2.2.1]; rfl)
  have h := Pipeline.eq_sum_fin_of_reset_step_apply_of_flush (fun n h => (outsAt0 V c n h).2) 4 (fun _ => (0 : EReal))
    (fun t (y : S1x8x128.Idx) => addV V c (img t) (blk t) (y 1)) (fun t h i => ?_) (fun t h i => ?_) t ((flush0_4 t).mp hf) y
  · refine h.trans ?_
    rw [zero_add, ← h0]
    refine Finset.sum_congr rfl fun s _ => ?_
    have e : t.val / 4 = (img t).val := (index0 t).2.2.2.2.2.1.symm
    have e0 := (index0 ⟨4 * (t.val / 4) + s.val, Pipeline.run_point_lt_of_flush t ((flush0_4 t).mp hf) s⟩).2.2.2.2.2
    have ei : img ⟨4 * (t.val / 4) + s.val, Pipeline.run_point_lt_of_flush t ((flush0_4 t).mp hf) s⟩ = img t :=
      Fin.ext (e0.1.trans (by have := s.isLt; simp only []; omega))
    have eb : blk ⟨4 * (t.val / 4) + s.val, Pipeline.run_point_lt_of_flush t ((flush0_4 t).mp hf) s⟩ = s :=
      Fin.ext (e0.2.trans (by have := s.isLt; simp only []; omega))
    show addV V c (img _) (blk _) (y 1) = addV V c (img t) s _
    rw [ei, eb, h1]
  · rw [row_eq i]; exact sums_A V c t h _ _
  · rw [row_eq i]; exact sums_B V c t h _ _

end Cert.KernelIdeal.Boxes

end
-- ==== Proof.KernelIdeal.Rates.lean ====
/- What the focal kernel leaves for one block: the loss of each of its anchors and classes, summed. -/
module

public import proofs.«01_k».proof.Proof.KernelIdeal.Focal
public import proofs.«01_k».proof.Proof.Math.Spec
public import Idealize.ShloMosaic.Lib.Pointwise
public import Idealize.ShloMosaic.Lib.Pipeline.ValueKit

@[expose] public section

set_option maxRecDepth 16384

noncomputable section

namespace Cert.KernelIdeal.Rates

open Cert.KernelIdeal Cert.KernelIdeal.Gen Cert.KernelIdeal.Whole Cert.Math Idealize.ShloMosaic Idealize.ShloMosaic.TcCoe Idealize.SL.Sem Idealize.ShloMosaic.StableHlo

/-- The loss of one anchor and class, from the class's number `i`, the anchor's mask `w` and code `e`, and the probability `x`. -/
def cell (i w e x : EReal) : EReal :=
  elem (if coded (Ideal.fptosi 32 e) (Ideal.fptosi 32 i + 1#32) = 1#1 then Ideal.ofBits .f32 0x3E800000#32 else w * Ideal.ofBits .f32 0x3F400000#32)
    (if coded (Ideal.fptosi 32 e) (Ideal.fptosi 32 i + 1#32) = 1#1 then 1 - clip x else clip x)

section Pays

variable (v0 : Vec Ideal S1x80 .f32) (v5 : Vec Ideal S1x10000x2 .f32) (v12 : Vec Ideal S1x10000x80 .f32)

/-- The block's losses summed. -/
def total : EReal := ∑ n : Fin 10000, ∑ k : Fin 80, cell (v0 (ix2 0 k)) (v5 (ix3 0 n 0)) (v5 (ix3 0 n 1)) (v12 (ix3 0 n k))

theorem hit_at (n : Fin 10000) (k : Fin 80) :
    k1_pay6 v0 v5 (ix2 n k) = coded (Ideal.fptosi 32 (v5 (ix3 0 n 1))) (Ideal.fptosi 32 (v0 (ix2 0 k)) + 1#32) := by
  pointwise [k1_pay6, k1_pay4]
  rfl

theorem dist_at (n : Fin 10000) (k : Fin 80) : k1_pay7 v0 v5 v12 (ix2 n k)
    = if coded (Ideal.fptosi 32 (v5 (ix3 0 n 1))) (Ideal.fptosi 32 (v0 (ix2 0 k)) + 1#32) = 1#1 then 1 - clip (v12 (ix3 0 n k))
      else clip (v12 (ix3 0 n k)) := by
  have h := hit_at v0 v5 n k
  rw [k1_pay7]
  generalize k1_pay6 v0 v5 = b at h ⊢
  change IVec S10000x80 1 at b
  rw [← h, clip]
  pointwise []
  rfl

theorem weight_at (n : Fin 10000) : k1_pay5 v5 (ix2 n 0) = v5 (ix3 0 n 0) * Ideal.ofBits .f32 0x3F400000#32 := by
  pointwise [k1_pay5, k1_pay4]

theorem row_at (r : Fin 8) (l : Fin 128) : k1_pay1 (k1_pay5 v5) (k1_pay6 v0 v5) (k1_pay7 v0 v5 v12) (Scalar.ofBits .f32 0x3E800000#32) (ix2 r l)
    = if r.val = 0 then total v0 v5 v12 else 0 := by
  have h := hit_at v0 v5
  have hd := dist_at v0 v5 v12
  have hw := weight_at v5
  generalize k1_pay6 v0 v5 = b at h ⊢
  generalize k1_pay7 v0 v5 v12 = d at hd ⊢
  generalize k1_pay5 v5 = w at hw ⊢
  have e : total v0 v5 v12 = ∑ n : Fin 10000, ∑ k : Fin 80, elem (if b (ix2 n k) = 1#1 then Ideal.ofBits .f32 0x3E800000#32 else w (ix2 n 0)) (d (ix2 n k)) := by
    refine Finset.sum_congr rfl fun n _ => Finset.sum_congr rfl fun k _ => ?_
    rw [h, hd, hw, cell]
  rw [e]
  simp only [elem]
  fin_cases r <;> pointwise [k1_pay1] <;> rfl

end Pays

section Stores

variable (c : Dev nD) (i : grid1.Coords) (arg2 : Memref sig .tc .vmem S1x128 .f32) (harg2 : arg2.IsWhole)
  (arg3 : Memref sig .tc .vmem S1x10000x80 .f32) (harg3 : arg3.IsWhole)
  (arg4 : Memref sig .tc .vmem S1x10000x2 .f32) (harg4 : arg4.IsWhole)
  (arg5 : Memref sig .tc .vmem S1x8x128 .f32) (harg5 : arg5.IsWhole)
  (x0 : Vec Ideal S1x128 .f32) (x1 : Vec Ideal S1x10000x80 .f32) (x2 : Vec Ideal S1x10000x2 .f32)

/-- The class numbers the body reads. -/
def nums : Vec Ideal S1x80 .f32 :=
  View.readAt (Elt Ideal) arg2.view (Rect.unit (s := S1x128) ![0, 0] S1x80.size inb_S1x128_S1x80_0_0).toLoadRect (harg2.unread x0)

/-- The masks and codes the body reads. -/
def metas : Vec Ideal S1x10000x2 .f32 :=
  View.readAt (Elt Ideal) arg4.view (Rect.unit (s := S1x10000x2) ![0, 0, 0] S1x10000x2.size inb_S1x10000x2_S1x10000x2_0_0_0).toLoadRect (harg4.unread x2)

/-- The probabilities the body reads. -/
def probs : Vec Ideal S1x10000x80 .f32 :=
  View.readAt (Elt Ideal) arg3.view (Rect.unit (s := S1x10000x80) ![0, 0, 0] S1x10000x80.size inb_S1x10000x80_S1x10000x80_0_0_0).toLoadRect (harg3.unread x1)

theorem stores_A (hc0 : cond1_0 i) (hc1 : ¬cond1_1 i) :
    (kernelRun1_A c i arg2 harg2 arg3 harg3 arg4 harg4 arg5 harg5 hc0 hc1 x0 x1 x2).1
      = [⟨Rect.unit ![0, 0, 0] S1x8x128.size inb_S1x8x128_S1x8x128_0_0_0,
          k1_pay2 (k1_pay5 (metas arg4 harg4 x2)) (k1_pay6 (nums arg2 harg2 x0) (metas arg4 harg4 x2))
            (k1_pay7 (nums arg2 harg2 x0) (metas arg4 harg4 x2) (probs arg3 harg3 x1)) (Scalar.ofBits .f32 0x3E800000#32)⟩] := by
  sl_kernel_rfl

theorem stores_B (hc0 : ¬cond1_0 i) (hc1 : cond1_1 i) (xo : Vec Ideal S1x8x128 .f32) :
    (kernelRun1_B c i arg2 harg2 arg3 harg3 arg4 harg4 arg5 harg5 hc0 hc1 x0 x1 x2 xo).1
      = [⟨Rect.unit ![0, 0, 0] S1x8x128.size inb_S1x8x128_S1x8x128_0_0_0,
          k1_pay3 (k1_pay5 (metas arg4 harg4 x2)) (k1_pay6 (nums arg2 harg2 x0) (metas arg4 harg4 x2))
            (k1_pay7 (nums arg2 harg2 x0) (metas arg4 harg4 x2) (probs arg3 harg3 x1)) (Scalar.ofBits .f32 0x3E800000#32)
            (View.readAt (Elt Ideal) arg5.view (Rect.unit (s := S1x8x128) ![0, 0, 0] S1x8x128.size
              inb_S1x8x128_S1x8x128_0_0_0).toLoadRect (harg5.unread xo))⟩] := by
  sl_kernel_rfl

theorem nums_at (k : Fin 80) : nums arg2 harg2 x0 (ix2 0 k) = x0 (ix2 0 (k.castLE (by decide))) := by
  rw [nums, View.readAt_eq_ld, harg2.read_unread]
  refine View.ld_unit_apply_of _ _ _ _ _ _ fun a => ?_
  match a with
  | ⟨0, _⟩ => rfl
  | ⟨1, _⟩ => show k.val = 0 + k.val; omega

theorem metas_eq : metas arg4 harg4 x2 = x2 := by
  rw [metas, View.readAt_eq_ld, harg4.read_unread, View.ld_unit_lit _ _ (by decide)]

theorem probs_eq : probs arg3 harg3 x1 = x1 := by
  rw [probs, View.readAt_eq_ld, harg3.read_unread, View.ld_unit_lit _ _ (by decide)]

theorem out_A (hc0 : cond1_0 i) (hc1 : ¬cond1_1 i) (r : Fin 8) (l : Fin 128) :
    out1_A_3 c i arg2 harg2 arg3 harg3 arg4 harg4 arg5 harg5 hc0 hc1 x0 x1 x2 (ix3 0 r l)
      = if r.val = 0 then total (nums arg2 harg2 x0) x2 x1 else 0 := by
  have h : out1_A_3 c i arg2 harg2 arg3 harg3 arg4 harg4 arg5 harg5 hc0 hc1 x0 x1 x2
      = k1_pay2 (k1_pay5 (metas arg4 harg4 x2)) (k1_pay6 (nums arg2 harg2 x0) (metas arg4 harg4 x2))
            (k1_pay7 (nums arg2 harg2 x0) (metas arg4 harg4 x2) (probs arg3 harg3 x1)) (Scalar.ofBits .f32 0x3E800000#32) := by
    rw [out1_A_3, View.read_writes_junk_eq_canon, stores_A]
    exact View.canon_cons_unit_lit _ _ _ (by decide)
  rw [h, metas_eq, probs_eq, k1_pay2, ← row_at _ _ _ r l]
  generalize k1_pay1 (k1_pay5 x2) (k1_pay6 (nums arg2 harg2 x0) x2) (k1_pay7 (nums arg2 harg2 x0) x2 x1) _ = z
  pointwise []

theorem out_B (hc0 : ¬cond1_0 i) (hc1 : cond1_1 i) (xo : Vec Ideal S1x8x128 .f32) (r : Fin 8) (l : Fin 128) :
    out1_B_3 c i arg2 harg2 arg3 harg3 arg4 harg4 arg5 harg5 hc0 hc1 x0 x1 x2 xo (ix3 0 r l)
      = xo (ix3 0 r l) + if r.val = 0 then total (nums arg2 harg2 x0) x2 x1 else (0 : EReal) := by
  have h : out1_B_3 c i arg2 harg2 arg3 harg3 arg4 harg4 arg5 harg5 hc0 hc1 x0 x1 x2 xo
      = k1_pay3 (k1_pay5 (metas arg4 harg4 x2)) (k1_pay6 (nums arg2 harg2 x0) (metas arg4 harg4 x2))
            (k1_pay7 (nums arg2 harg2 x0) (metas arg4 harg4 x2) (probs arg3 harg3 x1)) (Scalar.ofBits .f32 0x3E800000#32) xo := by
    rw [out1_B_3, View.read_writes_junk_eq_canon, stores_B, View.readAt_eq_ld, harg5.read_unread, View.ld_unit_lit _ _ (by decide)]
    exact View.canon_cons_unit_lit _ _ _ (by decide)
  rw [h, metas_eq, probs_eq, k1_pay3, ← row_at _ _ _ r l]
  generalize k1_pay1 (k1_pay5 x2) (k1_pay6 (nums arg2 harg2 x0) x2) (k1_pay7 (nums arg2 harg2 x0) x2 x1) _ = z
  pointwise []

end Stores

section Array

variable (V : (c : Dev nD) → (b : Ref sig .tc) → Buf (Elt Ideal) ((c : Thread nD τ).loc b)) (c : Dev nD)

/-- The class numbers. -/
def Nk : S1x128.Idx → EReal := fun y => V c main_v14 y

/-- The probabilities. -/
def Xk : S4x100000x80.Idx → EReal := fun y => V c main_arg0 y

/-- The masks and codes, one pair to an anchor. -/
def Mk : S4x102400x2.Idx → EReal := fun y => V c main_v12 y

/-- The anchor at place `n` of block `s`. -/
def place (s : Fin 10) (n : Fin 10000) : Fin 100000 := ⟨s.val * 10000 + n.val, by have := s.isLt; have := n.isLt; omega⟩

/-- The loss of anchor `a` and class `k` of image `b`. -/
def cellOf (b : Fin 4) (a : Fin 100000) (k : Fin 80) : EReal :=
  cell (Nk V c (ix2 0 (k.castLE (by decide)))) (Mk V c (ix3 b (a.castLE (by decide)) 0)) (Mk V c (ix3 b (a.castLE (by decide)) 1))
    (Xk V c (ix3 b a k))

theorem index1 : ∀ t : Fin cfg1.N, win1_0.index t = ![0, 0] ∧ win1_1.index t = ![(grid1.coords t 0).val, (grid1.coords t 1).val, 0]
    ∧ win1_2.index t = ![(grid1.coords t 0).val, (grid1.coords t 1).val, 0]
    ∧ win1_3.index t = ![(grid1.coords t 0).val, 0, 0]
    ∧ (grid1.coords t 0).val = t.val / 10 ∧ (grid1.coords t 1).val = t.val % 10 := by decide +kernel

variable (t : Fin cfg1.N)

/-- The image of point `t`. -/
def img : Fin 4 := grid1.coords t 0

/-- The block of anchors of point `t`. -/
def blk : Fin 10 := grid1.coords t 1

theorem num_blk (k : Fin 128) : iblk1 V c 0 t (ix2 0 k) = Nk V c (ix2 0 k) := by
  rw [Nk]
  blk_ext [iblk1, (index1 t).1]

theorem prob_blk (n : Fin 10000) (k : Fin 80) : iblk1 V c 1 t (ix3 0 n k) = Xk V c (ix3 (img t) (place (blk t) n) k) := by
  rw [Xk, img, place, blk]
  blk_ext [iblk1, (index1 t).2.1]

theorem meta_blk (n : Fin 10000) (k : Fin 2) :
    X1_2 V c t (ix3 0 n k) = Mk V c (ix3 (img t) ((place (blk t) n).castLE (by decide)) k) := by
  rw [X1_2, Pipeline.Window.fill, dif_pos (moved1_2 t _), Mk, img, place, blk]
  blk_ext [iblk1, (index1 t).2.2.1]
  rfl

/-- What block `s` adds to row `r` of the image's sums. -/
def addC (b : Fin 4) (s : Fin 10) (r : Fin 8) : EReal :=
  if r.val = 0 then ∑ n : Fin 10000, ∑ k : Fin 80, cellOf V c b (place s n) k else 0

theorem total_t : total (nums (ms1_0 t) (hs1_0 t) (iblk1 V c 0 t)) (X1_2 V c t) (iblk1 V c 1 t)
    = ∑ n : Fin 10000, ∑ k : Fin 80, cellOf V c (img t) (place (blk t) n) k := by
  refine Finset.sum_congr rfl fun n _ => Finset.sum_congr rfl fun k _ => ?_
  rw [nums_at, num_blk, meta_blk, meta_blk, prob_blk, cellOf]

theorem sums_A (h0 : t.val % 10 = 0) (r : Fin 8) (l : Fin 128) :
    outsAt1 V c t.val t.isLt (ix3 0 r l) = 0 + addC V c (img t) (blk t) r := by
  rw [outsAt1_A V c t h0 (by omega), out_A, zero_add, addC, total_t]

theorem sums_B (h0 : ¬t.val % 10 = 0) (r : Fin 8) (l : Fin 128) :
    outsAt1 V c t.val t.isLt (ix3 0 r l)
      = outsAt1 V c (t.val - 1) (Nat.lt_of_le_of_lt (Nat.sub_le _ _) t.isLt) (ix3 0 r l) + addC V c (img t) (blk t) r := by
  rw [outsAt1_B V c t h0 (by omega), out_B, addC, total_t]

theorem row_eq (i : S1x8x128.Idx) : i = ix3 (0 : Fin 1) (i 1 : Fin 8) (i 2 : Fin 128) := by
  funext a
  fin_cases a
  · exact Fin.ext (Nat.lt_one_iff.mp (i 0).isLt)
  · rfl
  · rfl

/-- The array of sums. -/
theorem sums_arr : (dat1 V c).arrAt 3 cfg1.N = fun y : S4x8x128.Idx => ∑ s : Fin 10, addC V c (y 0) s (y 1) := by
  refine (dat1 V c).arrAt_eq_of_covers 3 _ (by decide +kernel) fun t hf y => ?_
  blk_simp
  rw [after1_3]
  have h1 : (win1_3.blk t).view.emb y 1 = y 1 := Fin.ext (by blk_simp [(index1 t).2.2.2.1])
  have h0 : img t = (win1_3.blk t).view.emb y 0 := Fin.ext (by blk_simp [(index1 t).2.2.2.1]; rfl)
  have h := Pipeline.eq_sum_fin_of_reset_step_apply_of_flush (fun n h => outsAt1 V c n h) 10 (fun _ => (0 : EReal))
    (fun t (y : S1x8x128.Idx) => addC V c (img t) (blk t) (y 1)) (fun t h i => ?_) (fun t h i => ?_) t ((flush1_3 t).mp hf) y
  · refine h.trans ?_
    rw [zero_add, ← h0]
    refine Finset.sum_congr rfl fun s _ => ?_
    have e : t.val / 10 = (img t).val := (index1 t).2.2.2.2.1.symm
    have e0 := (index1 ⟨10 * (t.val / 10) + s.val, Pipeline.run_point_lt_of_flush t ((flush1_3 t).mp hf) s⟩).2.2.2.2
    have ei : img ⟨10 * (t.val / 10) + s.val, Pipeline.run_point_lt_of_flush t ((flush1_3 t).mp hf) s⟩ = img t :=
      Fin.ext (e0.1.trans (by have := s.isLt; simp only []; omega))
    have eb : blk ⟨10 * (t.val / 10) + s.val, Pipeline.run_point_lt_of_flush t ((flush1_3 t).mp hf) s⟩ = s :=
      Fin.ext (e0.2.trans (by have := s.isLt; simp only []; omega))
    show addC V c (img _) (blk _) (y 1) = addC V c (img t) s _
    rw [ei, eb, h1]
  · rw [row_eq i]; exact sums_A V c t h _ _
  · rw [row_eq i]; exact sums_B V c t h _ _

end Array

end Cert.KernelIdeal.Rates

end
-- ==== Proof.KernelIdeal.Host.lean ====
/- The arrays that the two kernels read, from the arguments. -/
module

public import proofs.«01_k».proof.Proof.KernelIdeal.Whole
public import proofs.«01_k».proof.Proof.KernelIdeal.Arrays0
public import proofs.«01_k».proof.Proof.KernelIdeal.Rates

@[expose] public section

set_option maxRecDepth 16384

noncomputable section

namespace Cert.KernelIdeal.Host

open Cert.KernelIdeal Cert.KernelIdeal.Gen Cert.KernelIdeal.Whole Cert.Math Idealize.ShloMosaic Idealize.ShloMosaic.TcCoe Idealize.SL.Sem Idealize.ShloMosaic.StableHlo

section Seg

variable (X : Valuation τ sig (Elt Ideal))

theorem seg_v0 : after hostOps0 X (Proc.devRef .tc main_v0) = shapeCast S100000x4 (X (Proc.devRef .tc main_arg2)) shapeCasts_S1x100000x4_S100000x4 := by
  simp only [hostOps0]
  after_results_simp
  rfl

theorem seg_v1 : after hostOps0_1 X (Proc.devRef .tc main_v1)
    = pad S102400x4 ![0, 0] ![2400, 0] ![0, 0] (X (Proc.devRef .tc main_v0)) (sitofp (F := Ideal) .f32 (X (Proc.devRef .tc main_c))) pads_S100000x4_S102400x4_024000_000 h_S_ := by
  simp only [hostOps0_1, TRef.binary, TRef.unary, TRef.toBuf, TRef.ofBuf, cast_eq]
  after_results_simp

theorem seg_v3 : after hostOps0_2 X (Proc.devRef .tc main_v3)
    = shapeCast S4x4x200x128 (transpose S4x102400 [1, 0] (X (Proc.devRef .tc main_v1)) transposes_S102400x4_S4x102400_1_0) shapeCasts_S4x102400_S4x4x200x128 := by
  simp only [hostOps0_2]
  after_results_simp
  rfl

theorem seg_v4 : after hostOps0_3 X (Proc.devRef .tc main_v4)
    = pad S4x102400x4 ![0, 0, 0] ![0, 2400, 0] ![0, 0, 0] (X (Proc.devRef .tc main_arg1)) (sitofp (F := Ideal) .f32 (X (Proc.devRef .tc main_c_0))) pads_S4x100000x4_S4x102400x4_000_024000_000 h_S_ := by
  simp only [hostOps0_3, TRef.binary, TRef.unary, TRef.toBuf, TRef.ofBuf, cast_eq]
  after_results_simp

theorem seg_v6 : after hostOps0_4 X (Proc.devRef .tc main_v6)
    = shapeCast S4x4x4x200x128 (transpose S4x4x102400 [0, 2, 1] (X (Proc.devRef .tc main_v4)) transposes_S4x102400x4_S4x4x102400_0_2_1) shapeCasts_S4x4x102400_S4x4x4x200x128 := by
  simp only [hostOps0_4]
  after_results_simp
  rfl

theorem seg_v9 : after hostOps0_4 X (Proc.devRef .tc main_v9)
    = concatenate S4x32x8 2 [⟨S4x32x7, X (Proc.devRef .tc main_arg4)⟩, ⟨S4x32x1, broadcastInDim S4x32x1 ![0, 1, 2] bcast_S4x1x1_S4x32x1_0_1_2 (broadcastInDim S4x1x1 ![0, 2] bcast_S4x1_S4x1x1_0_2 (X (Proc.devRef .tc main_arg3)))⟩] concatenates_S4x32x7_S4x32x1_S4x32x8_d2 := by
  simp only [hostOps0_4]
  after_results_simp
  rfl

theorem seg_v12 : after hostOps1 X (Proc.devRef .tc main_v12)
    = transpose S4x102400x2 [0, 2, 1] (shapeCast S4x2x102400 (X (Proc.devRef .tc main_v10_0)) shapeCasts_S4x2x4x200x128_S4x2x102400) transposes_S4x2x102400_S4x102400x2_0_2_1 := by
  simp only [hostOps1]
  after_results_simp
  rfl

theorem seg_v14 : after hostOps1 X (Proc.devRef .tc main_v14)
    = broadcastInDim S1x128 ![1] bcast_S128_S1x128_1 (sitofp (F := Ideal) .f32 (iotaInDim S128 32 0)) := by
  simp only [hostOps1]
  after_results_simp

end Seg

section Reads

theorem pad2_at (x : FVec Ideal S1x100000x4 .f32) (v : FVec Ideal S_ .f32) (k s : Fin 4) (r : Fin 200) (l : Fin 128) (a : Fin 100000)
    (h : s.val * 25600 + r.val * 128 + l.val = a.val) :
    shapeCast S4x4x200x128 (transpose S4x102400 [1, 0] (pad S102400x4 ![0, 0] ![2400, 0] ![0, 0] (shapeCast S100000x4 x shapeCasts_S1x100000x4_S100000x4) v
      pads_S100000x4_S102400x4_024000_000 h_S_) transposes_S102400x4_S4x102400_1_0) shapeCasts_S4x102400_S4x4x200x128 (ix4 k s r l) = x (ix3 0 a k) := by
  pointwise []
  rw [dif_pos (by omega)]
  exact congrArg (fun a => x (ix3 0 a k)) (Fin.ext h)

theorem pad1_at (x : FVec Ideal S4x100000x4 .f32) (v : FVec Ideal S_ .f32) (b k s : Fin 4) (r : Fin 200) (l : Fin 128) (a : Fin 100000)
    (h : s.val * 25600 + r.val * 128 + l.val = a.val) :
    shapeCast S4x4x4x200x128 (transpose S4x4x102400 [0, 2, 1] (pad S4x102400x4 ![0, 0, 0] ![0, 2400, 0] ![0, 0, 0] x v
      pads_S4x100000x4_S4x102400x4_000_024000_000 h_S_) transposes_S4x102400x4_S4x4x102400_0_2_1) shapeCasts_S4x4x102400_S4x4x4x200x128 (ix5 b k s r l)
      = x (ix3 b a k) := by
  pointwise []
  rw [dif_pos (by omega)]
  exact congrArg (fun a => x (ix3 b a k)) (Fin.ext h)

theorem meta_at (x : FVec Ideal S4x2x4x200x128 .f32) (b s : Fin 4) (j : Fin 2) (r : Fin 200) (l : Fin 128) (a : Fin 102400)
    (h : s.val * 25600 + r.val * 128 + l.val = a.val) :
    transpose S4x102400x2 [0, 2, 1] (shapeCast S4x2x102400 x shapeCasts_S4x2x4x200x128_S4x2x102400) transposes_S4x2x102400_S4x102400x2_0_2_1 (ix3 b a j)
      = x (ix5 b j s r l) := by
  pointwise []
  have hr := r.isLt
  have hl := l.isLt
  have e1 : (⟨a.val / 25600, by omega⟩ : Fin 4) = s := Fin.ext (by show a.val / 25600 = s.val; omega)
  have e2 : (⟨a.val / 128 % 200, by omega⟩ : Fin 200) = r := Fin.ext (by show a.val / 128 % 200 = r.val; omega)
  have e3 : (⟨a.val % 128, by omega⟩ : Fin 128) = l := Fin.ext (by show a.val % 128 = l.val; omega)
  rw [e1, e2, e3]

theorem num_at (k : Fin 128) : broadcastInDim S1x128 ![1] bcast_S128_S1x128_1 (sitofp (F := Ideal) .f32 (iotaInDim S128 32 0)) (ix2 0 k) = ((k.val : ℝ) : EReal) := by
  pointwise []
  have hk := k.isLt
  show (((BitVec.ofNat 32 k.val).toInt : ℝ) : EReal) = _
  rw [BitVec.toInt_eq_toNat_of_lt (by rw [BitVec.toNat_ofNat, Nat.mod_eq_of_lt (by omega)]; omega), BitVec.toNat_ofNat, Nat.mod_eq_of_lt (by omega)]
  norm_num

theorem word_at (x : FVec Ideal S4x32x7 .f32) (y : FVec Ideal S4x1 .f32) (b : Fin 4) (n : Fin 32) (k : Fin 8) :
    concatenate S4x32x8 2 [⟨S4x32x7, x⟩, ⟨S4x32x1, broadcastInDim S4x32x1 ![0, 1, 2] bcast_S4x1x1_S4x32x1_0_1_2 (broadcastInDim S4x1x1 ![0, 2] bcast_S4x1_S4x1x1_0_2 y)⟩] concatenates_S4x32x7_S4x32x1_S4x32x8_d2 (ix3 b n k)
      = if h : k.val < 7 then x (ix3 b n ⟨k.val, h⟩) else y (ix2 b 0) := by
  fin_cases k <;> pointwise []

end Reads

section Tail

variable (X : Valuation τ sig (Elt Ideal)) (s z : S4x8x128.Idx → EReal)

theorem seg_v30 (hs : X (Proc.devRef .tc main_v10_1) = s) (hz : X (Proc.devRef .tc main_v15) = z) :
    (after hostOps2 X (Proc.devRef .tc main_v30) : S1.Idx → EReal) (ix1 0)
      = Ideal.div (∑ j : Fin 4, Ideal.div (z (ix3 j 0 0)) (max (s (ix3 j 0 0)) 1)) (Ideal.ofBits .f32 0x40800000#32) := by
  simp only [hostOps2]
  after_results_simp
  rw [hs, hz]
  pointwise []

theorem seg_v32 (hs : X (Proc.devRef .tc main_v10_1) = s) (j : Fin 4) :
    (after hostOps2 X (Proc.devRef .tc main_v32) : S4.Idx → BitVec 1) (ix1 j) = BitVec.ofBool (decide (0 < s (ix3 j 0 0))) := by
  simp only [hostOps2]
  after_results_simp
  rw [hs]
  pointwise []

theorem seg_v37 (hs : X (Proc.devRef .tc main_v10_1) = s) (j : Fin 4) :
    (after hostOps2 X (Proc.devRef .tc main_v37) : S4.Idx → EReal) (ix1 j)
      = Ideal.div (s (ix3 j 1 0)) (max (s (ix3 j 0 0) * Ideal.ofBits .f32 0x40800000#32) 1) := by
  simp only [hostOps2]
  after_results_simp
  rw [hs]
  pointwise []

theorem seg_cst_6 : after hostOps2 X (Proc.devRef .tc main_cst_6) = (fun _ => 0 : S_.Idx → EReal) := by
  simp only [hostOps2]
  after_results_simp
  have h : ∀ i : S_.Idx, (constant (F := Ideal) S_ .f32 0#32 i : EReal) = 0 := fun i => by pointwise []
  exact funext h

theorem seg_v21 (hs : X (Proc.devRef .tc main_v10_1) = s) (j : Fin 4) :
    (after hostOps2 X (Proc.devRef .tc main_v21) : S4.Idx → EReal) (ix1 j) = s (ix3 j 2 0) := by
  simp only [hostOps2]
  after_results_simp
  rw [hs]
  pointwise []

theorem seg_v38 (p : S4.Idx → BitVec 1) (q : S4.Idx → EReal) (hp : X (Proc.devRef .tc main_v32) = p) (hq : X (Proc.devRef .tc main_v37) = q)
    (h0 : X (Proc.devRef .tc main_cst_6) = (fun _ => 0 : S_.Idx → EReal)) (j : Fin 4) :
    (after hostOps2_1 X (Proc.devRef .tc main_v38) : S4.Idx → EReal) (ix1 j) = Scalar.select (p (ix1 j)) (q (ix1 j)) 0 := by
  simp only [hostOps2_1, TRef.ternary, TRef.unary, TRef.toBuf, TRef.ofBuf, cast_eq]
  after_results_simp
  rw [hp, hq, h0]
  pointwise []
  rfl

theorem seg_v42 (q : S4.Idx → EReal) (hq : X (Proc.devRef .tc main_v38) = q) :
    (after hostOps2_2 X (Proc.devRef .tc main_v42) : S1.Idx → EReal) (ix1 0)
      = Ideal.div (∑ j : Fin 4, q (ix1 j)) (Ideal.ofBits .f32 0x40800000#32) := by
  simp only [hostOps2_2]
  after_results_simp
  rw [hq]
  pointwise []

theorem seg_v46 (q : S4.Idx → EReal) (hq : X (Proc.devRef .tc main_v21) = q) :
    (after hostOps2_2 X (Proc.devRef .tc main_v46) : S1.Idx → EReal) (ix1 0)
      = Ideal.div (∑ j : Fin 4, q (ix1 j)) (Ideal.ofBits .f32 0x40800000#32) := by
  simp only [hostOps2_2]
  after_results_simp
  rw [hq]
  pointwise []

end Tail

end Cert.KernelIdeal.Host

end
-- ==== Proof.KernelIdeal.Value.lean ====
/- The three results of the kernel: the three losses of the arguments. -/
module

public import proofs.«01_k».proof.Proof.KernelIdeal.Host
public import proofs.«01_k».proof.Proof.Math.Blocks

@[expose] public section

set_option maxRecDepth 16384

noncomputable section

namespace Cert.KernelIdeal.Host

open Cert.KernelIdeal Cert.KernelIdeal.Gen Cert.KernelIdeal.Whole Cert.Math Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The probabilities, as given. -/
def arr0 : S4x100000x80.Idx → EReal := fun y => m ((c : Thread nD τ).loc main_arg0) y
/-- The regressions, as given. -/
def arr1 : S4x100000x4.Idx → EReal := fun y => m ((c : Thread nD τ).loc main_arg1) y
/-- The anchors, as given. -/
def arr2 : S1x100000x4.Idx → EReal := fun y => m ((c : Thread nD τ).loc main_arg2) y
/-- The box predictions, as given. -/
def arr3 : S4x1.Idx → EReal := fun y => m ((c : Thread nD τ).loc main_arg3) y
/-- The annotations, as given. -/
def arr4 : S4x32x7.Idx → EReal := fun y => m ((c : Thread nD τ).loc main_arg4) y

/-- The probability of each image, anchor and class. -/
def argX (x : S4x100000x80.Idx → EReal) : Fin 4 → Fin 100000 → Fin 80 → EReal := fun b a k => x (ix3 b a k)
/-- The prediction of each image and anchor. -/
def argQ (x : S4x100000x4.Idx → EReal) : Fin 4 → Fin 100000 → Fin 4 → EReal := fun b a k => x (ix3 b a k)
/-- The anchors. -/
def argP (x : S1x100000x4.Idx → EReal) : Fin 100000 → Fin 4 → EReal := fun a k => x (ix3 0 a k)
/-- The box prediction of each image. -/
def argV (x : S4x1.Idx → EReal) : Fin 4 → EReal := fun b => x (ix2 b 0)
/-- The boxes of each image. -/
def argA (x : S4x32x7.Idx → EReal) : Fin 4 → Fin 32 → Fin 7 → EReal := fun b n k => x (ix3 b n k)

section Reads

theorem An_eq (b : Fin 4) (n : Fin 32) (k : Fin 8) :
    Boxes.An (V5 m ρ) c (ix3 b n k) = if h : k.val < 7 then arr4 m c (ix3 b n ⟨k.val, h⟩) else arr3 m c (ix2 b 0) := by
  have e3 : W4 m ρ c (Proc.devRef .tc main_arg3) = m ((c : Thread nD τ).loc main_arg3) := W4_args m ρ c _ (by decide)
  have e4 : W4 m ρ c (Proc.devRef .tc main_arg4) = m ((c : Thread nD τ).loc main_arg4) := W4_args m ρ c _ (by decide)
  show after hostOps0_4 (W4 m ρ c) (Proc.devRef .tc main_v9) (ix3 b n k) = _
  rw [seg_v9, e3, e4]
  exact word_at (arr4 m c) (arr3 m c) b n k

theorem Pk_eq (k s : Fin 4) (r : Fin 200) (l : Fin 128) (a : Fin 100000) (h : s.val * 25600 + r.val * 128 + l.val = a.val) :
    Boxes.Pk (V5 m ρ) c (ix4 k s r l) = arr2 m c (ix3 0 a k) := by
  have e : W5 m ρ c (Proc.devRef .tc main_v3) = W3 m ρ c (Proc.devRef .tc main_v3) :=
    (W5_of m ρ c _ (by decide)).trans (W4_of m ρ c _ (by decide))
  show W5 m ρ c (Proc.devRef .tc main_v3) (ix4 k s r l) = _
  rw [e]
  show after hostOps0_2 (after hostOps0_1 (after hostOps0 (W0 m ρ c))) (Proc.devRef .tc main_v3) (ix4 k s r l) = _
  rw [seg_v3, seg_v1, seg_v0]
  exact pad2_at (arr2 m c) _ k s r l a h

theorem Rk_eq (b k s : Fin 4) (r : Fin 200) (l : Fin 128) (a : Fin 100000) (h : s.val * 25600 + r.val * 128 + l.val = a.val) :
    Boxes.Rk (V5 m ρ) c (ix5 b k s r l) = arr1 m c (ix3 b a k) := by
  have e1 : W3 m ρ c (Proc.devRef .tc main_arg1) = m ((c : Thread nD τ).loc main_arg1) := W3_args m ρ c _ (by decide)
  show after hostOps0_4 (after hostOps0_3 (W3 m ρ c)) (Proc.devRef .tc main_v6) (ix5 b k s r l) = _
  rw [seg_v6, seg_v4, e1]
  exact pad1_at (arr1 m c) _ b k s r l a h

theorem pA_eq (b : Fin 4) : Boxes.pA (V5 m ρ) c b = argA (arr4 m c) b := by
  funext n k
  exact (An_eq m ρ c b n _).trans (dif_pos (show (k.castLE (by decide) : Fin 8).val < 7 from k.isLt))

theorem pP_eq (s : Fin 4) (r : Fin 200) (l : Fin 128) (a : Fin 100000) (h : s.val * 25600 + r.val * 128 + l.val = a.val) :
    Boxes.pP (V5 m ρ) c s r l = argP (arr2 m c) a := funext fun k => Pk_eq m ρ c k s r l a h

theorem pQ_eq (b s : Fin 4) (r : Fin 200) (l : Fin 128) (a : Fin 100000) (h : s.val * 25600 + r.val * 128 + l.val = a.val) :
    Boxes.pQ (V5 m ρ) c b s r l = argQ (arr1 m c) b a := funext fun k => Rk_eq m ρ c b k s r l a h

theorem live (s : Fin 4) (r : Fin 200) (l : Fin 128) (a : Fin 100000) (h : s.val * 25600 + r.val * 128 + l.val = a.val) :
    Boxes.pL s r l := by
  rw [Boxes.pL, h]; exact a.isLt

end Reads

section Sums

open Classical in
theorem count_eq (b : Fin 4) : ∑ s : Fin 4, Boxes.countV (V5 m ρ) c b s = npos (argA (arr4 m c) b) (argP (arr2 m c)) := by
  refine sum_blocks _ _ (fun s r l a h => ?_) (fun s r l h => ?_)
  · rw [pA_eq, pP_eq m ρ c s r l a h]
    exact if_congr (and_iff_left (live s r l a h)) rfl rfl
  · exact if_neg fun hh => h hh.2

open Classical in
theorem reg_eq (b : Fin 4) : ∑ s : Fin 4, Boxes.regV (V5 m ρ) c b s
    = regS (argA (arr4 m c) b) (argP (arr2 m c)) (argQ (arr1 m c) b) := by
  refine sum_blocks _ _ (fun s r l a h => ?_) (fun s r l h => ?_)
  · rw [pA_eq, pP_eq m ρ c s r l a h, pQ_eq m ρ c b s r l a h]
    exact if_congr (and_iff_left (live s r l a h)) rfl rfl
  · exact if_neg fun hh => h hh.2

/-- The sums that the assigning kernel leaves. -/
def sums0 : S4x8x128.Idx → EReal := fun y => ∑ s : Fin 4, Boxes.addV (V5 m ρ) c (y 0) s (y 1)

theorem sums0_0 (b : Fin 4) : sums0 m ρ c (ix3 b 0 0) = npos (argA (arr4 m c) b) (argP (arr2 m c)) := count_eq m ρ c b

theorem sums0_1 (b : Fin 4) : sums0 m ρ c (ix3 b 1 0) = regS (argA (arr4 m c) b) (argP (arr2 m c)) (argQ (arr1 m c) b) := reg_eq m ρ c b

theorem sums0_2 (b : Fin 4) : sums0 m ρ c (ix3 b 2 0) = soft (argV (arr3 m c) b) := by
  have e : ∀ s : Fin 4, Boxes.addV (V5 m ρ) c b s 2 = if s.val = 0 then soft (argV (arr3 m c) b) else 0 := fun s => by
    rw [Boxes.addV, if_neg (by decide), if_neg (by decide), An_eq, dif_neg (by decide), argV]
    exact if_congr (and_iff_right rfl) rfl rfl
  show ∑ s : Fin 4, Boxes.addV (V5 m ρ) c b s 2 = _
  simp only [e]
  rw [Fin.sum_univ_four]
  simp

end Sums

section Classes

theorem Xk_eq (b : Fin 4) (a : Fin 100000) (k : Fin 80) : Rates.Xk (V7 m ρ) c (ix3 b a k) = argX (arr0 m c) b a k := by
  have e : W7 m ρ c (Proc.devRef .tc main_arg0) = m ((c : Thread nD τ).loc main_arg0) := W7_args m ρ c _ (by decide)
  show W7 m ρ c (Proc.devRef .tc main_arg0) (ix3 b a k) = _
  rw [e]
  rfl

theorem Nk_eq (k : Fin 128) : Rates.Nk (V7 m ρ) c (ix2 0 k) = ((k.val : ℝ) : EReal) := by
  show after hostOps1 (W6 m ρ c) (Proc.devRef .tc main_v14) (ix2 0 k) = _
  rw [seg_v14]
  exact num_at k

theorem Mk_eq (b s : Fin 4) (j : Fin 2) (r : Fin 200) (l : Fin 128) (a : Fin 102400) (h : s.val * 25600 + r.val * 128 + l.val = a.val) :
    Rates.Mk (V7 m ρ) c (ix3 b a j) = if j.val = 0 then Boxes.maskV (V5 m ρ) c b s r l else Boxes.codeV (V5 m ρ) c b s r l := by
  have e : W6 m ρ c (Proc.devRef .tc main_v10_0) = _ := (W6_arr m ρ c 3).trans (Boxes.meta_arr (V5 m ρ) c)
  show after hostOps1 (W6 m ρ c) (Proc.devRef .tc main_v12) (ix3 b a j) = _
  rw [seg_v12, e]
  exact meta_at _ b s j r l a h

open Classical in
theorem cell_eq (hA : ∀ b n, Ids (argA (arr4 m c) b n)) (b : Fin 4) (a : Fin 100000) (k : Fin 80) :
    Rates.cellOf (V7 m ρ) c b a k = clsOne (argP (arr2 m c) a) (argA (arr4 m c) b) k (argX (arr0 m c) b a k) := by
  have hs : a.val / 25600 < 4 := by have := a.isLt; omega
  have h : a.val / 25600 * 25600 + a.val / 128 % 200 * 128 + a.val % 128 = a.val := by omega
  rw [Rates.cellOf, Nk_eq, Xk_eq,
    Mk_eq m ρ c b ⟨a.val / 25600, hs⟩ 0 ⟨a.val / 128 % 200, by omega⟩ ⟨a.val % 128, by omega⟩ _ h,
    Mk_eq m ρ c b ⟨a.val / 25600, hs⟩ 1 ⟨a.val / 128 % 200, by omega⟩ ⟨a.val % 128, by omega⟩ _ h,
    if_pos (show (0 : Fin 2).val = 0 from rfl), if_neg (show ¬(1 : Fin 2).val = 0 by decide), Boxes.maskV, Boxes.codeV, pA_eq,
    pP_eq m ρ c ⟨a.val / 25600, hs⟩ ⟨a.val / 128 % 200, by omega⟩ ⟨a.val % 128, by omega⟩ a h, clsOne]
  have hL := live ⟨a.val / 25600, hs⟩ ⟨a.val / 128 % 200, by omega⟩ ⟨a.val % 128, by omega⟩ a h
  generalize argX (arr0 m c) b a k = x
  have hI : Ids (box (argP (arr2 m c) a) (argA (arr4 m c) b)) := hA b _
  generalize argP (arr2 m c) a = p at *
  generalize argA (arr4 m c) b = A at *
  obtain ⟨i, j, n, hi, hj, hn, ei, ej, en⟩ := hI.nats
  have hk := k.isLt
  have hm : (if (Pos p A ∨ Low p A) ∧ Boxes.pL ⟨a.val / 25600, hs⟩ ⟨a.val / 128 % 200, by omega⟩ ⟨a.val % 128, by omega⟩ then (1 : EReal) else 0)
      = if Pos p A ∨ Low p A then 1 else 0 := if_congr (and_iff_left hL) rfl rfl
  have hn1 : BitVec.ofNat 32 k.val + 1#32 = BitVec.ofNat 32 (k.val + 1) := (BitVec.ofNat_add _ _).symm
  rw [hm, Rates.cell, show ((k.castLE (by decide) : Fin 128).val : ℝ) = (k.val : ℝ) from rfl, fptosi_nat k.val (by omega), hn1]
  by_cases hP : Pos p A
  · rw [if_pos (show Pos p A ∧ _ from ⟨hP, hL⟩), ei, ej, en, code_val, fptosi_nat _ (code_lt hi hj hn)]
    have hH : Hot (box p A) k ↔ coded (BitVec.ofNat 32 (code i j n)) (BitVec.ofNat 32 (k.val + 1)) = 1#1 := by
      rw [coded_code hi hj hn hk, Hot, ei, ej, en, nat_real, nat_real, nat_real]
    by_cases hh : coded (BitVec.ofNat 32 (code i j n)) (BitVec.ofNat 32 (k.val + 1)) = 1#1
    · rw [if_pos hh, if_pos hh, elem_hit x True, focal_hit (live' := True) (⟨hP, hH.mpr hh⟩ : Pos p A ∧ Hot (box p A) k)]
    · rw [if_neg hh, if_neg hh, elem_live]
      exact (focal_miss (fun h => hh (hH.mp h.2)) Iff.rfl x).symm
  · rw [if_neg (show ¬(Pos p A ∧ _) from fun h => hP h.1)]
    have hz : Ideal.fptosi 32 (0 : EReal) = BitVec.ofNat 32 0 := by
      have := fptosi_nat 0 (by norm_num)
      rwa [Nat.cast_zero, EReal.coe_zero] at this
    rw [hz, if_neg (coded_none hk), if_neg (coded_none hk), elem_live]
    exact (focal_miss (fun h => hP h.1) Iff.rfl x).symm

/-- The sums that the focal kernel leaves. -/
def sums1 : S4x8x128.Idx → EReal := fun y => ∑ s : Fin 10, Rates.addC (V7 m ρ) c (y 0) s (y 1)

theorem sums1_0 (hA : ∀ b n, Ids (argA (arr4 m c) b n)) (b : Fin 4) :
    sums1 m ρ c (ix3 b 0 0) = clsS (argA (arr4 m c) b) (argP (arr2 m c)) (argX (arr0 m c) b) := by
  have e0 : ∀ s : Fin 10, Rates.addC (V7 m ρ) c b s 0 = ∑ n : Fin 10000, ∑ k : Fin 80, Rates.cellOf (V7 m ρ) c b (Rates.place s n) k :=
    fun s => if_pos rfl
  show ∑ s : Fin 10, Rates.addC (V7 m ρ) c b s 0 = _
  simp only [e0]
  refine sum_tens (fun a => ∑ k, clsOne (argP (arr2 m c) a) (argA (arr4 m c) b) k (argX (arr0 m c) b a k)) _ fun s n a h => ?_
  have e : Rates.place s n = a := Fin.ext h
  rw [e]
  exact Finset.sum_congr rfl fun k _ => cell_eq m ρ c hA b a k

end Classes

section Results

theorem arr_sums0 : W8 m ρ c (Proc.devRef .tc main_v10_1) = sums0 m ρ c :=
  (W8_of_ne m ρ c main_v10_1 (by decide)).trans ((W7_of m ρ c main_v10_1 (by decide)).trans
    ((W6_arr m ρ c 4).trans (Boxes.sums_arr (V5 m ρ) c)))

theorem arr_sums1 : W8 m ρ c (Proc.devRef .tc main_v15) = sums1 m ρ c := (W8_arr m ρ c 3).trans (Rates.sums_arr (V7 m ρ) c)

theorem result0 (hA : ∀ b n, Ids (argA (arr4 m c) b n)) :
    (W11 m ρ c (Proc.devRef .tc main_v30) : S1.Idx → EReal) (ix1 0) = loss1 (argP (arr2 m c)) (argA (arr4 m c)) (argX (arr0 m c)) := by
  have e : W11 m ρ c (Proc.devRef .tc main_v30) = W9 m ρ c (Proc.devRef .tc main_v30) :=
    (W11_of m ρ c _ (by decide)).trans (W10_of m ρ c _ (by decide))
  rw [e]
  refine (seg_v30 (W8 m ρ c) (sums0 m ρ c) (sums1 m ρ c) (arr_sums0 m ρ c) (arr_sums1 m ρ c)).trans ?_
  rw [loss1]
  simp only [sums0_0, sums1_0 m ρ c hA]

theorem result1 :
    (W11 m ρ c (Proc.devRef .tc main_v42) : S1.Idx → EReal) (ix1 0) = loss2 (argP (arr2 m c)) (argA (arr4 m c)) (argQ (arr1 m c)) := by
  refine (seg_v42 (W10 m ρ c) _ rfl).trans ?_
  rw [loss2]
  refine congrArg (fun z => Ideal.div z _) (Finset.sum_congr rfl fun j _ => ?_)
  refine (seg_v38 (W9 m ρ c) _ _ rfl rfl (seg_cst_6 (W8 m ρ c)) j).trans ?_
  have e32 := seg_v32 (W8 m ρ c) (sums0 m ρ c) (arr_sums0 m ρ c) j
  have e37 := seg_v37 (W8 m ρ c) (sums0 m ρ c) (arr_sums0 m ρ c) j
  rw [sums0_0] at e32
  rw [sums0_0, sums0_1] at e37
  refine (congrArg₂ (fun x y => Scalar.select x y (0 : EReal)) e32 e37).trans ?_
  rw [Boxes.select_flag]
  exact if_congr decide_eq_true_iff rfl rfl

theorem result2 : (W11 m ρ c (Proc.devRef .tc main_v46) : S1.Idx → EReal) (ix1 0) = loss3 (argV (arr3 m c)) := by
  refine (seg_v46 (W10 m ρ c) _ rfl).trans ?_
  rw [loss3]
  refine congrArg (fun z => Ideal.div z _) (Finset.sum_congr rfl fun j _ => ?_)
  have e : W10 m ρ c (Proc.devRef .tc main_v21) = W9 m ρ c (Proc.devRef .tc main_v21) := W10_of m ρ c _ (by decide)
  rw [e]
  exact (seg_v21 (W8 m ρ c) (sums0 m ρ c) (arr_sums0 m ρ c) j).trans (sums0_2 m ρ c j)

end Results

end Cert.KernelIdeal.Host

end
-- ==== Proof.Math.Pre.lean ====
/- What the precondition says of the annotations. -/
module

public import proofs.«01_k».proof.Pre_ids_are_classes
public import proofs.«01_k».proof.Proof.Math.Spec

@[expose] public section

noncomputable section

namespace Cert.Math

open Idealize.ShloMosaic Idealize.ShloMosaic.StableHlo Cert.Pre_ids_are_classes

/-- The shape facts that the precondition states. -/
theorem preFacts : Cert.Pre_ids_are_classes.Facts where
  slices_S4x32x7_S4x32x3_0_0_4 := by decide
  bcast_S_S4x32x3 := by decide

theorem ids_top_val : Ideal.ofBits .f32 0x429E0000#32 = ((79 : ℝ) : EReal) := by
  simp [Ideal.ofBits, Ideal.ieee, -EReal.coe_mul]
  norm_num

theorem zero_bits_val : Ideal.ofBits .f32 0x00000000#32 = 0 := by
  simp [Ideal.ofBits, Ideal.ieee]

/-- A number that is a 32 bit integer between 0 and 79 is one of the class numbers. -/
theorem class_of_bits {x : EReal} {z : BitVec 32} (h : x = ((z.toInt : ℝ) : EReal))
    (h0 : 0 ≤ x) (h1 : x ≤ ((79 : ℝ) : EReal)) : ∃ n : ℕ, n < 80 ∧ x = ((n : ℝ) : EReal) := by
  subst h
  have a : 0 ≤ z.toInt := by exact_mod_cast (EReal.coe_nonneg.mp h0)
  have b : z.toInt ≤ 79 := by exact_mod_cast (EReal.coe_le_coe_iff.mp h1)
  obtain ⟨n, e⟩ := Int.eq_ofNat_of_zero_le a
  refine ⟨n, by omega, ?_⟩
  rw [e]
  norm_cast

theorem and_one {a b : BitVec 1} (h : a &&& b = 1#1) : a = 1#1 ∧ b = 1#1 := by
  revert a b
  decide

theorem decide_of_one {p : Prop} [Decidable p] (h : BitVec.ofBool (decide p) = 1#1) : p := by
  by_contra hp
  rw [decide_eq_false hp] at h
  exact absurd h (by decide)

/-- Where the precondition holds, the last three entries of every annotation are class numbers. -/
theorem ids_of_pre [Cert.Pre_ids_are_classes.Facts] {a0 a1 a2 a3} {a4 : FVec Ideal S4x32x7 .f32}
    (h : Cert.Pre_ids_are_classes.fn (F := Ideal) a0 a1 a2 a3 a4 = fun _ => 1#1)
    (b : Fin 4) (n : Fin 32) : Ids fun k => (a4 : S4x32x7.Idx → EReal) (ix3 b n k) := by
  intro k hk
  have e := congrFun h (ix3 b n ⟨k.val - 4, by omega⟩)
  obtain ⟨e', e2⟩ := and_one e
  obtain ⟨e0, e1⟩ := and_one e'
  have i : (extractStridedSlice S4x32x3 ![0, 0, 4] a4 Facts.slices_S4x32x7_S4x32x3_0_0_4 : S4x32x3.Idx → EReal)
      (ix3 b n ⟨k.val - 4, by omega⟩) = (a4 : S4x32x7.Idx → EReal) (ix3 b n k) := by
    refine congrArg a4 (funext fun d => Fin.ext ?_)
    match d with
    | ⟨0, _⟩ => exact Nat.zero_add _
    | ⟨1, _⟩ => exact Nat.zero_add _
    | ⟨2, _⟩ => exact Nat.add_sub_cancel' hk
  have f0 : _ = (((Ideal.fptosi 32 _).toInt : ℝ) : EReal) := decide_of_one e0
  have f1 : Ideal.ofBits .f32 0x00000000#32 ≤ _ := decide_of_one e1
  have f2 : _ ≤ Ideal.ofBits .f32 0x429E0000#32 := decide_of_one e2
  rw [zero_bits_val] at f1
  rw [ids_top_val] at f2
  obtain ⟨q, hq, eq⟩ := class_of_bits f0 f1 f2
  exact ⟨q, hq, i.symm.trans eq⟩

end Cert.Math

end
-- ==== Proof.lean ====
/- The certificate: every claim, and the three results of the two programs compared. -/
module

public import proofs.«01_k».proof.Defs
public import proofs.«01_k».proof.Proof.Ref.Losses
public import proofs.«01_k».proof.Proof.Ref.Run
public import proofs.«01_k».proof.Proof.Kernel.Whole
public import proofs.«01_k».proof.Proof.KernelIdeal.Value
public import proofs.«01_k».proof.Proof.Math.Pre

@[expose] public section

noncomputable section

namespace Cert.Proof

open Idealize.ShloMosaic Idealize.ShloMosaic.TcCoe Idealize.SL.Sem Idealize.ShloMosaic.StableHlo Cert.Math

/-- Two arrays of one number are equal when the numbers are. -/
theorem one_ext {x y : (⟨1, ![1]⟩ : Shape).Idx → EReal} (h : x (ix1 0) = y (ix1 0)) : x = y := by
  funext i
  have e : i = ix1 0 := funext fun d => match d with | ⟨0, _⟩ => Subsingleton.elim (α := Fin 1) _ _
  rw [e, h]

/-- From equal arguments both programs leave the same three losses. -/
theorem algebraic : @Cert.algebraic_KernelIdeal_ReferenceIdeal_pre_ids_are_classes
    Cert.KernelIdeal.Gen.facts Cert.ReferenceIdeal.Gen.facts preFacts := by
  intro m g m' g' hp hm
  have hA : ∀ c b n, Ids (Cert.KernelIdeal.Host.argA (Cert.KernelIdeal.Host.arr4 m c) b n) :=
    fun c b n => @ids_of_pre preFacts _ _ _ _ _ (hp c) b n
  have e0 : ∀ c, Cert.ReferenceIdeal.Value.arr0 (launchContents m' c) = Cert.KernelIdeal.Host.arr0 m c := fun c => (hm c).1
  have e1 : ∀ c, Cert.ReferenceIdeal.Value.arr1 (launchContents m' c) = Cert.KernelIdeal.Host.arr1 m c := fun c => (hm c).2.1
  have e2 : ∀ c, Cert.ReferenceIdeal.Value.arr2 (launchContents m' c) = Cert.KernelIdeal.Host.arr2 m c := fun c => (hm c).2.2.1
  have e3 : ∀ c, Cert.ReferenceIdeal.Value.arr3 (launchContents m' c) = Cert.KernelIdeal.Host.arr3 m c := fun c => (hm c).2.2.2.1
  have e4 : ∀ c, Cert.ReferenceIdeal.Value.arr4 (launchContents m' c) = Cert.KernelIdeal.Host.arr4 m c := fun c => (hm c).2.2.2.2
  have cls : ∀ c, (Cert.ReferenceIdeal.Value.res_main_v216 (launchContents m' c) : (⟨1, ![1]⟩ : Shape).Idx → EReal)
      = Cert.KernelIdeal.Whole.W11 m g c (Proc.devRef .tc Cert.KernelIdeal.main_v30) := fun c => one_ext <| by
    have r := Cert.ReferenceIdeal.Value.v216_at (launchContents m' c)
    unfold Cert.ReferenceIdeal.Value.P Cert.ReferenceIdeal.Value.A Cert.ReferenceIdeal.Value.X at r
    rw [e0, e2, e4] at r
    exact (r (hA c)).trans (Cert.KernelIdeal.Host.result0 m g c (hA c)).symm
  have reg : ∀ c, (Cert.ReferenceIdeal.Value.res_main_v220 (launchContents m' c) : (⟨1, ![1]⟩ : Shape).Idx → EReal)
      = Cert.KernelIdeal.Whole.W11 m g c (Proc.devRef .tc Cert.KernelIdeal.main_v42) := fun c => one_ext <| by
    have r := Cert.ReferenceIdeal.Value.v220_at (launchContents m' c)
    unfold Cert.ReferenceIdeal.Value.P Cert.ReferenceIdeal.Value.A Cert.ReferenceIdeal.Value.Q at r
    rw [e1, e2, e4] at r
    exact r.trans (Cert.KernelIdeal.Host.result1 m g c).symm
  have box : ∀ c, (Cert.ReferenceIdeal.Value.res_main_v224 (launchContents m' c) : (⟨1, ![1]⟩ : Shape).Idx → EReal)
      = Cert.KernelIdeal.Whole.W11 m g c (Proc.devRef .tc Cert.KernelIdeal.main_v46) := fun c => one_ext <| by
    have r := Cert.ReferenceIdeal.Value.v224_at (launchContents m' c)
    rw [e3] at r
    exact r.trans (Cert.KernelIdeal.Host.result2 m g c).symm
  refine ⟨_, _, _, Cert.KernelIdeal.Whole.results m g, ?_⟩
  refine (θ_run Cert.ReferenceIdeal.defs _ _).mono (fun _ h c => ?_) (Cert.ReferenceIdeal.Value.run m' g')
  exact ⟨(h c).1.trans (cls c), (h c).2.1.trans (reg c), (h c).2.2.1.trans (box c), (h c).2.2.2⟩

/-- The claims of the certificate. -/
theorem claim : Cert.Claim := ⟨Cert.Kernel.Gen.facts, Cert.KernelIdeal.Gen.facts, Cert.ReferenceIdeal.Gen.facts, preFacts,
  fun m g _ => Cert.Kernel.Whole.frame m g, fun m g _ => Cert.KernelIdeal.Whole.frame m g,
  fun m g _ => Cert.KernelIdeal.Whole.frame m g, fun m g _ => Cert.ReferenceIdeal.Value.frame m g,
  fun m g _ => Cert.ReferenceIdeal.Value.frame m g, trivial, algebraic⟩

end Cert.Proof

end
